-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_latent_tables : Cert.Pre_latent_tables.Facts] (m : (ℓ : Loc Cert.Kernel4.nD Cert.Kernel4.τ Cert.Kernel4.sig) → Buf (Elt Bits) ℓ) : Prop :=
  ∀ c : Dev Cert.Kernel4.nD,
    (Cert.Pre_latent_tables.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_latent_tables : Cert.Pre_latent_tables.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_latent_tables.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_latent_tables [hPre_latent_tables : Cert.Pre_latent_tables.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_latent_tables.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_latent_tables : Cert.Pre_latent_tables.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_latent_tables : Cert.Pre_latent_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_latent_tables [hReference4Ideal : Cert.Reference4Ideal.Facts] [hPre_latent_tables : Cert.Pre_latent_tables.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_latent_tables m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v143) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_latent_tables : Cert.Pre_latent_tables.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v143) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_tables : Cert.Pre_tables.Facts) (hPre_latent_tables : Cert.Pre_latent_tables.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_latent_tables := hPre_latent_tables)
    ∧ quiescent_Kernel4Ideal (hKernel4Ideal := hKernel4Ideal) (hPre_latent_tables := hPre_latent_tables)
    ∧ quiescent_Reference4Ideal (hReference4Ideal := hReference4Ideal)
    ∧ quiescent_Reference4Ideal_pre_latent_tables (hReference4Ideal := hReference4Ideal) (hPre_latent_tables := hPre_latent_tables)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_tables := hPre_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_latent_tables := hPre_latent_tables)
-- ==== Pre_finite_scores.lean ====
abbrev S8x2304x4x96 : Shape := ⟨4, ![8, 2304, 4, 96]⟩
abbrev S8x2304x4x64 : Shape := ⟨4, ![8, 2304, 4, 64]⟩
abbrev S_ : Shape := ⟨0, ![]⟩

class Facts : Prop where
  bcast_S_S8x2304x4x96 : S_.BroadcastsInDim S8x2304x4x96 (![] : Fin 0 → Fin S8x2304x4x96.rank)
  reducesTo_S8x2304x4x96_S_d0_1_2_3 : S8x2304x4x96.ReducesTo [0, 1, 2, 3] S_
  h_S_ : 0 < S_.numel

variable [Facts]

def fn {F : FTy → Type} [FloatOps F] (main_arg0 : FVec F S8x2304x4x96 .f32) (main_arg1 : FVec F S8x2304x4x96 .f32) (main_arg2 : FVec F S8x2304x4x64 .f32) : IVec S_ 1 :=
  let main_v0 : FVec F S8x2304x4x96 .f32 := Host.absf main_arg0
  let main_cst : FVec F S_ .f32 := constant S_ .f32 0x7F800000#32
  let main_v1 : FVec F S8x2304x4x96 .f32 := broadcastInDim S8x2304x4x96 ![] bcast_S_S8x2304x4x96 main_cst
  let main_v2 : IVec S8x2304x4x96 1 := cmpf .olt main_v0 main_v1
  let main_c : IVec S_ 1 := constantI S_ 1 1#1
  let main_v3 : IVec S_ 1 := (fun x v => Host.reduce IntOp.andi x v reducesTo_S8x2304x4x96_S_d0_1_2_3 h_S_) main_v2 main_c
  let main_v4 : FVec F S8x2304x4x96 .f32 := Host.absf main_arg1
  let main_cst_0 : FVec F S_ .f32 := constant S_ .f32 0x7F800000#32
  let main_v5 : FVec F S8x2304x4x96 .f32 := broadcastInDim S8x2304x4x96 ![] bcast_S_S8x2304x4x96 main_cst_0
  let main_v6 : IVec S8x2304x4x96 1 := cmpf .olt main_v4 main_v5
  let main_c_1 : IVec S_ 1 := constantI S_ 1 1#1
  let main_v7 : IVec S_ 1 := (fun x v => Host.reduce IntOp.andi x v reducesTo_S8x2304x4x96_S_d0_1_2_3 h_S_) main_v6 main_c_1
  let main_v8 : IVec S_ 1 := andi main_v3 main_v7
  main_v8
-- ==== Pre_latent_tables.lean ====
abbrev S40 : Shape := ⟨1, ![40]⟩
abbrev S1 : Shape := ⟨1, ![1]⟩
abbrev S40960x1024 : Shape := ⟨2, ![40960, 1024]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S40 32) (main_arg1 : IVec S1 32) (main_arg2 : FVec F S40960x1024 .f32) (main_arg3 : FVec F S2x8x1024x3584 .f32) (main_arg4 : FVec F S2x8x1024x3584 .f32) (main_arg5 : FVec F S2x8x3584x1024 .f32) : IVec S_ 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 1 := constantI S_ 1 1#1
  let main_v2 : IVec S_ 1 := (fun x v => Host.reduce IntOp.andi x v reducesTo_S40_S_d0 h_S_) main_v1 main_c_0
  let main_c_1 : IVec S_ 32 := constantI S_ 32 8#32
  let main_v3 : IVec S40 32 := broadcastInDim S40 ![] bcast_S_S40 main_c_1
  let main_v4 : IVec S40 1 := cmpi .slt main_arg0 main_v3
  let main_c_2 : IVec S_ 1 := constantI S_ 1 1#1
  let main_v5 : IVec S_ 1 := (fun x v => Host.reduce IntOp.andi x v reducesTo_S40_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Pre_tables.lean ====
abbrev S44 : Shape := ⟨1, ![44]⟩
abbrev S1 : Shape := ⟨1, ![1]⟩
abbrev S45056x1024 : Shape := ⟨2, ![45056, 1024]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S44 : S_.BroadcastsInDim S44 (![] : Fin 0 → Fin S44.rank)
  reducesTo_S44_S_d0 : S44.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S44 32) (main_arg1 : IVec S1 32) (main_arg2 : FVec F S45056x1024 .f32) (main_arg3 : FVec F S2x8x1024x3584 .f32) (main_arg4 : FVec F S2x8x1024x3584 .f32) (main_arg5 : FVec F S2x8x3584x1024 .f32) : IVec S_ 1 :=
  let main_c : IVec S_ 32 := constantI S_ 32 0#32
  let main_v0 : IVec S44 32 := broadcastInDim S44 ![] bcast_S_S44 main_c
  let main_v1 : IVec S44 1 := cmpi .sge main_arg0 main_v0
  let main_c_0 : IVec S_ 1 := constantI S_ 1 1#1
  let main_v2 : IVec S_ 1 := (fun x v => Host.reduce IntOp.andi x v reducesTo_S44_S_d0 h_S_) main_v1 main_c_0
  let main_c_1 : IVec S_ 32 := constantI S_ 32 8#32
  let main_v3 : IVec S44 32 := broadcastInDim S44 ![] bcast_S_S44 main_c_1
  let main_v4 : IVec S44 1 := cmpi .slt main_arg0 main_v3
  let main_c_2 : IVec S_ 1 := constantI S_ 1 1#1
  let main_v5 : IVec S_ 1 := (fun x v => Host.reduce IntOp.andi x v reducesTo_S44_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S8x2304x4x96 : Shape := ⟨4, ![8, 2304, 4, 96]⟩
abbrev S8x2304x4x64 : Shape := ⟨4, ![8, 2304, 4, 64]⟩
abbrev S_ : Shape := ⟨0, ![]⟩
abbrev S8x2304x4x128 : Shape := ⟨4, ![8, 2304, 4, 128]⟩
abbrev S8x2304x512 : Shape := ⟨3, ![8, 2304, 512]⟩
abbrev S8x2304x256 : Shape := ⟨3, ![8, 2304, 256]⟩
abbrev S2x256x512 : Shape := ⟨3, ![2, 256, 512]⟩
abbrev S2x2304x512 : Shape := ⟨3, ![2, 2304, 512]⟩
abbrev S2x256x256 : Shape := ⟨3, ![2, 256, 256]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S1x2304x128 : Shape := ⟨3, ![1, 2304, 128]⟩
abbrev S2304x128 : Shape := ⟨2, ![2304, 128]⟩
abbrev S256x2304 : Shape := ⟨2, ![256, 2304]⟩

abbrev nBuf : Space → Nat
  | .hbm => 26
  | .vmem => 8
  | .smem => 0
  | _ => 0

abbrev bufTy : (tb : Table) → Fin (tcTables nBuf tb) → BufTy
  | .hbm, ⟨0, _⟩ => ⟨S8x2304x4x96, .f32⟩
  | .hbm, ⟨1, _⟩ => ⟨S8x2304x4x96, .f32⟩
  | .hbm, ⟨2, _⟩ => ⟨S8x2304x4x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x2304x4x96, .f32⟩
  | .hbm, ⟨9, _⟩ => ⟨S8x2304x4x96, .f32⟩
  | .hbm, ⟨10, _⟩ => ⟨S_, .i32⟩
  | .hbm, ⟨11, _⟩ => ⟨S_, .f32⟩
  | .hbm, ⟨12, _⟩ => ⟨S8x2304x4x128, .f32⟩
  | .hbm, ⟨13, _⟩ => ⟨S8x2304x512, .f32⟩
  | .hbm, ⟨14, _⟩ => ⟨S8x2304x512, .bf16⟩
  | .hbm, ⟨15, _⟩ => ⟨S_, .i32⟩
  | .hbm, ⟨16, _⟩ => ⟨S_, .f32⟩
  | .hbm, ⟨17, _⟩ => ⟨S8x2304x4x128, .f32⟩
  | .hbm, ⟨18, _⟩ => ⟨S8x2304x512, .f32⟩
  | .hbm, ⟨19, _⟩ => ⟨S8x2304x512, .bf16⟩
  | .hbm, ⟨20, _⟩ => ⟨S_, .f32⟩
  | .hbm, ⟨21, _⟩ => ⟨S8x2304x4x64, .f32⟩
  | .hbm, ⟨22, _⟩ => ⟨S8x2304x4x128, .f32⟩
  | .hbm, ⟨23, _⟩ => ⟨S8x2304x512, .f32⟩
  | .hbm, ⟨24, _⟩ => ⟨S8x2304x512, .bf16⟩
  | .hbm, ⟨25, _⟩ => ⟨S8x2304x256, .bf16⟩
  | .local _ .vmem, ⟨0, _⟩ => ⟨S2x256x512, .bf16⟩
  | .local _ .vmem, ⟨1, _⟩ => ⟨S2x256x512, .bf16⟩
  | .local _ .vmem, ⟨2, _⟩ => ⟨S2x2304x512, .bf16⟩
  | .local _ .vmem, ⟨3, _⟩ => ⟨S2x2304x512, .bf16⟩
  | .local _ .vmem, ⟨4, _⟩ => ⟨S2x2304x512, .bf16⟩
  | .local _ .vmem, ⟨5, _⟩ => ⟨S2x2304x512, .bf16⟩
  | .local _ .vmem, ⟨6, _⟩ => ⟨S2x256x256, .bf16⟩
  | .local _ .vmem, ⟨7, _⟩ => ⟨S2x256x256, .bf16⟩
  | _, _ => ⟨S8x2304x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c256_i32_0 : BitVec 32 := 256#32
  let v5 : BitVec 1 := Scalar.cmpi .sle v4 c256_i32_0
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c256_i32_0 : BitVec 32 := 256#32
  let v5 : BitVec 1 := Scalar.cmpi .sle v4 c256_i32_0
  let v_true : BitVec 1 := 1#1
  let v8 : BitVec 1 := Scalar.xori v5 v_true
  let v9 : BitVec 32 := Scalar.extui v8
  let c0_i32_1 : BitVec 32 := 0#32
  let v10 : BitVec 1 := Scalar.cmpi .ne v9 c0_i32_1
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x2304x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2304x4x96 : Shape := ⟨4, ![8, 2304, 4, 96]⟩
abbrev S8x2304x4x64 : Shape := ⟨4, ![8, 2304, 4, 64]⟩
abbrev S_ : Shape := ⟨0, ![]⟩
abbrev S8x256x4x96 : Shape := ⟨4, ![8, 256, 4, 96]⟩
abbrev S8x256x4x64 : Shape := ⟨4, ![8, 256, 4, 64]⟩
abbrev S8x4x256x256 : Shape := ⟨4, ![8, 4, 256, 256]⟩
abbrev S8x4x256 : Shape := ⟨3, ![8, 4, 256]⟩
abbrev S8x4x256x1 : Shape := ⟨4, ![8, 4, 256, 1]⟩
abbrev S8x4x64x256 : Shape := ⟨4, ![8, 4, 64, 256]⟩
abbrev S8x256x256 : Shape := ⟨3, ![8, 256, 256]⟩
abbrev S8x2048x4x96 : Shape := ⟨4, ![8, 2048, 4, 96]⟩
abbrev S8x4x2048x2304 : Shape := ⟨4, ![8, 4, 2048, 2304]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩
abbrev S8x2048x4x64 : Shape := ⟨4, ![8, 2048, 4, 64]⟩
abbrev S8x2048x256 : Shape := ⟨3, ![8, 2048, 256]⟩
abbrev S8x2304x256 : Shape := ⟨3, ![8, 2304, 256]⟩

abbrev nBuf : Space → Nat
  | .hbm => 51
  | .vmem => 0
  | .smem => 0
  | _ => 0

abbrev bufTy : (tb : Table) → Fin (tcTables nBuf tb) → BufTy
  | .hbm, ⟨0, _⟩ => ⟨S8x2304x4x96, .f32⟩
  | .hbm, ⟨1, _⟩ => ⟨S8x2304x4x96, .f32⟩
  | .hbm, ⟨2, _⟩ => ⟨S8x2304x4x64, .f32⟩
  | .hbm, ⟨3, _⟩ => ⟨S_, .f32⟩
  | .hbm, ⟨4, _⟩ => ⟨S_, .f32⟩
  | .hbm, ⟨5, _⟩ => ⟨S8x256x4x96, .f32⟩
  | .hbm, ⟨6, _⟩ => ⟨S8x256x4x96, .f32⟩
  | .hbm, ⟨7, _⟩ => ⟨S8x256x4x64, .f32⟩
  | .hbm, ⟨8, _⟩ => ⟨S8x4x256x256, .f32⟩
  | .hbm, ⟨9, _⟩ => ⟨S8x4x256x256, .f32⟩
  | .hbm, ⟨10, _⟩ => ⟨S8x4x256x256, .f32⟩
  | .hbm, ⟨11, _⟩ => ⟨S_, .f32⟩
  | .hbm, ⟨12, _⟩ => ⟨S8x4x256, .f32⟩
  | .hbm, ⟨13, _⟩ => ⟨S_, .f32⟩
  | .hbm, ⟨14, _⟩ => ⟨S8x4x256, .f32⟩
  | .hbm, ⟨15, _⟩ => ⟨S8x4x256, .f32⟩
  | .hbm, ⟨16, _⟩ => ⟨S8x4x256x1, .f32⟩
  | .hbm, ⟨17, _⟩ => ⟨S8x4x256x256, .f32⟩
  | .hbm, ⟨18, _⟩ => ⟨S8x4x256x256, .f32⟩
  | .hbm, ⟨19, _⟩ => ⟨S8x4x256x256, .f32⟩
  | .hbm, ⟨20, _⟩ => ⟨S_, .f32⟩
  | .hbm, ⟨21, _⟩ => ⟨S8x4x256, .f32⟩
  | .hbm, ⟨22, _⟩ => ⟨S8x4x256x1, .f32⟩
  | .hbm, ⟨23, _⟩ => ⟨S8x4x256x256, .f32⟩
  | .hbm, ⟨24, _⟩ => ⟨S8x4x256x256, .f32⟩
  | .hbm, ⟨25, _⟩ => ⟨S8x4x64x256, .f32⟩
  | .hbm, ⟨26, _⟩ => ⟨S8x256x4x64, .f32⟩
  | .hbm, ⟨27, _⟩ => ⟨S8x256x256, .f32⟩
  | .hbm, ⟨28, _⟩ => ⟨S8x2048x4x96, .f32⟩
  | .hbm, ⟨29, _⟩ => ⟨S8x4x2048x2304, .f32⟩
  | .hbm, ⟨30, _⟩ => ⟨S8x4x2048x2304, .f32⟩
  | .hbm, ⟨31, _⟩ => ⟨S8x4x2048x2304, .f32⟩
  | .hbm, ⟨32, _⟩ => ⟨S_, .f32⟩
  | .hbm, ⟨33, _⟩ => ⟨S8x4x2048, .f32⟩
  | .hbm, ⟨34, _⟩ => ⟨S_, .f32⟩
  | .hbm, ⟨35, _⟩ => ⟨S8x4x2048, .f32⟩
  | .hbm, ⟨36, _⟩ => ⟨S8x4x2048, .f32⟩
  | .hbm, ⟨37, _⟩ => ⟨S8x4x2048x1, .f32⟩
  | .hbm, ⟨38, _⟩ => ⟨S8x4x2048x2304, .f32⟩
  | .hbm, ⟨39, _⟩ => ⟨S8x4x2048x2304, .f32⟩
  | .hbm, ⟨40, _⟩ => ⟨S8x4x2048x2304, .f32⟩
  | .hbm, ⟨41, _⟩ => ⟨S_, .f32⟩
  | .hbm, ⟨42, _⟩ => ⟨S8x4x2048, .f32⟩
  | .hbm, ⟨43, _⟩ => ⟨S8x4x2048x1, .f32⟩
  | .hbm, ⟨44, _⟩ => ⟨S8x4x2048x2304, .f32⟩
  | .hbm, ⟨45, _⟩ => ⟨S8x4x2048x2304, .f32⟩
  | .hbm, ⟨46, _⟩ => ⟨S8x4x64x2048, .f32⟩
  | .hbm, ⟨47, _⟩ => ⟨S8x2048x4x64, .f32⟩
  | .hbm, ⟨48, _⟩ => ⟨S8x2048x256, .f32⟩
  | .hbm, ⟨49, _⟩ => ⟨S8x2304x256, .f32⟩
  | .hbm, ⟨50, _⟩ => ⟨S8x2304x256, .bf16⟩
  | _, _ => ⟨S8x2304x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel2.lean ====
abbrev S44 : Shape := ⟨1, ![44]⟩
abbrev S1 : Shape := ⟨1, ![1]⟩
abbrev S45056x1024 : Shape := ⟨2, ![45056, 1024]⟩
abbrev S2x8x1024x3584 : Shape := ⟨4, ![2, 8, 1024, 3584]⟩
abbrev S2x8x3584x1024 : Shape := ⟨4, ![2, 8, 3584, 1024]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S45056x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S45056x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S44, .i32⟩
  | .local _ .smem, ⟨1, _⟩ => ⟨S1, .i32⟩
  | _, _ => ⟨S45056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![44, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S44.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_2 (k0_off1_inb : ∀ i : grid0.Coords, ∀ a, (k0_off1 i) a + S1.size a ≤ S44.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, c0_i32_0.toNat, v4.toNat]

def cc0_transform_3 (k0_off1_inb : ∀ i : grid0.Coords, ∀ a, (k0_off1 i) a + S1.size a ≤ S44.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S44) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  let c0_i32_1 : BitVec 32 := 0#32
  ![c0_i32.toNat, v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S44 : Shape := ⟨1, ![44]⟩
abbrev S1 : Shape := ⟨1, ![1]⟩
abbrev S45056x1024 : Shape := ⟨2, ![45056, 1024]⟩
abbrev S2x8x1024x3584 : Shape := ⟨4, ![2, 8, 1024, 3584]⟩
abbrev S2x8x3584x1024 : Shape := ⟨4, ![2, 8, 3584, 1024]⟩
abbrev S44x1 : Shape := ⟨2, ![44, 1]⟩
abbrev S44x1024 : Shape := ⟨2, ![44, 1024]⟩
abbrev S45056x1 : Shape := ⟨2, ![45056, 1]⟩
abbrev S8 : Shape := ⟨1, ![8]⟩
abbrev S1x8 : Shape := ⟨2, ![1, 8]⟩
abbrev S45056x8 : Shape := ⟨2, ![45056, 8]⟩
abbrev S1x8x1024x3584 : Shape := ⟨4, ![1, 8, 1024, 3584]⟩
abbrev S8x1024x3584 : Shape := ⟨3, ![8, 1024, 3584]⟩
abbrev S1x8x3584x1024 : Shape := ⟨4, ![1, 8, 3584, 1024]⟩
abbrev S8x3584x1024 : Shape := ⟨3, ![8, 3584, 1024]⟩
abbrev S_ : Shape := ⟨0, ![]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S45056x3584 : Shape := ⟨2, ![45056, 3584]⟩

abbrev nBuf : Space → Nat
  | .hbm => 215
  | .vmem => 0
  | .smem => 0
  | _ => 0

abbrev hbmTy0_0 (i : Nat) : BufTy := match i % 128 with
  | 0 => ⟨S44, .i32⟩
  | 1 => ⟨S1, .i32⟩
  | 2 => ⟨S45056x1024, .f32⟩
  | 3 => ⟨S2x8x1024x3584, .f32⟩
  | 4 => ⟨S2x8x1024x3584, .f32⟩
  | 5 => ⟨S2x8x3584x1024, .f32⟩
  | 6 => ⟨S44, .i32⟩
  | 7 => ⟨S44, .i32⟩
  | 8 => ⟨S44, .i1⟩
  | 9 => ⟨S44x1, .i1⟩
  | 10 => ⟨S44x1024, .i1⟩
  | 11 => ⟨S45056x1, .i1⟩
  | 12 => ⟨S44x1, .i32⟩
  | 13 => ⟨S44x1024, .i32⟩
  | 14 => ⟨S45056x1, .i32⟩
  | 15 => ⟨S8, .i32⟩
  | 16 => ⟨S1x8, .i32⟩
  | 17 => ⟨S45056x8, .i32⟩
  | 18 => ⟨S45056x8, .i32⟩
  | 19 => ⟨S45056x8, .i1⟩
  | 20 => ⟨S45056x8, .i1⟩
  | 21 => ⟨S45056x8, .i1⟩
  | 22 => ⟨S45056x8, .f32⟩
  | 23 => ⟨S1x8x1024x3584, .f32⟩
  | 24 => ⟨S8x1024x3584, .f32⟩
  | 25 => ⟨S1x8x1024x3584, .f32⟩
  | 26 => ⟨S8x1024x3584, .f32⟩
  | 27 => ⟨S1x8x3584x1024, .f32⟩
  | 28 => ⟨S8x3584x1024, .f32⟩
  | 29 => ⟨S_, .f32⟩
  | 30 => ⟨S45056x1024, .f32⟩
  | 31 => ⟨S45056x1, .f32⟩
  | 32 => ⟨S1x1024x3584, .f32⟩
  | 33 => ⟨S1024x3584, .f32⟩
  | 34 => ⟨S1x1024x3584, .f32⟩
  | 35 => ⟨S1024x3584, .f32⟩
  | 36 => ⟨S1x3584x1024, .f32⟩
  | 37 => ⟨S3584x1024, .f32⟩
  | 38 => ⟨S45056x3584, .f32⟩
  | 39 => ⟨S45056x3584, .f32⟩
  | 40 => ⟨S45056x3584, .f32⟩
  | 41 => ⟨S_, .f32⟩
  | 42 => ⟨S45056x3584, .f32⟩
  | 43 => ⟨S45056x3584, .f32⟩
  | 44 => ⟨S_, .f32⟩
  | 45 => ⟨S45056x3584, .f32⟩
  | 46 => ⟨S45056x3584, .f32⟩
  | 47 => ⟨S45056x3584, .f32⟩
  | 48 => ⟨S45056x3584, .f32⟩
  | 49 => ⟨S45056x3584, .f32⟩
  | 50 => ⟨S45056x1024, .f32⟩
  | 51 => ⟨S45056x1024, .f32⟩
  | 52 => ⟨S45056x1024, .f32⟩
  | 53 => ⟨S45056x1024, .f32⟩
  | 54 => ⟨S45056x1, .f32⟩
  | 55 => ⟨S1x1024x3584, .f32⟩
  | 56 => ⟨S1024x3584, .f32⟩
  | 57 => ⟨S1x1024x3584, .f32⟩
  | 58 => ⟨S1024x3584, .f32⟩
  | 59 => ⟨S1x3584x1024, .f32⟩
  | 60 => ⟨S3584x1024, .f32⟩
  | 61 => ⟨S45056x3584, .f32⟩
  | 62 => ⟨S45056x3584, .f32⟩
  | 63 => ⟨S45056x3584, .f32⟩
  | 64 => ⟨S_, .f32⟩
  | 65 => ⟨S45056x3584, .f32⟩
  | 66 => ⟨S45056x3584, .f32⟩
  | 67 => ⟨S_, .f32⟩
  | 68 => ⟨S45056x3584, .f32⟩
  | 69 => ⟨S45056x3584, .f32⟩
  | 70 => ⟨S45056x3584, .f32⟩
  | 71 => ⟨S45056x3584, .f32⟩
  | 72 => ⟨S45056x3584, .f32⟩
  | 73 => ⟨S45056x1024, .f32⟩
  | 74 => ⟨S45056x1024, .f32⟩
  | 75 => ⟨S45056x1024, .f32⟩
  | 76 => ⟨S45056x1024, .f32⟩
  | 77 => ⟨S45056x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S45056x3584, .f32⟩
  | 85 => ⟨S45056x3584, .f32⟩
  | 86 => ⟨S45056x3584, .f32⟩
  | 87 => ⟨S_, .f32⟩
  | 88 => ⟨S45056x3584, .f32⟩
  | 89 => ⟨S45056x3584, .f32⟩
  | 90 => ⟨S_, .f32⟩
  | 91 => ⟨S45056x3584, .f32⟩
  | 92 => ⟨S45056x3584, .f32⟩
  | 93 => ⟨S45056x3584, .f32⟩
  | 94 => ⟨S45056x3584, .f32⟩
  | 95 => ⟨S45056x3584, .f32⟩
  | 96 => ⟨S45056x1024, .f32⟩
  | 97 => ⟨S45056x1024, .f32⟩
  | 98 => ⟨S45056x1024, .f32⟩
  | 99 => ⟨S45056x1024, .f32⟩
  | 100 => ⟨S45056x1, .f32⟩
  | 101 => ⟨S1x1024x3584, .f32⟩
  | 102 => ⟨S1024x3584, .f32⟩
  | 103 => ⟨S1x1024x3584, .f32⟩
  | 104 => ⟨S1024x3584, .f32⟩
  | 105 => ⟨S1x3584x1024, .f32⟩
  | 106 => ⟨S3584x1024, .f32⟩
  | 107 => ⟨S45056x3584, .f32⟩
  | 108 => ⟨S45056x3584, .f32⟩
  | 109 => ⟨S45056x3584, .f32⟩
  | 110 => ⟨S_, .f32⟩
  | 111 => ⟨S45056x3584, .f32⟩
  | 112 => ⟨S45056x3584, .f32⟩
  | 113 => ⟨S_, .f32⟩
  | 114 => ⟨S45056x3584, .f32⟩
  | 115 => ⟨S45056x3584, .f32⟩
  | 116 => ⟨S45056x3584, .f32⟩
  | 117 => ⟨S45056x3584, .f32⟩
  | 118 => ⟨S45056x3584, .f32⟩
  | 119 => ⟨S45056x1024, .f32⟩
  | 120 => ⟨S45056x1024, .f32⟩
  | 121 => ⟨S45056x1024, .f32⟩
  | 122 => ⟨S45056x1024, .f32⟩
  | 123 => ⟨S45056x1, .f32⟩
  | 124 => ⟨S1x1024x3584, .f32⟩
  | 125 => ⟨S1024x3584, .f32⟩
  | 126 => ⟨S1x1024x3584, .f32⟩
  | 127 => ⟨S1024x3584, .f32⟩
  | _ => ⟨S44, .i32⟩

abbrev hbmTy0_1 (i : Nat) : BufTy := match i % 128 with
  | 0 => ⟨S1x3584x1024, .f32⟩
  | 1 => ⟨S3584x1024, .f32⟩
  | 2 => ⟨S45056x3584, .f32⟩
  | 3 => ⟨S45056x3584, .f32⟩
  | 4 => ⟨S45056x3584, .f32⟩
  | 5 => ⟨S_, .f32⟩
  | 6 => ⟨S45056x3584, .f32⟩
  | 7 => ⟨S45056x3584, .f32⟩
  | 8 => ⟨S_, .f32⟩
  | 9 => ⟨S45056x3584, .f32⟩
  | 10 => ⟨S45056x3584, .f32⟩
  | 11 => ⟨S45056x3584, .f32⟩
  | 12 => ⟨S45056x3584, .f32⟩
  | 13 => ⟨S45056x3584, .f32⟩
  | 14 => ⟨S45056x1024, .f32⟩
  | 15 => ⟨S45056x1024, .f32⟩
  | 16 => ⟨S45056x1024, .f32⟩
  | 17 => ⟨S45056x1024, .f32⟩
  | 18 => ⟨S45056x1, .f32⟩
  | 19 => ⟨S1x1024x3584, .f32⟩
  | 20 => ⟨S1024x3584, .f32⟩
  | 21 => ⟨S1x1024x3584, .f32⟩
  | 22 => ⟨S1024x3584, .f32⟩
  | 23 => ⟨S1x3584x1024, .f32⟩
  | 24 => ⟨S3584x1024, .f32⟩
  | 25 => ⟨S45056x3584, .f32⟩
  | 26 => ⟨S45056x3584, .f32⟩
  | 27 => ⟨S45056x3584, .f32⟩
  | 28 => ⟨S_, .f32⟩
  | 29 => ⟨S45056x3584, .f32⟩
  | 30 => ⟨S45056x3584, .f32⟩
  | 31 => ⟨S_, .f32⟩
  | 32 => ⟨S45056x3584, .f32⟩
  | 33 => ⟨S45056x3584, .f32⟩
  | 34 => ⟨S45056x3584, .f32⟩
  | 35 => ⟨S45056x3584, .f32⟩
  | 36 => ⟨S45056x3584, .f32⟩
  | 37 => ⟨S45056x1024, .f32⟩
  | 38 => ⟨S45056x1024, .f32⟩
  | 39 => ⟨S45056x1024, .f32⟩
  | 40 => ⟨S45056x1024, .f32⟩
  | 41 => ⟨S45056x1, .f32⟩
  | 42 => ⟨S1x1024x3584, .f32⟩
  | 43 => ⟨S1024x3584, .f32⟩
  | 44 => ⟨S1x1024x3584, .f32⟩
  | 45 => ⟨S1024x3584, .f32⟩
  | 46 => ⟨S1x3584x1024, .f32⟩
  | 47 => ⟨S3584x1024, .f32⟩
  | 48 => ⟨S45056x3584, .f32⟩
  | 49 => ⟨S45056x3584, .f32⟩
  | 50 => ⟨S45056x3584, .f32⟩
  | 51 => ⟨S_, .f32⟩
  | 52 => ⟨S45056x3584, .f32⟩
  | 53 => ⟨S45056x3584, .f32⟩
  | 54 => ⟨S_, .f32⟩
  | 55 => ⟨S45056x3584, .f32⟩
  | 56 => ⟨S45056x3584, .f32⟩
  | 57 => ⟨S45056x3584, .f32⟩
  | 58 => ⟨S45056x3584, .f32⟩
  | 59 => ⟨S45056x3584, .f32⟩
  | 60 => ⟨S45056x1024, .f32⟩
  | 61 => ⟨S45056x1024, .f32⟩
  | 62 => ⟨S45056x1024, .f32⟩
  | 63 => ⟨S45056x1024, .f32⟩
  | 64 => ⟨S45056x1, .f32⟩
  | 65 => ⟨S1x1024x3584, .f32⟩
  | 66 => ⟨S1024x3584, .f32⟩
  | 67 => ⟨S1x1024x3584, .f32⟩
  | 68 => ⟨S1024x3584, .f32⟩
  | 69 => ⟨S1x3584x1024, .f32⟩
  | 70 => ⟨S3584x1024, .f32⟩
  | 71 => ⟨S45056x3584, .f32⟩
  | 72 => ⟨S45056x3584, .f32⟩
  | 73 => ⟨S45056x3584, .f32⟩
  | 74 => ⟨S_, .f32⟩
  | 75 => ⟨S45056x3584, .f32⟩
  | 76 => ⟨S45056x3584, .f32⟩
  | 77 => ⟨S_, .f32⟩
  | 78 => ⟨S45056x3584, .f32⟩
  | 79 => ⟨S45056x3584, .f32⟩
  | 80 => ⟨S45056x3584, .f32⟩
  | 81 => ⟨S45056x3584, .f32⟩
  | 82 => ⟨S45056x3584, .f32⟩
  | 83 => ⟨S45056x1024, .f32⟩
  | 84 => ⟨S45056x1024, .f32⟩
  | 85 => ⟨S45056x1024, .f32⟩
  | 86 => ⟨S45056x1024, .f32⟩
  | _ => ⟨S44, .i32⟩

abbrev hbmTy (i : Nat) : BufTy := match i / 128 with
  | 0 => hbmTy0_0 i
  | 1 => hbmTy0_1 i
  | _ => ⟨S44, .i32⟩

abbrev bufTy : (tb : Table) → Fin (tcTables nBuf tb) → BufTy
  | .hbm, ⟨i, _⟩ => hbmTy i
  | _, _ => ⟨S44, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_call7_v0 : Ref sig .tc := ⟨.hbm, 200, rfl⟩
abbrev main_call7_v1 : Ref sig .tc := ⟨.hbm, 201, rfl⟩
abbrev main_call7_cst : Ref sig .tc := ⟨.hbm, 202, rfl⟩
abbrev main_call7_v2 : Ref sig .tc := ⟨.hbm, 203, rfl⟩
abbrev main_call7_v3 : Ref sig .tc := ⟨.hbm, 204, rfl⟩
abbrev main_call7_cst_0 : Ref sig .tc := ⟨.hbm, 205, rfl⟩
abbrev main_call7_v4 : Ref sig .tc := ⟨.hbm, 206, rfl⟩
abbrev main_call7_v5 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩

abbrev nD : Nat := 1
abbrev τ : Topo := Topo.v7x

variable {F : FTy → Type} [FloatOps F]
-- ==== Kernel3.lean ====
abbrev S8x2304x1024 : Shape := ⟨3, ![8, 2304, 1024]⟩
abbrev S8x6144 : Shape := ⟨2, ![8, 6144]⟩
abbrev S6144 : Shape := ⟨1, ![6144]⟩
abbrev S1024 : Shape := ⟨1, ![1024]⟩
abbrev S2x1024x2816 : Shape := ⟨3, ![2, 1024, 2816]⟩
abbrev S2x2816x1024 : Shape := ⟨3, ![2, 2816, 1024]⟩
abbrev S1x6144 : Shape := ⟨2, ![1, 6144]⟩
abbrev S9x6144 : Shape := ⟨2, ![9, 6144]⟩
abbrev S9x6x1024 : Shape := ⟨3, ![9, 6, 1024]⟩
abbrev S1x6x1024 : Shape := ⟨3, ![1, 6, 1024]⟩
abbrev S6x1024 : Shape := ⟨2, ![6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S_ : Shape := ⟨0, ![]⟩
abbrev S8x2x8x1024 : Shape := ⟨4, ![8, 2, 8, 1024]⟩
abbrev S1x1024 : Shape := ⟨2, ![1, 1024]⟩
abbrev S1x1152x1024 : Shape := ⟨3, ![1, 1152, 1024]⟩
abbrev S1x2x8x1024 : Shape := ⟨4, ![1, 2, 8, 1024]⟩
abbrev S1x1024x1408 : Shape := ⟨3, ![1, 1024, 1408]⟩
abbrev S1x1408x1024 : Shape := ⟨3, ![1, 1408, 1024]⟩
abbrev S1152x1024 : Shape := ⟨2, ![1152, 1024]⟩
abbrev S1152x1 : Shape := ⟨2, ![1152, 1]⟩
abbrev S1x1x1x1024 : Shape := ⟨4, ![1, 1, 1, 1024]⟩
abbrev S1152 : Shape := ⟨1, ![1152]⟩
abbrev S1024x1408 : Shape := ⟨2, ![1024, 1408]⟩
abbrev S1152x1408 : Shape := ⟨2, ![1152, 1408]⟩
abbrev S1408x1024 : Shape := ⟨2, ![1408, 1024]⟩

abbrev nBuf : Space → Nat
  | .hbm => 25
  | .vmem => 14
  | .smem => 0
  | _ => 0

abbrev bufTy : (tb : Table) → Fin (tcTables nBuf tb) → BufTy
  | .hbm, ⟨0, _⟩ => ⟨S8x2304x1024, .f32⟩
  | .hbm, ⟨1, _⟩ => ⟨S8x6144, .f32⟩
  | .hbm, ⟨2, _⟩ => ⟨S6144, .f32⟩
  | .hbm, ⟨3, _⟩ => ⟨S1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S1x6144, .f32⟩
  | .hbm, ⟨8, _⟩ => ⟨S9x6144, .f32⟩
  | .hbm, ⟨9, _⟩ => ⟨S9x6x1024, .f32⟩
  | .hbm, ⟨10, _⟩ => ⟨S1x6x1024, .f32⟩
  | .hbm, ⟨11, _⟩ => ⟨S6x1024, .f32⟩
  | .hbm, ⟨12, _⟩ => ⟨S8x6x1024, .f32⟩
  | .hbm, ⟨13, _⟩ => ⟨S8x6x1024, .f32⟩
  | .hbm, ⟨14, _⟩ => ⟨S8x1x6x1024, .f32⟩
  | .hbm, ⟨15, _⟩ => ⟨S8x1x6x1024, .f32⟩
  | .hbm, ⟨16, _⟩ => ⟨S8x2x6x1024, .f32⟩
  | .hbm, ⟨17, _⟩ => ⟨S_, .i32⟩
  | .hbm, ⟨18, _⟩ => ⟨S_, .f32⟩
  | .hbm, ⟨19, _⟩ => ⟨S8x2x8x1024, .f32⟩
  | .hbm, ⟨20, _⟩ => ⟨S2x1024x2816, .bf16⟩
  | .hbm, ⟨21, _⟩ => ⟨S2x1024x2816, .bf16⟩
  | .hbm, ⟨22, _⟩ => ⟨S2x2816x1024, .bf16⟩
  | .hbm, ⟨23, _⟩ => ⟨S1x1024, .f32⟩
  | .hbm, ⟨24, _⟩ => ⟨S8x2304x1024, .f32⟩
  | .local _ .vmem, ⟨0, _⟩ => ⟨S1x1152x1024, .f32⟩
  | .local _ .vmem, ⟨1, _⟩ => ⟨S1x1152x1024, .f32⟩
  | .local _ .vmem, ⟨2, _⟩ => ⟨S1x2x8x1024, .f32⟩
  | .local _ .vmem, ⟨3, _⟩ => ⟨S1x2x8x1024, .f32⟩
  | .local _ .vmem, ⟨4, _⟩ => ⟨S1x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1408x1024, .bf16⟩
  | .local _ .vmem, ⟨10, _⟩ => ⟨S1x1408x1024, .bf16⟩
  | .local _ .vmem, ⟨11, _⟩ => ⟨S1x1152x1024, .f32⟩
  | .local _ .vmem, ⟨12, _⟩ => ⟨S1x1152x1024, .f32⟩
  | .local _ .vmem, ⟨13, _⟩ => ⟨S1152x1024, .bf16⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1152x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1152x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference3Ideal.lean ====
abbrev S8x2304x1024 : Shape := ⟨3, ![8, 2304, 1024]⟩
abbrev S8x6144 : Shape := ⟨2, ![8, 6144]⟩
abbrev S6144 : Shape := ⟨1, ![6144]⟩
abbrev S1024 : Shape := ⟨1, ![1024]⟩
abbrev S2x1024x2816 : Shape := ⟨3, ![2, 1024, 2816]⟩
abbrev S2x2816x1024 : Shape := ⟨3, ![2, 2816, 1024]⟩
abbrev S8x1x6144 : Shape := ⟨3, ![8, 1, 6144]⟩
abbrev S8x1x1024 : Shape := ⟨3, ![8, 1, 1024]⟩
abbrev S8x256x1024 : Shape := ⟨3, ![8, 256, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S1x2816x1024 : Shape := ⟨3, ![1, 2816, 1024]⟩
abbrev S2816x1024 : Shape := ⟨2, ![2816, 1024]⟩
abbrev S8x256 : Shape := ⟨2, ![8, 256]⟩
abbrev S8x256x1 : Shape := ⟨3, ![8, 256, 1]⟩
abbrev S8x256x2816 : Shape := ⟨3, ![8, 256, 2816]⟩

abbrev nBuf : Space → Nat
  | .hbm => 116
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x6144, .f32⟩
  | .hbm, ⟨2, _⟩ => ⟨S6144, .f32⟩
  | .hbm, ⟨3, _⟩ => ⟨S1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S8x256x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S1x1024x2816, .f32⟩
  | .hbm, ⟨46, _⟩ => ⟨S1024x2816, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S_, .f32⟩
  | .hbm, ⟨51, _⟩ => ⟨S8x2048x2816, .f32⟩
  | .hbm, ⟨52, _⟩ => ⟨S8x2048x2816, .f32⟩
  | .hbm, ⟨53, _⟩ => ⟨S_, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S1x1024x2816, .f32⟩
  | .hbm, ⟨58, _⟩ => ⟨S1024x2816, .f32⟩
  | .hbm, ⟨59, _⟩ => ⟨S8x2048x2816, .f32⟩
  | .hbm, ⟨60, _⟩ => ⟨S8x2048x2816, .f32⟩
  | .hbm, ⟨61, _⟩ => ⟨S1x2816x1024, .f32⟩
  | .hbm, ⟨62, _⟩ => ⟨S2816x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S8x256x1024, .f32⟩
  | .hbm, ⟨68, _⟩ => ⟨S_, .f32⟩
  | .hbm, ⟨69, _⟩ => ⟨S8x256, .f32⟩
  | .hbm, ⟨70, _⟩ => ⟨S8x256x1, .f32⟩
  | .hbm, ⟨71, _⟩ => ⟨S_, .f32⟩
  | .hbm, ⟨72, _⟩ => ⟨S8x256x1, .f32⟩
  | .hbm, ⟨73, _⟩ => ⟨S8x256x1, .f32⟩
  | .hbm, ⟨74, _⟩ => ⟨S_, .f32⟩
  | .hbm, ⟨75, _⟩ => ⟨S8x256x1, .f32⟩
  | .hbm, ⟨76, _⟩ => ⟨S8x256x1, .f32⟩
  | .hbm, ⟨77, _⟩ => ⟨S8x256x1, .f32⟩
  | .hbm, ⟨78, _⟩ => ⟨S8x256x1024, .f32⟩
  | .hbm, ⟨79, _⟩ => ⟨S8x256x1024, .f32⟩
  | .hbm, ⟨80, _⟩ => ⟨S1x1x1024, .f32⟩
  | .hbm, ⟨81, _⟩ => ⟨S8x256x1024, .f32⟩
  | .hbm, ⟨82, _⟩ => ⟨S8x256x1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1x1x1024, .f32⟩
  | .hbm, ⟨87, _⟩ => ⟨S8x256x1024, .f32⟩
  | .hbm, ⟨88, _⟩ => ⟨S8x256x1024, .f32⟩
  | .hbm, ⟨89, _⟩ => ⟨S1x1x1024, .f32⟩
  | .hbm, ⟨90, _⟩ => ⟨S8x256x1024, .f32⟩
  | .hbm, ⟨91, _⟩ => ⟨S8x256x1024, .f32⟩
  | .hbm, ⟨92, _⟩ => ⟨S1x1024x2816, .f32⟩
  | .hbm, ⟨93, _⟩ => ⟨S1024x2816, .f32⟩
  | .hbm, ⟨94, _⟩ => ⟨S8x256x2816, .f32⟩
  | .hbm, ⟨95, _⟩ => ⟨S8x256x2816, .f32⟩
  | .hbm, ⟨96, _⟩ => ⟨S8x256x2816, .f32⟩
  | .hbm, ⟨97, _⟩ => ⟨S_, .f32⟩
  | .hbm, ⟨98, _⟩ => ⟨S8x256x2816, .f32⟩
  | .hbm, ⟨99, _⟩ => ⟨S8x256x2816, .f32⟩
  | .hbm, ⟨100, _⟩ => ⟨S_, .f32⟩
  | .hbm, ⟨101, _⟩ => ⟨S8x256x2816, .f32⟩
  | .hbm, ⟨102, _⟩ => ⟨S8x256x2816, .f32⟩
  | .hbm, ⟨103, _⟩ => ⟨S8x256x2816, .f32⟩
  | .hbm, ⟨104, _⟩ => ⟨S1x1024x2816, .f32⟩
  | .hbm, ⟨105, _⟩ => ⟨S1024x2816, .f32⟩
  | .hbm, ⟨106, _⟩ => ⟨S8x256x2816, .f32⟩
  | .hbm, ⟨107, _⟩ => ⟨S8x256x2816, .f32⟩
  | .hbm, ⟨108, _⟩ => ⟨S1x2816x1024, .f32⟩
  | .hbm, ⟨109, _⟩ => ⟨S2816x1024, .f32⟩
  | .hbm, ⟨110, _⟩ => ⟨S8x256x1024, .f32⟩
  | .hbm, ⟨111, _⟩ => ⟨S1x1x1024, .f32⟩
  | .hbm, ⟨112, _⟩ => ⟨S8x256x1024, .f32⟩
  | .hbm, ⟨113, _⟩ => ⟨S8x256x1024, .f32⟩
  | .hbm, ⟨114, _⟩ => ⟨S8x256x1024, .f32⟩
  | .hbm, ⟨115, _⟩ => ⟨S8x2304x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_cst_4 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== Kernel4.lean ====
abbrev S40 : Shape := ⟨1, ![40]⟩
abbrev S1 : Shape := ⟨1, ![1]⟩
abbrev S40960x1024 : Shape := ⟨2, ![40960, 1024]⟩
abbrev S2x8x1024x3584 : Shape := ⟨4, ![2, 8, 1024, 3584]⟩
abbrev S2x8x3584x1024 : Shape := ⟨4, ![2, 8, 3584, 1024]⟩
abbrev S1024x1024 : Shape := ⟨2, ![1024, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S40960x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c1_i32 : BitVec 32 := 1#32
  let c0_i32 : BitVec 32 := 0#32
  let c0_i32_0 : BitVec 32 := 0#32
  ![c1_i32.toNat, v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c1_i32 : BitVec 32 := 1#32
  let c0_i32 : BitVec 32 := 0#32
  let c0_i32_0 : BitVec 32 := 0#32
  ![c1_i32.toNat, v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c1_i32 : BitVec 32 := 1#32
  let c0_i32 : BitVec 32 := 0#32
  let c0_i32_0 : BitVec 32 := 0#32
  ![c1_i32.toNat, v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S40 : Shape := ⟨1, ![40]⟩
abbrev S1 : Shape := ⟨1, ![1]⟩
abbrev S40960x1024 : Shape := ⟨2, ![40960, 1024]⟩
abbrev S2x8x1024x3584 : Shape := ⟨4, ![2, 8, 1024, 3584]⟩
abbrev S2x8x3584x1024 : Shape := ⟨4, ![2, 8, 3584, 1024]⟩
abbrev S40x1 : Shape := ⟨2, ![40, 1]⟩
abbrev S40x1024 : Shape := ⟨2, ![40, 1024]⟩
abbrev S40960x1 : Shape := ⟨2, ![40960, 1]⟩
abbrev S8 : Shape := ⟨1, ![8]⟩
abbrev S1x8 : Shape := ⟨2, ![1, 8]⟩
abbrev S40960x8 : Shape := ⟨2, ![40960, 8]⟩
abbrev S1x8x1024x3584 : Shape := ⟨4, ![1, 8, 1024, 3584]⟩
abbrev S8x1024x3584 : Shape := ⟨3, ![8, 1024, 3584]⟩
abbrev S1x8x3584x1024 : Shape := ⟨4, ![1, 8, 3584, 1024]⟩
abbrev S8x3584x1024 : Shape := ⟨3, ![8, 3584, 1024]⟩
abbrev S_ : Shape := ⟨0, ![]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S40960x3584 : Shape := ⟨2, ![40960, 3584]⟩

abbrev nBuf : Space → Nat
  | .hbm => 215
  | .vmem => 0
  | .smem => 0
  | _ => 0

abbrev hbmTy0_0 (i : Nat) : BufTy := match i % 128 with
  | 0 => ⟨S40, .i32⟩
  | 1 => ⟨S1, .i32⟩
  | 2 => ⟨S40960x1024, .f32⟩
  | 3 => ⟨S2x8x1024x3584, .f32⟩
  | 4 => ⟨S2x8x1024x3584, .f32⟩
  | 5 => ⟨S2x8x3584x1024, .f32⟩
  | 6 => ⟨S40, .i32⟩
  | 7 => ⟨S40, .i32⟩
  | 8 => ⟨S40, .i1⟩
  | 9 => ⟨S40x1, .i1⟩
  | 10 => ⟨S40x1024, .i1⟩
  | 11 => ⟨S40960x1, .i1⟩
  | 12 => ⟨S40x1, .i32⟩
  | 13 => ⟨S40x1024, .i32⟩
  | 14 => ⟨S40960x1, .i32⟩
  | 15 => ⟨S8, .i32⟩
  | 16 => ⟨S1x8, .i32⟩
  | 17 => ⟨S40960x8, .i32⟩
  | 18 => ⟨S40960x8, .i32⟩
  | 19 => ⟨S40960x8, .i1⟩
  | 20 => ⟨S40960x8, .i1⟩
  | 21 => ⟨S40960x8, .i1⟩
  | 22 => ⟨S40960x8, .f32⟩
  | 23 => ⟨S1x8x1024x3584, .f32⟩
  | 24 => ⟨S8x1024x3584, .f32⟩
  | 25 => ⟨S1x8x1024x3584, .f32⟩
  | 26 => ⟨S8x1024x3584, .f32⟩
  | 27 => ⟨S1x8x3584x1024, .f32⟩
  | 28 => ⟨S8x3584x1024, .f32⟩
  | 29 => ⟨S_, .f32⟩
  | 30 => ⟨S40960x1024, .f32⟩
  | 31 => ⟨S40960x1, .f32⟩
  | 32 => ⟨S1x1024x3584, .f32⟩
  | 33 => ⟨S1024x3584, .f32⟩
  | 34 => ⟨S1x1024x3584, .f32⟩
  | 35 => ⟨S1024x3584, .f32⟩
  | 36 => ⟨S1x3584x1024, .f32⟩
  | 37 => ⟨S3584x1024, .f32⟩
  | 38 => ⟨S40960x3584, .f32⟩
  | 39 => ⟨S40960x3584, .f32⟩
  | 40 => ⟨S40960x3584, .f32⟩
  | 41 => ⟨S_, .f32⟩
  | 42 => ⟨S40960x3584, .f32⟩
  | 43 => ⟨S40960x3584, .f32⟩
  | 44 => ⟨S_, .f32⟩
  | 45 => ⟨S40960x3584, .f32⟩
  | 46 => ⟨S40960x3584, .f32⟩
  | 47 => ⟨S40960x3584, .f32⟩
  | 48 => ⟨S40960x3584, .f32⟩
  | 49 => ⟨S40960x3584, .f32⟩
  | 50 => ⟨S40960x1024, .f32⟩
  | 51 => ⟨S40960x1024, .f32⟩
  | 52 => ⟨S40960x1024, .f32⟩
  | 53 => ⟨S40960x1024, .f32⟩
  | 54 => ⟨S40960x1, .f32⟩
  | 55 => ⟨S1x1024x3584, .f32⟩
  | 56 => ⟨S1024x3584, .f32⟩
  | 57 => ⟨S1x1024x3584, .f32⟩
  | 58 => ⟨S1024x3584, .f32⟩
  | 59 => ⟨S1x3584x1024, .f32⟩
  | 60 => ⟨S3584x1024, .f32⟩
  | 61 => ⟨S40960x3584, .f32⟩
  | 62 => ⟨S40960x3584, .f32⟩
  | 63 => ⟨S40960x3584, .f32⟩
  | 64 => ⟨S_, .f32⟩
  | 65 => ⟨S40960x3584, .f32⟩
  | 66 => ⟨S40960x3584, .f32⟩
  | 67 => ⟨S_, .f32⟩
  | 68 => ⟨S40960x3584, .f32⟩
  | 69 => ⟨S40960x3584, .f32⟩
  | 70 => ⟨S40960x3584, .f32⟩
  | 71 => ⟨S40960x3584, .f32⟩
  | 72 => ⟨S40960x3584, .f32⟩
  | 73 => ⟨S40960x1024, .f32⟩
  | 74 => ⟨S40960x1024, .f32⟩
  | 75 => ⟨S40960x1024, .f32⟩
  | 76 => ⟨S40960x1024, .f32⟩
  | 77 => ⟨S40960x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S40960x3584, .f32⟩
  | 85 => ⟨S40960x3584, .f32⟩
  | 86 => ⟨S40960x3584, .f32⟩
  | 87 => ⟨S_, .f32⟩
  | 88 => ⟨S40960x3584, .f32⟩
  | 89 => ⟨S40960x3584, .f32⟩
  | 90 => ⟨S_, .f32⟩
  | 91 => ⟨S40960x3584, .f32⟩
  | 92 => ⟨S40960x3584, .f32⟩
  | 93 => ⟨S40960x3584, .f32⟩
  | 94 => ⟨S40960x3584, .f32⟩
  | 95 => ⟨S40960x3584, .f32⟩
  | 96 => ⟨S40960x1024, .f32⟩
  | 97 => ⟨S40960x1024, .f32⟩
  | 98 => ⟨S40960x1024, .f32⟩
  | 99 => ⟨S40960x1024, .f32⟩
  | 100 => ⟨S40960x1, .f32⟩
  | 101 => ⟨S1x1024x3584, .f32⟩
  | 102 => ⟨S1024x3584, .f32⟩
  | 103 => ⟨S1x1024x3584, .f32⟩
  | 104 => ⟨S1024x3584, .f32⟩
  | 105 => ⟨S1x3584x1024, .f32⟩
  | 106 => ⟨S3584x1024, .f32⟩
  | 107 => ⟨S40960x3584, .f32⟩
  | 108 => ⟨S40960x3584, .f32⟩
  | 109 => ⟨S40960x3584, .f32⟩
  | 110 => ⟨S_, .f32⟩
  | 111 => ⟨S40960x3584, .f32⟩
  | 112 => ⟨S40960x3584, .f32⟩
  | 113 => ⟨S_, .f32⟩
  | 114 => ⟨S40960x3584, .f32⟩
  | 115 => ⟨S40960x3584, .f32⟩
  | 116 => ⟨S40960x3584, .f32⟩
  | 117 => ⟨S40960x3584, .f32⟩
  | 118 => ⟨S40960x3584, .f32⟩
  | 119 => ⟨S40960x1024, .f32⟩
  | 120 => ⟨S40960x1024, .f32⟩
  | 121 => ⟨S40960x1024, .f32⟩
  | 122 => ⟨S40960x1024, .f32⟩
  | 123 => ⟨S40960x1, .f32⟩
  | 124 => ⟨S1x1024x3584, .f32⟩
  | 125 => ⟨S1024x3584, .f32⟩
  | 126 => ⟨S1x1024x3584, .f32⟩
  | 127 => ⟨S1024x3584, .f32⟩
  | _ => ⟨S40, .i32⟩

abbrev hbmTy0_1 (i : Nat) : BufTy := match i % 128 with
  | 0 => ⟨S1x3584x1024, .f32⟩
  | 1 => ⟨S3584x1024, .f32⟩
  | 2 => ⟨S40960x3584, .f32⟩
  | 3 => ⟨S40960x3584, .f32⟩
  | 4 => ⟨S40960x3584, .f32⟩
  | 5 => ⟨S_, .f32⟩
  | 6 => ⟨S40960x3584, .f32⟩
  | 7 => ⟨S40960x3584, .f32⟩
  | 8 => ⟨S_, .f32⟩
  | 9 => ⟨S40960x3584, .f32⟩
  | 10 => ⟨S40960x3584, .f32⟩
  | 11 => ⟨S40960x3584, .f32⟩
  | 12 => ⟨S40960x3584, .f32⟩
  | 13 => ⟨S40960x3584, .f32⟩
  | 14 => ⟨S40960x1024, .f32⟩
  | 15 => ⟨S40960x1024, .f32⟩
  | 16 => ⟨S40960x1024, .f32⟩
  | 17 => ⟨S40960x1024, .f32⟩
  | 18 => ⟨S40960x1, .f32⟩
  | 19 => ⟨S1x1024x3584, .f32⟩
  | 20 => ⟨S1024x3584, .f32⟩
  | 21 => ⟨S1x1024x3584, .f32⟩
  | 22 => ⟨S1024x3584, .f32⟩
  | 23 => ⟨S1x3584x1024, .f32⟩
  | 24 => ⟨S3584x1024, .f32⟩
  | 25 => ⟨S40960x3584, .f32⟩
  | 26 => ⟨S40960x3584, .f32⟩
  | 27 => ⟨S40960x3584, .f32⟩
  | 28 => ⟨S_, .f32⟩
  | 29 => ⟨S40960x3584, .f32⟩
  | 30 => ⟨S40960x3584, .f32⟩
  | 31 => ⟨S_, .f32⟩
  | 32 => ⟨S40960x3584, .f32⟩
  | 33 => ⟨S40960x3584, .f32⟩
  | 34 => ⟨S40960x3584, .f32⟩
  | 35 => ⟨S40960x3584, .f32⟩
  | 36 => ⟨S40960x3584, .f32⟩
  | 37 => ⟨S40960x1024, .f32⟩
  | 38 => ⟨S40960x1024, .f32⟩
  | 39 => ⟨S40960x1024, .f32⟩
  | 40 => ⟨S40960x1024, .f32⟩
  | 41 => ⟨S40960x1, .f32⟩
  | 42 => ⟨S1x1024x3584, .f32⟩
  | 43 => ⟨S1024x3584, .f32⟩
  | 44 => ⟨S1x1024x3584, .f32⟩
  | 45 => ⟨S1024x3584, .f32⟩
  | 46 => ⟨S1x3584x1024, .f32⟩
  | 47 => ⟨S3584x1024, .f32⟩
  | 48 => ⟨S40960x3584, .f32⟩
  | 49 => ⟨S40960x3584, .f32⟩
  | 50 => ⟨S40960x3584, .f32⟩
  | 51 => ⟨S_, .f32⟩
  | 52 => ⟨S40960x3584, .f32⟩
  | 53 => ⟨S40960x3584, .f32⟩
  | 54 => ⟨S_, .f32⟩
  | 55 => ⟨S40960x3584, .f32⟩
  | 56 => ⟨S40960x3584, .f32⟩
  | 57 => ⟨S40960x3584, .f32⟩
  | 58 => ⟨S40960x3584, .f32⟩
  | 59 => ⟨S40960x3584, .f32⟩
  | 60 => ⟨S40960x1024, .f32⟩
  | 61 => ⟨S40960x1024, .f32⟩
  | 62 => ⟨S40960x1024, .f32⟩
  | 63 => ⟨S40960x1024, .f32⟩
  | 64 => ⟨S40960x1, .f32⟩
  | 65 => ⟨S1x1024x3584, .f32⟩
  | 66 => ⟨S1024x3584, .f32⟩
  | 67 => ⟨S1x1024x3584, .f32⟩
  | 68 => ⟨S1024x3584, .f32⟩
  | 69 => ⟨S1x3584x1024, .f32⟩
  | 70 => ⟨S3584x1024, .f32⟩
  | 71 => ⟨S40960x3584, .f32⟩
  | 72 => ⟨S40960x3584, .f32⟩
  | 73 => ⟨S40960x3584, .f32⟩
  | 74 => ⟨S_, .f32⟩
  | 75 => ⟨S40960x3584, .f32⟩
  | 76 => ⟨S40960x3584, .f32⟩
  | 77 => ⟨S_, .f32⟩
  | 78 => ⟨S40960x3584, .f32⟩
  | 79 => ⟨S40960x3584, .f32⟩
  | 80 => ⟨S40960x3584, .f32⟩
  | 81 => ⟨S40960x3584, .f32⟩
  | 82 => ⟨S40960x3584, .f32⟩
  | 83 => ⟨S40960x1024, .f32⟩
  | 84 => ⟨S40960x1024, .f32⟩
  | 85 => ⟨S40960x1024, .f32⟩
  | 86 => ⟨S40960x1024, .f32⟩
  | _ => ⟨S40, .i32⟩

abbrev hbmTy (i : Nat) : BufTy := match i / 128 with
  | 0 => hbmTy0_0 i
  | 1 => hbmTy0_1 i
  | _ => ⟨S40, .i32⟩

abbrev bufTy : (tb : Table) → Fin (tcTables nBuf tb) → BufTy
  | .hbm, ⟨i, _⟩ => hbmTy i
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_call6_v0 : Ref sig .tc := ⟨.hbm, 177, rfl⟩
abbrev main_call6_v1 : Ref sig .tc := ⟨.hbm, 178, rfl⟩
abbrev main_call6_cst : Ref sig .tc := ⟨.hbm, 179, rfl⟩
abbrev main_call6_v2 : Ref sig .tc := ⟨.hbm, 180, rfl⟩
abbrev main_call6_v3 : Ref sig .tc := ⟨.hbm, 181, rfl⟩
abbrev main_call6_cst_0 : Ref sig .tc := ⟨.hbm, 182, rfl⟩
abbrev main_call6_v4 : Ref sig .tc := ⟨.hbm, 183, rfl⟩
abbrev main_call6_v5 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_call7_v0 : Ref sig .tc := ⟨.hbm, 200, rfl⟩
abbrev main_call7_v1 : Ref sig .tc := ⟨.hbm, 201, rfl⟩
abbrev main_call7_cst : Ref sig .tc := ⟨.hbm, 202, rfl⟩
abbrev main_call7_v2 : Ref sig .tc := ⟨.hbm, 203, rfl⟩
abbrev main_call7_v3 : Ref sig .tc := ⟨.hbm, 204, rfl⟩
abbrev main_call7_cst_0 : Ref sig .tc := ⟨.hbm, 205, rfl⟩
abbrev main_call7_v4 : Ref sig .tc := ⟨.hbm, 206, rfl⟩
abbrev main_call7_v5 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩

abbrev nD : Nat := 1
abbrev τ : Topo := Topo.v7x

variable {F : FTy → Type} [FloatOps F]
-- ==== Proof.Pre.lean ====
/- What the precondition says of the arguments: every query and every key is a real number. -/
module

public import proofs.«01_k».proof.Defs
public import proofs.«01_k».proof.Proof.Gen.Pre_finite_scores
public import Idealize.ShloMosaic.Lib.ReduceAll

@[expose] public section

noncomputable section

open Idealize.ShloMosaic

namespace Cert.Pre_finite_scores

/-- An extended real whose absolute value is less than infinity is a real number. -/
theorem real_of_lt (x : EReal)
    (h : FloatOps.cmpf (F := Ideal) (φ := .f32) .olt (FloatOps.hostAbsf (F := Ideal) (φ := .f32) x) (Ideal.ofBits .f32 0x7F800000#32) = 1#1) :
    ∃ a : ℝ, x = a := by
  have ht : Ideal.ofBits .f32 0x7F800000#32 = ⊤ := rfl
  rw [ht] at h
  induction x with
  | coe a => exact ⟨a, rfl⟩
  | top => exact absurd h (by show ¬Ideal.cmp .olt (max (⊤ : EReal) (-⊤)) ⊤ = 1#1; simp [Ideal.cmp])
  | bot => exact absurd h (by show ¬Ideal.cmp .olt (max (⊥ : EReal) (-⊥)) ⊤ = 1#1; simp [Ideal.cmp])

/-- Where the predicate holds, every query and every key is a real number. -/
theorem real_of_fn [Facts] (q k : FVec Ideal S8x2304x4x96 .f32) (v : FVec Ideal S8x2304x4x64 .f32) (h : fn (F := Ideal) q k v = fun _ => 1#1)
    (i : S8x2304x4x96.Idx) : (∃ a : ℝ, @Eq EReal (q i) a) ∧ ∃ a : ℝ, @Eq EReal (k i) a := by
  have h0 := congrFun h (fun a => a.elim0)
  dsimp only [fn] at h0
  obtain ⟨h1, h2⟩ := IntOp.andi_eq_one.1 h0
  exact ⟨real_of_lt _ (Host.reduce_andi_all (t := S_) _ _ _ _ _ h1 i), real_of_lt _ (Host.reduce_andi_all (t := S_) _ _ _ _ _ h2 i)⟩

end Cert.Pre_finite_scores

end
-- ==== Proof.ExpertsRun.lean ====
/- One point of the experts' call, run: from its buffers' contents to what it leaves in the output block and the scratch buffer. -/
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.ValueKit.Basic
public import Idealize.ShloMosaic.Adequacy
public import Idealize.ShloMosaic.Init

@[expose] public section

set_option maxRecDepth 16384

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two prefetched tables and the scratch buffer, whole. -/
abbrev teM : Memref sig .tc .smem S44 .i32 := Memref.whole main_arg0
abbrev nuM : Memref sig .tc .smem S1 .i32 := Memref.whole main_arg1
abbrev scM : Memref sig .tc .vmem S1024x1024 .bf16 := Memref.whole cc0_scratch0

/-- The word the body reads from the one-entry table. -/
abbrev usedWord (T1 : S1.Idx → Elt F .i32) : BitVec 32 :=
  View.readAt (Elt F) (nuM).view (Rect.unit (s := S1) ![0] S1.size inb_S1_S1_0).toLoadRect T1 (Shape.Idx.first (numel1_S1.symm ▸ Nat.one_pos))

/-- After a store of a whole buffer the buffer reads as what was stored. -/
theorem read_stored_whole {S : Shape} {sig : RefSig} {κ : Kind} {sp : Space} {e : EltTy} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  have hcov : ∀ y, ∃ p ∈ ((⟨Rect.unit off S.size inb, w⟩ : View.Piece (Elt F) S e) :: L), y ∈ p.1.set := fun y =>
    ⟨(⟨Rect.unit off S.size inb, w⟩ : View.Piece (Elt F) S e), List.mem_cons_self, View.mem_set_unit_zero h inb y⟩
  exact (View.read_writes_eq_canon v f _ hcov).trans (View.canon_cons_unit_zero h inb w L)

theorem zeros2 : (![0, 0] : Fin 2 → ℕ) = fun _ => 0 := View.eq_zero_of_forall (by decide)
theorem zeros4 : (![0, 0, 0, 0] : Fin 4 → ℕ) = fun _ => 0 := View.eq_zero_of_forall (by decide)

/-- After a store of the whole 1024 by 1024 buffer the buffer reads as what was stored. -/
theorem read_stored {sig : RefSig} {κ : Kind} {sp : Space} {e : EltTy} (v : View sig κ sp S1024x1024 e) (f : v.ty.Contents (Elt F))
    (inb : ∀ a, (![0, 0] : Fin 2 → ℕ) a + S1024x1024.size a ≤ S1024x1024.size a)
    (w : S1024x1024.Idx → Elt F e) (L : List (View.Piece (Elt F) S1024x1024 e)) :
    v.read (Elt F) (v.writes (Elt F) f (⟨Rect.unit (s := S1024x1024) ![0, 0] S1024x1024.size inb, w⟩ :: L)) = w :=
  read_stored_whole v f zeros2 inb w L

/-- The scratch buffer after a whole store holds what was stored. -/
theorem scratch_stored (f : scM.view.ty.Contents (Elt F)) (inb : ∀ a, (![0, 0] : Fin 2 → ℕ) a + S1024x1024.size a ≤ S1024x1024.size a)
    (w : S1024x1024.Idx → Elt F .bf16) (L : List (View.Piece (Elt F) S1024x1024 .bf16)) :
    scM.view.writes (Elt F) f (⟨Rect.unit (s := S1024x1024) ![0, 0] S1024x1024.size inb, w⟩ :: L) = w := by
  have h := read_stored (F := F) scM.view f inb w L
  simpa only [Memref.view_whole, View.read_whole] using h

/-- A load of the whole buffer is what the buffer reads. -/
theorem load_all2 {sig : RefSig} {κ : Kind} {sp : Space} {e : EltTy} (v : View sig κ sp S1024x1024 e) (f : v.ty.Contents (Elt F))
    (inb : ∀ a, (![0, 0] : Fin 2 → ℕ) a + S1024x1024.size a ≤ S1024x1024.size a) :
    v.readAt (Elt F) (Rect.unit (s := S1024x1024) ![0, 0] S1024x1024.size inb).toLoadRect f = v.read (Elt F) f := by
  rw [View.readAt_eq_ld]; exact View.ld_unit_zero (S := S1024x1024) zeros2 inb _
/-- The same of a block of the first two weight arrays, -/
theorem load_col {sig : RefSig} {κ : Kind} {sp : Space} {e : EltTy} (v : View sig κ sp S1x1x1024x512 e) (f : v.ty.Contents (Elt F))
    (inb : ∀ a, (![0, 0, 0, 0] : Fin 4 → ℕ) a + S1x1x1024x512.size a ≤ S1x1x1024x512.size a) :
    v.readAt (Elt F) (Rect.unit (s := S1x1x1024x512) ![0, 0, 0, 0] S1x1x1024x512.size inb).toLoadRect f = v.read (Elt F) f := by
  rw [View.readAt_eq_ld]; exact View.ld_unit_zero (S := S1x1x1024x512) zeros4 inb _
/-- and of a block of the third. -/
theorem load_row {sig : RefSig} {κ : Kind} {sp : Space} {e : EltTy} (v : View sig κ sp S1x1x512x1024 e) (f : v.ty.Contents (Elt F))
    (inb : ∀ a, (![0, 0, 0, 0] : Fin 4 → ℕ) a + S1x1x512x1024.size a ≤ S1x1x512x1024.size a) :
    v.readAt (Elt F) (Rect.unit (s := S1x1x512x1024) ![0, 0, 0, 0] S1x1x512x1024.size inb).toLoadRect f = v.read (Elt F) f := by
  rw [View.readAt_eq_ld]; exact View.ld_unit_zero (S := S1x1x512x1024) zeros4 inb _
/-- A load covered by the store just made is what was stored. -/
theorem load_stored {sig : RefSig} {κ : Kind} {sp : Space} {e : EltTy} (v : View sig κ sp S1024x1024 e)
    (inb : ∀ a, (![0, 0] : Fin 2 → ℕ) a + S1024x1024.size a ≤ S1024x1024.size a) (w : S1024x1024.Idx → Elt F e) :
    v.readCov [(⟨Rect.unit (s := S1024x1024) ![0, 0] S1024x1024.size inb, w⟩ : View.Piece (Elt F) S1024x1024 e)]
      (Rect.unit (s := S1024x1024) ![0, 0] S1024x1024.size inb).toLoadRect = w :=
  View.readCov_unit_zero (S := S1024x1024) v zeros2 inb w

set_option backward.proofsInPublic true in
set_option maxHeartbeats 8000000 in
/-- The body at a tile's first column block, the tile in use: the block of x is kept in the scratch buffer and the output holds the first partial product. -/
theorem run_first_used (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S44.Idx → Elt F .i32) (T1 : S1.Idx → Elt F .i32)
    (x0 : S1024x1024.Idx → Elt F .f32) (x1 x2 : S1x1x1024x512.Idx → Elt F .f32) (x3 : S1x1x512x1024.Idx → Elt F .f32)
    (k0_h1 : k0_cond1 i = 1#1) (k0_h2 : k0_cond2 i (usedWord T1) = 1#1)
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare (k0_pay3 x1 x2 x3 (k0_pay1 x0) (k0_pay2 (F := F))) ∗ (scM.view.loc (c : Thread nD τ) ↦{fullShare} k0_pay1 x0)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, HT0, HT1, ⟨%f4, %hf4, HO⟩, HS, Hk⟩
  obtain rfl := harg4.eq_unread hf0
  obtain rfl := harg5.eq_unread hf1
  obtain rfl := harg6.eq_unread hf2
  obtain rfl := harg7.eq_unread hf3
  obtain rfl := harg8.eq_unread hf4
  have hS0 : scM.IsWhole := Memref.isWhole_whole _
  have hT0 : teM.IsWhole := Memref.isWhole_whole _
  have hT1 : nuM.IsWhole := Memref.isWhole_whole _
  sl_exec! (disch := first | (guard_target = k0_cond1 _ = _; exact k0_h1) | (guard_target = k0_cond2 _ _ = _; exact k0_h2))
  sl_step
  iapply Hk
  isplitl [H0]; · iexists _; isplitr; swap; (· iexact H0); ipureintro; exact harg4.read_unread _
  isplitl [H1]; · iexists _; isplitr; swap; (· iexact H1); ipureintro; exact harg5.read_unread _
  isplitl [H2]; · iexists _; isplitr; swap; (· iexact H2); ipureintro; exact harg6.read_unread _
  isplitl [H3]; · iexists _; isplitr; swap; (· iexact H3); ipureintro; exact harg7.read_unread _
  isplitl [HT0]; · iexact HT0
  isplitl [HT1]; · iexact HT1
  isplitl [HO]
  · iexists _; isplitr; swap; (· iexact HO)
    ipureintro
    sl_unfold_words
    rw [read_stored]
    rw [load_col, load_col, load_row, load_stored, load_stored, load_all2, harg4.read_unread, harg5.read_unread, harg6.read_unread, harg7.read_unread]
  sl_unfold_words
  rw [scratch_stored, load_all2, Memref.IsWhole.read_unread]
  iexact HS

set_option backward.proofsInPublic true in
set_option maxHeartbeats 8000000 in
/-- The body at a later column block of a tile in use: the output gains that block's product, the scratch stays. -/
theorem run_later_used (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S44.Idx → Elt F .i32) (T1 : S1.Idx → Elt F .i32)
    (x0 : S1024x1024.Idx → Elt F .f32) (x1 x2 : S1x1x1024x512.Idx → Elt F .f32) (x3 : S1x1x512x1024.Idx → Elt F .f32)
    (k0_h1 : ¬(k0_cond1 i = 1#1)) (k0_h2 : k0_cond2 i (usedWord T1) = 1#1)
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare (k0_pay3 x1 x2 x3 s o) ∗ (scM.view.loc (c : Thread nD τ) ↦{fullShare} s)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, HT0, HT1, ⟨%f4, %hf4, HO⟩, HS, Hk⟩
  obtain rfl := harg4.eq_unread hf0
  obtain rfl := harg5.eq_unread hf1
  obtain rfl := harg6.eq_unread hf2
  obtain rfl := harg7.eq_unread hf3
  obtain rfl := harg8.eq_unread hf4
  have hS0 : scM.IsWhole := Memref.isWhole_whole _
  have hT0 : teM.IsWhole := Memref.isWhole_whole _
  have hT1 : nuM.IsWhole := Memref.isWhole_whole _
  sl_exec! (disch := first | (guard_target = ¬(k0_cond1 _ = _); exact k0_h1) | (guard_target = k0_cond2 _ _ = _; exact k0_h2))
  sl_step
  iapply Hk
  isplitl [H0]; · iexists _; isplitr; swap; (· iexact H0); ipureintro; exact harg4.read_unread _
  isplitl [H1]; · iexists _; isplitr; swap; (· iexact H1); ipureintro; exact harg5.read_unread _
  isplitl [H2]; · iexists _; isplitr; swap; (· iexact H2); ipureintro; exact harg6.read_unread _
  isplitl [H3]; · iexists _; isplitr; swap; (· iexact H3); ipureintro; exact harg7.read_unread _
  isplitl [HT0]; · iexact HT0
  isplitl [HT1]; · iexact HT1
  isplitl [HO]
  · iexists _; isplitr; swap; (· iexact HO)
    ipureintro
    sl_unfold_words
    rw [read_stored]
    rw [load_col, load_col, load_row, load_all2, load_all2, View.read_whole, harg8.read_unread, harg5.read_unread, harg6.read_unread, harg7.read_unread]
  iexact HS

set_option backward.proofsInPublic true in
set_option maxHeartbeats 8000000 in
/-- The body at a tile's first column block, the tile not in use: the output is set to zero. -/
theorem run_first_unused (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S44.Idx → Elt F .i32) (T1 : S1.Idx → Elt F .i32)
    (x0 : S1024x1024.Idx → Elt F .f32) (x1 x2 : S1x1x1024x512.Idx → Elt F .f32) (x3 : S1x1x512x1024.Idx → Elt F .f32)
    (k0_h1 : k0_cond1 i = 1#1) (k0_h2 : ¬(k0_cond2 i (usedWord T1) = 1#1))
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare (k0_pay2 (F := F)) ∗ (scM.view.loc (c : Thread nD τ) ↦{fullShare} k0_pay1 x0)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, HT0, HT1, ⟨%f4, %hf4, HO⟩, HS, Hk⟩
  obtain rfl := harg4.eq_unread hf0
  obtain rfl := harg5.eq_unread hf1
  obtain rfl := harg6.eq_unread hf2
  obtain rfl := harg7.eq_unread hf3
  obtain rfl := harg8.eq_unread hf4
  have hS0 : scM.IsWhole := Memref.isWhole_whole _
  have hT0 : teM.IsWhole := Memref.isWhole_whole _
  have hT1 : nuM.IsWhole := Memref.isWhole_whole _
  sl_exec! (disch := first | (guard_target = k0_cond1 _ = _; exact k0_h1) | (guard_target = ¬(k0_cond2 _ _ = _); exact k0_h2))
  sl_step
  iapply Hk
  isplitl [H0]; · iexists _; isplitr; swap; (· iexact H0); ipureintro; exact harg4.read_unread _
  isplitl [H1]; · iexists _; isplitr; swap; (· iexact H1); ipureintro; exact harg5.read_unread _
  isplitl [H2]; · iexists _; isplitr; swap; (· iexact H2); ipureintro; exact harg6.read_unread _
  isplitl [H3]; · iexists _; isplitr; swap; (· iexact H3); ipureintro; exact harg7.read_unread _
  isplitl [HT0]; · iexact HT0
  isplitl [HT1]; · iexact HT1
  isplitl [HO]
  · iexists _; isplitr; swap; (· iexact HO)
    ipureintro
    sl_unfold_words
    rw [read_stored]
  sl_unfold_words
  rw [scratch_stored, load_all2, Memref.IsWhole.read_unread]
  iexact HS

set_option backward.proofsInPublic true in
set_option maxHeartbeats 8000000 in
/-- The body at a later column block of a tile not in use: nothing changes. -/
theorem run_later_unused (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S44.Idx → Elt F .i32) (T1 : S1.Idx → Elt F .i32)
    (x0 : S1024x1024.Idx → Elt F .f32) (x1 x2 : S1x1x1024x512.Idx → Elt F .f32) (x3 : S1x1x512x1024.Idx → Elt F .f32)
    (k0_h1 : ¬(k0_cond1 i = 1#1)) (k0_h2 : ¬(k0_cond2 i (usedWord T1) = 1#1))
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare o ∗ (scM.view.loc (c : Thread nD τ) ↦{fullShare} s)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, HT0, HT1, ⟨%f4, %hf4, HO⟩, HS, Hk⟩
  obtain rfl := harg4.eq_unread hf0
  obtain rfl := harg5.eq_unread hf1
  obtain rfl := harg6.eq_unread hf2
  obtain rfl := harg7.eq_unread hf3
  obtain rfl := harg8.eq_unread hf4
  have hS0 : scM.IsWhole := Memref.isWhole_whole _
  have hT0 : teM.IsWhole := Memref.isWhole_whole _
  have hT1 : nuM.IsWhole := Memref.isWhole_whole _
  sl_exec! (disch := first | (guard_target = ¬(k0_cond1 _ = _); exact k0_h1) | (guard_target = ¬(k0_cond2 _ _ = _); exact k0_h2))
  sl_step
  iapply Hk
  isplitl [H0]; · iexists _; isplitr; swap; (· iexact H0); ipureintro; exact harg4.read_unread _
  isplitl [H1]; · iexists _; isplitr; swap; (· iexact H1); ipureintro; exact harg5.read_unread _
  isplitl [H2]; · iexists _; isplitr; swap; (· iexact H2); ipureintro; exact harg6.read_unread _
  isplitl [H3]; · iexists _; isplitr; swap; (· iexact H3); ipureintro; exact harg7.read_unread _
  isplitl [HT0]; · iexact HT0
  isplitl [HT1]; · iexact HT1
  isplitl [HO]
  · iexists _; isplitr; swap; (· iexact HO)
    ipureintro; exact harg8.read_unread _
  iexact HS

/-- What the scratch buffer holds after the body: the block of x at a tile's first column block, what it held before at a later one. -/
def keptAfter (first : Prop) [Decidable first] (x0 : S1024x1024.Idx → Elt F .f32) (s : S1024x1024.Idx → Elt F .bf16) : S1024x1024.Idx → Elt F .bf16 :=
  if first then k0_pay1 x0 else s

/-- What the output block holds after the body: cleared at a tile's first column block, and increased by the column block's
    product where the tile is in use. -/
def outAfter (first used : Prop) [Decidable first] [Decidable used] (x0 : S1024x1024.Idx → Elt F .f32) (x1 x2 : S1x1x1024x512.Idx → Elt F .f32) (x3 : S1x1x512x1024.Idx → Elt F .f32)
    (o : S1024x1024.Idx → Elt F .f32) (s : S1024x1024.Idx → Elt F .bf16) : S1024x1024.Idx → Elt F .f32 :=
  if used then k0_pay3 x1 x2 x3 (keptAfter first x0 s) (if first then k0_pay2 else o) else (if first then k0_pay2 else o)

/-- The body at any grid point: the four cases of first or later column block, tile in use or not, in one statement. -/
theorem body_run (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S44.Idx → Elt F .i32) (T1 : S1.Idx → Elt F .i32)
    (x0 : S1024x1024.Idx → Elt F .f32) (x1 x2 : S1x1x1024x512.Idx → Elt F .f32) (x3 : S1x1x512x1024.Idx → Elt F .f32)
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare (outAfter (k0_cond1 i = 1#1) (k0_cond2 i (usedWord T1) = 1#1) x0 x1 x2 x3 o s)
          ∗ (scM.view.loc (c : Thread nD τ) ↦{fullShare} keptAfter (k0_cond1 i = 1#1) x0 s)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  by_cases h1 : k0_cond1 i = 1#1
  · by_cases h2 : k0_cond2 i (usedWord T1) = 1#1
    · simp only [outAfter, keptAfter, if_pos h1, if_pos h2]
      exact run_first_used c i arg4 harg4 arg5 harg5 arg6 harg6 arg7 harg7 arg8 harg8 T0 T1 x0 x1 x2 x3 h1 h2 o s K
    · simp only [outAfter, keptAfter, if_pos h1, if_neg h2]
      exact run_first_unused c i arg4 harg4 arg5 harg5 arg6 harg6 arg7 harg7 arg8 harg8 T0 T1 x0 x1 x2 x3 h1 h2 o s K
  · by_cases h2 : k0_cond2 i (usedWord T1) = 1#1
    · simp only [outAfter, keptAfter, if_neg h1, if_pos h2]
      exact run_later_used c i arg4 harg4 arg5 harg5 arg6 harg6 arg7 harg7 arg8 harg8 T0 T1 x0 x1 x2 x3 h1 h2 o s K
    · simp only [outAfter, keptAfter, if_neg h1, if_neg h2]
      exact run_later_unused c i arg4 harg4 arg5 harg5 arg6 harg6 arg7 harg7 arg8 harg8 T0 T1 x0 x1 x2 x3 h1 h2 o s K

end Cert.Kernel2Ideal.Experts
-- ==== Proof.ExpertsTables.lean ====
/- The two tables that steer the experts' call, and what its index maps and conditions read of them. -/
module

public import proofs.«01_k».proof.Proof.ExpertsRun
public import Idealize.ShloMosaic.Lib.Pointwise
public import Idealize.ShloMosaic.Lib.WordArith
public import Idealize.ShloMosaic.Lib.WordCmp

@[expose] public section

set_option maxRecDepth 16384

noncomputable section

namespace Cert.Kernel2Ideal.Experts

open Cert.Kernel2Ideal Cert.Kernel2Ideal.Gen
open Idealize.ShloMosaic Idealize.ShloMosaic.TcCoe

/-- The two tables the experts' call is handed: the expert of each tile of rows, and how many tiles are in use. -/
structure Tables where
  /-- the expert of each tile -/
  te : S44.Idx → BitVec 32
  /-- the number of tiles in use, in a one-entry table -/
  nu : S1.Idx → BitVec 32
  te_lt : ∀ i, (te i).toNat < 8
  nu_pos : ∀ i, 1 ≤ (nu i).toNat
  nu_lt : ∀ i, (nu i).toNat < 2 ^ 31

variable {F : FTy → Type} [FloatOps F] (T : Tables)

/-- The number of tiles in use. -/
def Tables.used : ℕ := (T.nu (ix1 0)).toNat

theorem Tables.used_pos : 1 ≤ T.used := T.nu_pos _
theorem Tables.used_lt : T.used < 2 ^ 31 := T.nu_lt _

/-- The expert of tile `i`. -/
def Tables.expert (i : Fin 44) : Fin 8 := ⟨(T.te (ix1 i)).toNat, T.te_lt _⟩

/-- The tables as the call's prefetched contents. -/
def pf : pre0.Contents (Elt F) := fun | ⟨0, _⟩ => T.te | ⟨1, _⟩ => T.nu | ⟨_ + 2, h⟩ => absurd h (by simp)

/-- A one-entry table has one index. -/
theorem idx1_eq (x : S1.Idx) : x = ix1 0 := by
  funext a; match a with
  | ⟨0, _⟩ => exact Fin.ext (by have h : (x 0).val < 1 := (x 0).isLt; show (x 0).val = 0; omega)

/-- The word an index map reads of the one-entry table. -/
theorem nu_word : (pf (F := F) T).at 1 (Rect.unit (s := S1) ![0] S1.size inb_S1_S1_0) numel1_S1 = T.nu (ix1 0) :=
  congrArg T.nu (idx1_eq _)

/-- The word the body reads of it. -/
theorem usedWord_eq : usedWord (F := F) T.nu = T.nu (ix1 0) :=
  congrArg T.nu (idx1_eq _)

/-- The word the schedule reads of it. -/
theorem nu_wordD : (pf (F := F) T).atD 1 ![0] = T.nu (ix1 0) := by
  unfold Pipeline.Prefetch.Contents.atD
  rw [dif_pos (by intro a; match a with | ⟨0, _⟩ => exact le_refl 1)]
  exact congrArg T.nu (idx1_eq _)

theorem toNat_coord (i : grid0.Coords) : (BitVec.ofNat 32 (i 0).val).toNat = (i 0).val := by
  have h : (i 0).val < 44 := (i 0).isLt
  simp only [BitVec.toNat_ofNat]; omega

theorem toNat_coord1 (i : grid0.Coords) : (BitVec.ofNat 32 (i 1).val).toNat = (i 1).val := by
  have h : (i 1).val < 7 := (i 1).isLt
  simp only [BitVec.toNat_ofNat]; omega

/-- The word an index map reads of the table of experts. -/
theorem te_word (i : grid0.Coords) :
    (pf (F := F) T).at 0 (Rect.unit (s := S44) ![(Scalar.indexCast (BitVec.ofNat 32 (i 0).val)).toNat] S1.size (k0_off1_inb i)) numel1_S1 = T.te (ix1 (i 0)) := by
  refine congrArg T.te ?_
  funext a; match a with
  | ⟨0, _⟩ =>
    apply Fin.ext
    have h0 : (Scalar.indexCast (BitVec.ofNat 32 (i 0).val)).toNat = (i 0).val := toNat_coord i
    refine (congrArg₂ (· + ·) h0 (?_ : _ * _ = 0)).trans (Nat.add_zero _)
    exact Nat.mul_eq_zero.2 (Or.inr (Nat.lt_one_iff.1 (Fin.isLt _)))

/-- The body's second condition: the tile is in use. -/
theorem cond2_iff (i : grid0.Coords) : k0_cond2 i (T.nu (ix1 0)) = 1#1 ↔ (i 0).val < T.used := by
  have h0 : (i 0).val < 44 := (i 0).isLt
  have h1 := T.used_lt
  have e : Scalar.cmpi .slt (BitVec.ofNat 32 (i 0).val) (T.nu (ix1 0)) = BitVec.ofBool (decide ((i 0).val < T.used)) := by
    show IntOp.cmpi .slt _ _ = _
    rw [WordCmp.cmpi_slt_of_lt (by rw [toNat_coord]; omega) (by show T.used < _; omega), toNat_coord]; rfl
  show Scalar.cmpi .ne (Scalar.extui (Scalar.cmpi .slt (BitVec.ofNat 32 (i 0).val) (T.nu (ix1 0)))) 0#32 = 1#1 ↔ _
  rw [e]
  by_cases h : (i 0).val < T.used
  · simp only [h, decide_true]; decide
  · simp only [h, decide_false]; decide

/-- The column block an index map names: the grid's own in a tile in use, the last one elsewhere. -/
def colIndex (i : grid0.Coords) : ℕ := if (i 0).val < T.used then (i 1).val else 6

/-- The index maps as functions of the words they read. -/
def rowsOf (i : grid0.Coords) (n : BitVec 32) : Fin 2 → ℕ := ![(Scalar.minsi (BitVec.ofNat 32 (i 0).val) (Scalar.subi n 1#32)).toNat, 0]
def colOf (i : grid0.Coords) (n : BitVec 32) : ℕ :=
  (Scalar.select (Scalar.cmpi .slt (BitVec.ofNat 32 (i 0).val) n) (BitVec.ofNat 32 (i 1).val) 6#32).toNat

/-- The index of the rows' block: the tile, held at the last tile in use. -/
theorem rows_index (i : grid0.Coords) : cc0_transform_0 inb_S1_S1_0 numel1_S1 (pf (F := F) T) i = ![min (i 0).val (T.used - 1), 0] := by
  have h0 : (i 0).val < 44 := (i 0).isLt
  have h1 := T.used_lt
  have h2 := T.used_pos
  refine (congrArg (rowsOf i) (nu_word (F := F) T)).trans ?_
  have e : (Scalar.subi (T.nu (ix1 0)) 1#32).toNat = T.used - 1 := by
    show (T.nu (ix1 0) - 1#32).toNat = _
    unfold Tables.used at *
    rw [BitVec.toNat_sub]; simp; omega
  have : (Scalar.minsi (BitVec.ofNat 32 (i 0).val) (Scalar.subi (T.nu (ix1 0)) 1#32)).toNat = min (i 0).val (T.used - 1) := by
    show (IntOp.minsi _ _).toNat = _
    rw [WordArith.toNat_minsi_of_lt _ _ (by rw [toNat_coord]; omega) (by rw [e]; omega), e, toNat_coord]
  unfold rowsOf; rw [this]

/-- The column block's word, read. -/
theorem col_word (i : grid0.Coords) : colOf i (T.nu (ix1 0)) = colIndex T i := by
  have h0 : (i 0).val < 44 := (i 0).isLt
  have h1 := T.used_lt
  have e : Scalar.cmpi .slt (BitVec.ofNat 32 (i 0).val) (T.nu (ix1 0)) = BitVec.ofBool (decide ((i 0).val < T.used)) := by
    show IntOp.cmpi .slt _ _ = _
    rw [WordCmp.cmpi_slt_of_lt (by rw [toNat_coord]; omega) (by show T.used < _; omega), toNat_coord]; rfl
  unfold colIndex colOf
  rw [e]
  by_cases h : (i 0).val < T.used
  · simp only [h, decide_true, if_true]; exact toNat_coord1 i
  · simp only [h, decide_false, if_false]; rfl

/-- The indices of the weights' blocks: layer 0, the tile's expert, and the column block (the row block of the third). -/
theorem gate_index (i : grid0.Coords) : cc0_transform_1 k0_off1_inb numel1_S1 inb_S1_S1_0 (pf (F := F) T) i = ![0, (T.te (ix1 (i 0))).toNat, 0, colIndex T i] := by
  exact congrArg₂ (fun (a b : ℕ) => (![0, a, 0, b] : Fin 4 → ℕ)) (congrArg BitVec.toNat (te_word (F := F) T i))
    ((congrArg (colOf i) (nu_word (F := F) T)).trans (col_word T i))
theorem up_index (i : grid0.Coords) : cc0_transform_2 k0_off1_inb numel1_S1 inb_S1_S1_0 (pf (F := F) T) i = ![0, (T.te (ix1 (i 0))).toNat, 0, colIndex T i] := by
  exact congrArg₂ (fun (a b : ℕ) => (![0, a, 0, b] : Fin 4 → ℕ)) (congrArg BitVec.toNat (te_word (F := F) T i))
    ((congrArg (colOf i) (nu_word (F := F) T)).trans (col_word T i))
theorem down_index (i : grid0.Coords) : cc0_transform_3 k0_off1_inb numel1_S1 inb_S1_S1_0 (pf (F := F) T) i = ![0, (T.te (ix1 (i 0))).toNat, colIndex T i, 0] := by
  exact congrArg₂ (fun (a b : ℕ) => (![0, a, b, 0] : Fin 4 → ℕ)) (congrArg BitVec.toNat (te_word (F := F) T i))
    ((congrArg (colOf i) (nu_word (F := F) T)).trans (col_word T i))

theorem colIndex_lt (i : grid0.Coords) : colIndex T i < 7 := by
  have h : (i 1).val < 7 := (i 1).isLt
  unfold colIndex; split <;> omega

/-- Every block the index maps name lies inside its array, whatever tables of the stated range they read. -/
theorem ok_tables : ok0 (F := F) (pf T) := by
  have ht := T.te_lt
  have h1 := T.used_lt
  have h2 := T.used_pos
  refine ⟨fun i => ⟨?_, .inl rfl⟩, fun i => ⟨?_, .inl rfl⟩, fun i => ⟨?_, .inl rfl⟩, fun i => ⟨?_, .inl rfl⟩⟩
  · intro a; rw [rows_index]; have h0 : (i 0).val < 44 := (i 0).isLt
    match a with
    | ⟨0, _⟩ => show (min (i 0).val (T.used - 1) + 1) * 1024 ≤ 45056; omega
    | ⟨1, _⟩ => show (0 + 1) * 1024 ≤ 1024; omega
  · intro a; rw [gate_index]; have := colIndex_lt T i; have := ht (ix1 (i 0))
    match a with
    | ⟨0, _⟩ => show (0 + 1) * 1 ≤ 2; omega
    | ⟨1, _⟩ => show ((T.te (ix1 (i 0))).toNat + 1) * 1 ≤ 8; omega
    | ⟨2, _⟩ => show (0 + 1) * 1024 ≤ 1024; omega
    | ⟨3, _⟩ => show (colIndex T i + 1) * 512 ≤ 3584; omega
  · intro a; rw [up_index]; have := colIndex_lt T i; have := ht (ix1 (i 0))
    match a with
    | ⟨0, _⟩ => show (0 + 1) * 1 ≤ 2; omega
    | ⟨1, _⟩ => show ((T.te (ix1 (i 0))).toNat + 1) * 1 ≤ 8; omega
    | ⟨2, _⟩ => show (0 + 1) * 1024 ≤ 1024; omega
    | ⟨3, _⟩ => show (colIndex T i + 1) * 512 ≤ 3584; omega
  · intro a; rw [down_index]; have := colIndex_lt T i; have := ht (ix1 (i 0))
    match a with
    | ⟨0, _⟩ => show (0 + 1) * 1 ≤ 2; omega
    | ⟨1, _⟩ => show ((T.te (ix1 (i 0))).toNat + 1) * 1 ≤ 8; omega
    | ⟨2, _⟩ => show (colIndex T i + 1) * 512 ≤ 3584; omega
    | ⟨3, _⟩ => show (0 + 1) * 1024 ≤ 1024; omega

/-- A grid point's coordinates: its tile and its column block. -/
theorem coords_vals : ∀ t : Fin grid0.N, (grid0.coords t 0).val = t.val / 7 ∧ (grid0.coords t 1).val = t.val % 7 := by decide +kernel

/-- The body's first condition: the point is its tile's first. -/
theorem cond1_iff : ∀ t : Fin grid0.N, k0_cond1 (grid0.coords t) = 1#1 ↔ t.val % 7 = 0 := by decide +kernel

end Cert.Kernel2Ideal.Experts

end
-- ==== Proof.ExpertsFrame.lean ====
/- The experts' call, run at given tables: every execution ends, each array at the contents its points compute. -/
module

public import proofs.«01_k».proof.Proof.ExpertsTables
public import Idealize.ShloMosaic.Lib.Pipeline.Quiescent
public import Idealize.ShloMosaic.Lib.Claim

@[expose] public section

set_option maxRecDepth 16384

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] (T : Tables)

local notation "𝕄" => MT nD τ sig Unit (Elt F) ℕ (UR sig nD τ) ℕ

/-! ## The pipeline at given tables -/

/-- The tables as admissible contents, the pipeline at them, and the program's one pipeline. -/
def adm : (pcfg0 (F := F)).Adm := ⟨pf T, ok_tables T⟩
abbrev cfgT : Pipeline.Cfg sig Λ₀ := cfg0 (F := F) (adm T)
abbrev pcsT : Fin 1 → Pipeline.Cfg sig Λ₀ := Pipeline.pin (pcfgs (F := F)) fun _ => adm T

variable (m : (ℓ : Loc nD τ sig) → Buf (Elt F) ℓ) (ρ : Dev nD → PrngReg)

/-- The launch memory holds the tables `T`. -/
def Holds : Prop :=
  (∀ c : Dev nD, m ((c : Thread nD τ).loc main_arg0) = T.te) ∧ (∀ c : Dev nD, m ((c : Thread nD τ).loc main_arg1) = T.nu)

/-- A point's coordinates and its staging buffers. -/
abbrev crd (t : Fin (cfgT (F := F) T).N) : (cfgT (F := F) T).grid.Coords := (cfgT (F := F) T).grid.coords t
abbrev bufX (t : Fin (cfgT (F := F) T).N) : Memref sig .tc .vmem S1024x1024 .f32 := spec0_0.stage ((cfgT (F := F) T).slots t (0 : Fin 5))
abbrev bufX_whole (t : Fin (cfgT (F := F) T).N) : (bufX (F := F) T t).IsWhole := hstage0_0 (((cfgT (F := F) T).slots t (0 : Fin 5)).cast nbuf0_0)
abbrev bufG (t : Fin (cfgT (F := F) T).N) : Memref sig .tc .vmem S1x1x1024x512 .f32 := spec0_1.stage ((cfgT (F := F) T).slots t (1 : Fin 5))
abbrev bufG_whole (t : Fin (cfgT (F := F) T).N) : (bufG (F := F) T t).IsWhole := hstage0_1 (((cfgT (F := F) T).slots t (1 : Fin 5)).cast nbuf0_1)
abbrev bufU (t : Fin (cfgT (F := F) T).N) : Memref sig .tc .vmem S1x1x1024x512 .f32 := spec0_2.stage ((cfgT (F := F) T).slots t (2 : Fin 5))
abbrev bufU_whole (t : Fin (cfgT (F := F) T).N) : (bufU (F := F) T t).IsWhole := hstage0_2 (((cfgT (F := F) T).slots t (2 : Fin 5)).cast nbuf0_2)
abbrev bufD (t : Fin (cfgT (F := F) T).N) : Memref sig .tc .vmem S1x1x512x1024 .f32 := spec0_3.stage ((cfgT (F := F) T).slots t (3 : Fin 5))
abbrev bufD_whole (t : Fin (cfgT (F := F) T).N) : (bufD (F := F) T t).IsWhole := hstage0_3 (((cfgT (F := F) T).slots t (3 : Fin 5)).cast nbuf0_3)
abbrev bufO (t : Fin (cfgT (F := F) T).N) : Memref sig .tc .vmem S1024x1024 .f32 := spec0_4.stage ((cfgT (F := F) T).slots t (4 : Fin 5))
abbrev bufO_whole (t : Fin (cfgT (F := F) T).N) : (bufO (F := F) T t).IsWhole := hstage0_4 (((cfgT (F := F) T).slots t (4 : Fin 5)).cast nbuf0_4)

/-- Window `w`'s block at point `t`, read off its array at launch. -/
def iblk (c : Dev nD) (w : Fin (cfgT (F := F) T).W) (t : Fin (cfgT (F := F) T).N) : (((cfgT (F := F) T).win w).xblock (crd T t)).Idx → Elt F ((cfgT (F := F) T).win w).elt :=
  (((cfgT (F := F) T).win w).blk t).view.read (Elt F) ((s₀ m ρ).mem (((cfgT (F := F) T).win w).arr.view.loc (c : Thread nD τ)))

/-- The point is its tile's first; the point's tile is in use. -/
abbrev IsFirst (t : Fin (cfgT (F := F) T).N) : Prop := k0_cond1 (crd T t) = 1#1
abbrev InUse (t : Fin (cfgT (F := F) T).N) : Prop := k0_cond2 (crd T t) (usedWord (F := F) T.nu) = 1#1

theorem isFirst_iff (t : Fin (cfgT (F := F) T).N) : IsFirst (F := F) T t ↔ t.val % 7 = 0 := cond1_iff t

theorem inUse_iff (t : Fin (cfgT (F := F) T).N) : InUse (F := F) T t ↔ t.val / 7 < T.used := by
  unfold InUse
  rw [usedWord_eq]
  refine (cond2_iff T (crd T t)).trans ?_
  rw [show ((crd (F := F) T t) 0).val = t.val / 7 from (coords_vals t).1]

/-! ## The schedule: which points write the output back, leave it idle, find it fresh -/

theorem flush_free : ∀ t : Fin grid0.N, (decide (t.val + 1 = grid0.N) || decide (∃ h : t.val + 1 < grid0.N, cc0_transform_4 (grid0.coords ⟨t.val + 1, h⟩) ≠ cc0_transform_4 (grid0.coords t))) = decide (t.val % 7 = 6) := by decide +kernel

/-- The output block is written back at its tile's last point. -/
theorem flush_eq (t : Fin (cfgT (F := F) T).N) : ((cfgT (F := F) T).win (4 : Fin 5)).flush t = decide (t.val % 7 = 6) :=
  (Bool.true_and _).trans (flush_free t)

/-- A point leaves the output alone where it is a later point of a tile not in use. -/
theorem idle_iff (t : Fin (cfgT (F := F) T).N) : (cfgT (F := F) T).idle (4 : Fin 5) ((cfgT (F := F) T).grid.coords t) = true ↔ ¬IsFirst (F := F) T t ∧ ¬InUse (F := F) T t := by
  have e : (cfgT (F := F) T).idle (4 : Fin 5) ((cfgT (F := F) T).grid.coords t)
      = (!(k0_cond1 (crd (F := F) T t) == 1#1) && !(k0_cond2 (crd (F := F) T t) ((pf (F := F) T).atD 1 ![0]) == 1#1)) := rfl
  rw [e, nu_wordD]
  unfold IsFirst InUse
  rw [usedWord_eq]
  simp only [Bool.and_eq_true, Bool.not_eq_true', beq_eq_false_iff_ne, ne_eq]

/-- The output's buffer holds nothing yet exactly at its tile's first point. -/
theorem fresh_eq (t : Fin (cfgT (F := F) T).N) : (cfgT (F := F) T).fresh (4 : Fin 5) t.val = decide (t.val % 7 = 0) :=
  Pipeline.Cfg.fresh_tab (cfgT (F := F) T) (4 : Fin 5) (fun n => decide (n % 7 = 0)) rfl (fun t => by
    rw [flush_eq]
    by_cases h6 : t.val % 7 = 6
    · have : (t.val + 1) % 7 = 0 := by omega
      simp only [h6, this, decide_true, Bool.true_or]
    · have h1 : ¬(t.val + 1) % 7 = 0 := by omega
      simp only [h6, h1, decide_false, Bool.false_or]
      by_cases h0 : t.val % 7 = 0
      · have : (cfgT (F := F) T).idle (4 : Fin 5) ((cfgT (F := F) T).grid.coords t) = false := by
          rw [← Bool.not_eq_true, idle_iff]; exact fun h => h.1 ((isFirst_iff T t).2 h0)
        exact (Bool.and_eq_false_iff.2 (Or.inl this)).symm
      · simp only [h0, decide_false, Bool.and_false]) t.val (Nat.le_of_lt t.isLt)

/-! ## What the output block and the scratch buffer hold after each point -/

/-- The contents of the output's buffer and of the scratch buffer. -/
abbrev State (F : FTy → Type) : Type := (S1024x1024.Idx → Elt F .f32) × (S1024x1024.Idx → Elt F .bf16)

/-- What stands for the contents before the first point. -/
def start : State F := (k0_pay2, k0_pay1 k0_pay2)

/-- One point: from what they held before to what they hold after. -/
def step (c : Dev nD) (t : Fin (cfgT (F := F) T).N) (prev : State F) : State F :=
  (outAfter (F := F) (IsFirst (F := F) T t) (InUse (F := F) T t) (iblk T m ρ c (0 : Fin 5) t) (iblk T m ρ c (1 : Fin 5) t) (iblk T m ρ c (2 : Fin 5) t) (iblk T m ρ c (3 : Fin 5) t) prev.1 prev.2,
    keptAfter (F := F) (IsFirst (F := F) T t) (iblk T m ρ c (0 : Fin 5) t) prev.2)

/-- After position `n`. -/
def traj (c : Dev nD) : (n : ℕ) → n < (cfgT (F := F) T).N → State F
  | 0, h => step T m ρ c ⟨0, h⟩ start
  | n + 1, h => step T m ρ c ⟨n + 1, h⟩ (traj c n (Nat.lt_of_succ_lt h))

/-- Before point `t` (anything before the first). -/
def prev (c : Dev nD) (t : Fin (cfgT (F := F) T).N) : State F :=
  if h : t.val = 0 then start else traj T m ρ c (t.val - 1) (by omega)

theorem traj_eq (c : Dev nD) (t : Fin (cfgT (F := F) T).N) : traj T m ρ c t.val t.isLt = step T m ρ c t (prev T m ρ c t) := by
  obtain ⟨n, hn⟩ := t
  cases n with
  | zero => rfl
  | succ n => unfold prev; simp only [Nat.add_one_ne_zero, dif_neg, not_false_eq_true]; rfl

/-- What they held before position `t` of one more than the points. -/
def prevT (c : Dev nD) (t : Fin ((cfgT (F := F) T).N + 1)) : State F :=
  if h : t.val = 0 then start else traj T m ρ c (t.val - 1) (by omega)

theorem prevT_castSucc (c : Dev nD) (t : Fin (cfgT (F := F) T).N) : prevT T m ρ c t.castSucc = prev T m ρ c t := by
  unfold prevT prev; simp only [Fin.val_castSucc]
theorem prevT_succ (c : Dev nD) (t : Fin (cfgT (F := F) T).N) : prevT T m ρ c t.succ = traj T m ρ c t.val t.isLt := by
  unfold prevT; simp only [Fin.val_succ, Nat.add_one_ne_zero, ↓reduceDIte, Nat.add_one_sub_one]

/-- At a tile's first point the buffers' earlier contents do not matter. -/
theorem keptAfter_first (p : Prop) [Decidable p] (hp : p) (x0 : S1024x1024.Idx → Elt F .f32) (s s' : S1024x1024.Idx → Elt F .bf16) :
    keptAfter p x0 s = keptAfter p x0 s' := by unfold keptAfter; rw [if_pos hp, if_pos hp]
theorem outAfter_first (p q : Prop) [Decidable p] [Decidable q] (hp : p) (x0 : S1024x1024.Idx → Elt F .f32) (x1 x2 : S1x1x1024x512.Idx → Elt F .f32) (x3 : S1x1x512x1024.Idx → Elt F .f32)
    (o o' : S1024x1024.Idx → Elt F .f32) (s s' : S1024x1024.Idx → Elt F .bf16) :
    outAfter p q x0 x1 x2 x3 o s = outAfter p q x0 x1 x2 x3 o' s' := by
  unfold outAfter; rw [keptAfter_first p hp x0 s s', if_pos hp, if_pos hp]
/-- At a later point of a tile not in use the output keeps what it held. -/
theorem outAfter_idle (p q : Prop) [Decidable p] [Decidable q] (hp : ¬p) (hq : ¬q) (x0 : S1024x1024.Idx → Elt F .f32) (x1 x2 : S1x1x1024x512.Idx → Elt F .f32) (x3 : S1x1x512x1024.Idx → Elt F .f32)
    (o : S1024x1024.Idx → Elt F .f32) (s : S1024x1024.Idx → Elt F .bf16) :
    outAfter p q x0 x1 x2 x3 o s = o := by
  unfold outAfter; rw [if_neg hp, if_neg hq]

/-! ## The pipeline's proof data -/

/-- The invariant before point `t`: the scratch buffer at what the steps say once a point has run, and the body's halves of the tables. -/
def Phi (c : Dev nD) (t : Fin ((cfgT (F := F) T).N + 1)) : sProp 𝕄 :=
  iprop((∃ a : S1024x1024.Idx → Elt F .bf16, ⌜t.val ≠ 0 → a = (prevT T m ρ c t).2⌝ ∗ (scM.view.loc (c : Thread nD τ) ↦{fullShare} a))
    ∗ (teM.view.loc (c : Thread nD τ) ↦{fullShare.right} T.te) ∗ (nuM.view.loc (c : Thread nD τ) ↦{fullShare.right} T.nu))

/-- The proof data of the one pipeline on core `c`. -/
def dats (_ : Fin 1) (c : Dev nD) : Dat τ (Elt F) Unit ℕ (UR sig nD τ) ℕ (cfgT (F := F) T) c where
  A w := (s₀ m ρ).mem (((cfgT (F := F) T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj T m ρ c t.val t.isLt).1
  Φ t := Phi T m ρ c t
  q _ := fullShare
  owed _ := 0

theorem after_0 (c : Dev nD) (t : Fin (cfgT (F := F) T).N) : (dats T m ρ 0 c).after (0 : Fin 5) t = iblk T m ρ c (0 : Fin 5) t := rfl
theorem after_1 (c : Dev nD) (t : Fin (cfgT (F := F) T).N) : (dats T m ρ 0 c).after (1 : Fin 5) t = iblk T m ρ c (1 : Fin 5) t := rfl
theorem after_2 (c : Dev nD) (t : Fin (cfgT (F := F) T).N) : (dats T m ρ 0 c).after (2 : Fin 5) t = iblk T m ρ c (2 : Fin 5) t := rfl
theorem after_3 (c : Dev nD) (t : Fin (cfgT (F := F) T).N) : (dats T m ρ 0 c).after (3 : Fin 5) t = iblk T m ρ c (3 : Fin 5) t := rfl
theorem after_4 (c : Dev nD) (t : Fin (cfgT (F := F) T).N) : (dats T m ρ 0 c).after (4 : Fin 5) t = (traj T m ρ c t.val t.isLt).1 := rfl

/-- Each input's buffer holds its block when the body runs, fetched at the point or kept from before. -/
theorem before_0 (c : Dev nD) (t : Fin (cfgT (F := F) T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgT (F := F) T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgT (F := F) T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgT (F := F) T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The output's contents carry through the points that leave it alone. -/
theorem carry_4 (c : Dev nD) : ∀ (t : Fin (cfgT (F := F) T).N) (ht : t.val ≠ 0), (cfgT (F := F) T).idle (4 : Fin 5) ((cfgT (F := F) T).grid.coords t) = true → (cfgT (F := F) T).fresh (4 : Fin 5) t.val = false →
    (dats T m ρ 0 c).after (4 : Fin 5) t = (dats T m ρ 0 c).after (4 : Fin 5) ⟨t.val - 1, by omega⟩ := by
  intro t ht hi hf
  obtain ⟨h1, h2⟩ := (idle_iff T t).1 hi
  rw [after_4, after_4, traj_eq]
  unfold step
  refine (outAfter_idle _ _ h1 h2 _ _ _ _ _ _).trans ?_
  unfold prev; rw [dif_neg ht]

/-- The output's buffer holds, when the body runs at `t`: anything at a tile's first point, else what the point before left. -/
theorem before_4 (c : Dev nD) (t : Fin (cfgT (F := F) T).N) (d) :
    (dats T m ρ 0 c).before (4 : Fin 5) t d = if t.val % 7 = 0 then d else (prev T m ρ c t).1 := by
  rw [(dats T m ρ 0 c).before_out_traj (4 : Fin 5) rfl (fun _ _ => rfl) (carry_4 T m ρ c) t.val t rfl d, fresh_eq]
  by_cases hf : t.val % 7 = 0
  · simp only [hf, decide_true, ↓reduceIte]
  · have h0 : t.val ≠ 0 := fun h0 => hf (by omega)
    simp only [hf, decide_false, Bool.false_eq_true, ↓reduceIte, after_4]; unfold prev; rw [dif_neg h0]

/-- The output's contents after a point, from any contents its buffers may hold before. -/
theorem out_after (c : Dev nD) (t : Fin (cfgT (F := F) T).N) (d) (a : S1024x1024.Idx → Elt F .bf16) (ha : t.val ≠ 0 → a = (prev T m ρ c t).2) :
    outAfter (F := F) (IsFirst (F := F) T t) (InUse (F := F) T t) (iblk T m ρ c (0 : Fin 5) t) (iblk T m ρ c (1 : Fin 5) t) (iblk T m ρ c (2 : Fin 5) t) (iblk T m ρ c (3 : Fin 5) t)
      ((dats T m ρ 0 c).before (4 : Fin 5) t d) a = (traj T m ρ c t.val t.isLt).1 := by
  rw [traj_eq, before_4]
  by_cases h : t.val % 7 = 0
  · exact outAfter_first _ _ ((isFirst_iff T t).2 h) _ _ _ _ _ _ _ _
  · rw [if_neg h, ha (by omega)]; rfl

/-- The scratch buffer's contents after a point, likewise. -/
theorem kept_after (c : Dev nD) (t : Fin (cfgT (F := F) T).N) (a : S1024x1024.Idx → Elt F .bf16) (ha : t.val ≠ 0 → a = (prev T m ρ c t).2) :
    keptAfter (F := F) (IsFirst (F := F) T t) (iblk T m ρ c (0 : Fin 5) t) a = (traj T m ρ c t.val t.isLt).2 := by
  rw [traj_eq]
  by_cases h : t.val = 0
  · exact keptAfter_first _ ((isFirst_iff T t).2 (by omega)) _ _ _
  · rw [ha h]; rfl

/-- The body at point `t` on its staging buffers, as the pipeline calls it. -/
abbrev bodyAt (t : Fin (cfgT (F := F) T).N) : Prog (TpuEff nD τ sig (Elt F) Λ₀ .tc) PUnit :=
  cc0_moe_experts (crd T t) (Memref.whole main_arg0) (Memref.isWhole_whole _) (Memref.whole main_arg1) (Memref.isWhole_whole _) (bufX T t) (bufX_whole T t) (bufG T t) (bufG_whole T t) (bufU T t) (bufU_whole T t) (bufD T t) (bufD_whole T t) (bufO T t) (bufO_whole T t) (Memref.whole cc0_scratch0) (Memref.isWhole_whole _)

set_option maxHeartbeats 4000000 in
/-- The body obligation at point `t`. -/
theorem sound_body (c : Dev nD) (t : Fin (cfgT (F := F) T).N) :
    iprop((dats T m ρ 0 c).Φ t.castSucc ∗ (dats T m ρ 0 c).owesAt () t.castSucc
        ∗ (∃ d, owns (c : Thread nD τ) (bufX T t) fullShare ((dats T m ρ 0 c).before (0 : Fin 5) t d))
        ∗ (∃ d, owns (c : Thread nD τ) (bufG T t) fullShare ((dats T m ρ 0 c).before (1 : Fin 5) t d))
        ∗ (∃ d, owns (c : Thread nD τ) (bufU T t) fullShare ((dats T m ρ 0 c).before (2 : Fin 5) t d))
        ∗ (∃ d, owns (c : Thread nD τ) (bufD T t) fullShare ((dats T m ρ 0 c).before (3 : Fin 5) t d))
        ∗ (∃ d, owns (c : Thread nD τ) (bufO T t) fullShare ((dats T m ρ 0 c).before (4 : Fin 5) t d)))
      ⊢ wp frame (wpE (defs₀ (F := F)) Variants.none c none) Set.univ (bodyAt T t) fun _ =>
          iprop((dats T m ρ 0 c).Φ t.succ ∗ (dats T m ρ 0 c).owesAt () t.succ
            ∗ bigSep Finset.univ fun w : Fin (cfgT (F := F) T).W =>
                match (cfgT (F := F) T).idle w ((cfgT (F := F) T).grid.coords t) with
                | true =>
                  match ((cfgT (F := F) T).win w).flush t with
                  | false => iprop(∃ d, owns (c : Thread nD τ) (((cfgT (F := F) T).win w).stage ((cfgT (F := F) T).slots t w)) fullShare ((dats T m ρ 0 c).before w t d))
                  | true => owns (c : Thread nD τ) (((cfgT (F := F) T).win w).stage ((cfgT (F := F) T).slots t w)) fullShare ((dats T m ρ 0 c).after w t)
                | false => owns (c : Thread nD τ) (((cfgT (F := F) T).win w).stage ((cfgT (F := F) T).slots t w)) fullShare ((dats T m ρ 0 c).after w t)) := by
  rw [bigSep_W0]
  cases i4 : (cfgT (F := F) T).idle (4 : Fin 5) ((cfgT (F := F) T).grid.coords t)
  · simp only [before_0, before_1, before_2, before_3, after_0, after_1, after_2, after_3, after_4]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    unfold Phi; simp only [prevT_castSucc, prevT_succ, Fin.val_castSucc, Fin.val_succ]
    iintro ⟨⟨⟨%a0, %ha0, HS0⟩, HT0, HT1⟩, Ho, ⟨%d0, H0⟩, ⟨%d1, H1⟩, ⟨%d2, H2⟩, ⟨%d3, H3⟩, ⟨%d4, H4⟩⟩
    iapply (body_run c (crd T t) (bufX T t) (bufX_whole T t) (bufG T t) (bufG_whole T t) (bufU T t) (bufU_whole T t) (bufD T t) (bufD_whole T t) (bufO T t) (bufO_whole T t) T.te T.nu
      (iblk T m ρ c (0 : Fin 5) t) (iblk T m ρ c (1 : Fin 5) t) (iblk T m ρ c (2 : Fin 5) t) (iblk T m ρ c (3 : Fin 5) t) ((dats T m ρ 0 c).before (4 : Fin 5) t d4) a0 _)
    rw [out_after T m ρ c t d4 a0 ha0, kept_after T m ρ c t a0 ha0]
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    iintro ⟨H0, H1, H2, H3, HT0, HT1, H4, HS0⟩
    isplitl [HS0 HT0 HT1]
    · isplitl [HS0]
      · iexists _; isplitr; swap
        · iexact HS0
        · ipureintro; intro _; rfl
      isplitl [HT0]
      · iexact HT0
      iexact HT1
    isplitl [Ho]; · iexact Ho
    isplitl [H0]; · iexact H0
    isplitl [H1]; · iexact H1
    isplitl [H2]; · iexact H2
    isplitl [H3]; · iexact H3
    iexact H4
  · obtain ⟨h1, h2⟩ := (idle_iff T t).1 i4
    cases f4 : ((cfgT (F := F) T).win (4 : Fin 5)).flush t
    all_goals
      simp only [before_0, before_1, before_2, before_3, after_0, after_1, after_2, after_3, after_4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      unfold Phi; simp only [prevT_castSucc, prevT_succ, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply (body_run c (crd T t) (bufX T t) (bufX_whole T t) (bufG T t) (bufG_whole T t) (bufU T t) (bufU_whole T t) (bufD T t) (bufD_whole T t) (bufO T t) (bufO_whole T t) T.te T.nu
        (iblk T m ρ c (0 : Fin 5) t) (iblk T m ρ c (1 : Fin 5) t) (iblk T m ρ c (2 : Fin 5) t) (iblk T m ρ c (3 : Fin 5) t) ((dats T m ρ 0 c).before (4 : Fin 5) t d4) a0 _)
      have eo := out_after T m ρ c t d4 a0 ha0
      rw [kept_after T m ρ c t a0 ha0]
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]; · iexact H0
      isplitl [H1]; · iexact H1
      isplitl [H2]; · iexact H2
      isplitl [H3]; · iexact H3
      first
        | (rw [outAfter_idle _ _ h1 h2]; iexists d4; iexact H4)
        | (rw [eo]; iexact H4)

/-- The library's body obligation, at every point. -/
theorem body_obligation (c : Dev nD) : BodyObligation (dats T m ρ 0 c) (defs₀ (F := F)) Variants.none () Set.univ := fun t => by
  rw [bigSep_W0]
  exact sound_body T m ρ c t

/-! ## The launch -/

/-- The launch element of the rounds. -/
def u₀ : UR sig nD τ :=
  initOf (Pipeline.cells (pcsT (F := F) T) ((launch0 (F := F)).cellOf_inj fun _ => adm T))
    (Pipeline.launchToks (pcsT (F := F) T) ((launch0 (F := F)).cellOf_inj fun _ => adm T))

theorem share_eq (c : Dev nD) (w : Fin (cfgT (F := F) T).W) : (dats T m ρ 0 c).share w = fullShare := by unfold Dat.share; split <;> rfl

/-- The tables as the launch hands them to the region, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffer; -/
theorem phi_start (c : Dev nD) :
    iprop(BI.emp ∗ Pipeline.prefHeld pre0 c (fun _ => fullShare.right) (adm (F := F) T).1 ∗ Pipeline.scopedRest spec0 c) ⊢ (dats T m ρ 0 c).Φ 0 := by
  rw [tables_held, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; intro h; exact absurd rfl h
  isplitl [HT0]
  · iexact HT0
  iexact HT1

/-- at the last point it gives the scratch buffer back. -/
theorem phi_end (c : Dev nD) : (dats T m ρ 0 c).Φ (Fin.last (cfgT (F := F) T).N) ⊢ iprop(BI.emp ∗ Pipeline.scopedRest spec0 c) := by
  rw [scopedRest0_eq, show (dats T m ρ 0 c).Φ (Fin.last (cfgT (F := F) T).N) = Phi T m ρ c (Fin.last _) from rfl]
  unfold Phi
  iintro ⟨⟨%a0, -, HS0⟩, -, -⟩
  isplitr; · iempintro
  iexists a0; iexact HS0

/-- Every array ends at what the write-backs leave in it, and the tables end as they were. -/
def Ends : PUnit × MemSt nD τ sig (Elt F) → Prop := fun r =>
  ∀ c : Dev nD, (∀ w : Fin (cfgT (F := F) T).W, r.2.mem (((cfgT (F := F) T).win w).arr.view.loc (c : Thread nD τ)) = (dats T m ρ 0 c).arrAt w (cfgT (F := F) T).N)
    ∧ ∀ j, r.2.mem ((c : Thread nD τ).loc (pre0.ref j)) = (adm (F := F) T).1 j

theorem tables_at (hp : Holds T m) (c : Dev nD) (j : Fin 2) : m ((c : Thread nD τ).loc (pre0.ref j)) = (adm (F := F) T).1 j := by
  fin_cases j
  · exact hp.1 c
  · exact hp.2 c

set_option backward.isDefEq.respectTransparency.types false in
set_option maxHeartbeats 4000000 in
/-- From any memory that holds the tables, every weakly fair execution ends, each array at the computed contents and every
    counter at zero. -/
theorem run_quiescent (hp : Holds T m) : θ_run (defs (F := F)) (onTc (τ := τ) (main (F := F))) (s₀ m ρ) (fun r => Ends T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre emb₁ defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT T) (dats T m ρ) 0 (launch0 (F := F)).win.arr_inj c (launch0 (F := F)).arr_whole
      (share_eq T m ρ c) _ _ fun _ => rfl)
    (hpf := tables_at T m hp)
    (X := fun _ => iprop(emp)) (Y := fun _ => iprop(emp)) (Z := fun _ => iprop(emp))
    (hX := fun c => by rw [unscopedRestP0_eq]; iintro -; isplitr <;> iempintro)
    (hin := phi_start T m ρ)
    (hout := phi_end T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: every execution ends, the argument arrays unchanged and every counter at zero. -/
theorem frame_run (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp.1 c).symm, ((h.1 c).2 1).trans (hp.2 c).symm,
    ((h.1 c).1 (0 : Fin 5)).trans ((dats T m ρ 0 c).arrAt_in (0 : Fin 5) rfl _), ((h.1 c).1 (1 : Fin 5)).trans ((dats T m ρ 0 c).arrAt_in (1 : Fin 5) rfl _),
    ((h.1 c).1 (2 : Fin 5)).trans ((dats T m ρ 0 c).arrAt_in (2 : Fin 5) rfl _), ((h.1 c).1 (3 : Fin 5)).trans ((dats T m ρ 0 c).arrAt_in (3 : Fin 5) rfl _)⟩, h.2⟩)
    (run_quiescent T m ρ hp)

end Cert.Kernel2Ideal.Experts

end
-- ==== Proof.ExpertsPre.lean ====
/- What the precondition says of the two tables: every expert is one of the eight, and at least one tile is in use. -/
module

public import proofs.«01_k».proof.Defs
public import proofs.«01_k».proof.Proof.Gen.Pre_tables
public import proofs.«01_k».proof.Proof.ExpertsTables
public import Idealize.ShloMosaic.Lib.ReduceAll

@[expose] public section

noncomputable section

open Idealize.ShloMosaic

namespace Cert.Pre_tables

/-- A word that is at least zero and below eight, both signed, is below eight. -/
theorem lt_eight (x : BitVec 32) (h0 : IntOp.cmpi .sge x 0#32 = 1#1) (h1 : IntOp.cmpi .slt x 8#32 = 1#1) : x.toNat < 8 := by
  rw [WordCmp.cmpi_sge_eq] at h0
  rw [WordCmp.cmpi_slt_eq] at h1
  have e := BitVec.toInt_eq_toNat_cond x
  have h0' : (0#32 : BitVec 32).toInt ≤ x.toInt := by
    by_contra h; rw [decide_eq_false h] at h0; exact absurd h0 (by decide)
  have h1' : x.toInt < (8#32 : BitVec 32).toInt := by
    by_contra h; rw [decide_eq_false h] at h1; exact absurd h1 (by decide)
  have e0 : (0#32 : BitVec 32).toInt = 0 := by decide
  have e8 : (8#32 : BitVec 32).toInt = 8 := by decide
  have := x.isLt
  split at e <;> omega

/-- A word that is at least one, signed, is at least one and below 2 ^ 31. -/
theorem positive (x : BitVec 32) (h0 : IntOp.cmpi .sge x 1#32 = 1#1) : 1 ≤ x.toNat ∧ x.toNat < 2 ^ 31 := by
  rw [WordCmp.cmpi_sge_eq] at h0
  have e := BitVec.toInt_eq_toNat_cond x
  have h0' : (1#32 : BitVec 32).toInt ≤ x.toInt := by
    by_contra h; rw [decide_eq_false h] at h0; exact absurd h0 (by decide)
  have e0 : (1#32 : BitVec 32).toInt = 1 := by decide
  have := x.isLt
  split at e <;> omega

variable {F : FTy → Type} [FloatOps F] [Facts]
  (te : IVec S44 32) (nu : IVec S1 32) (x : FVec F S45056x1024 .f32) (g u : FVec F S2x8x1024x3584 .f32) (d : FVec F S2x8x3584x1024 .f32)

/-- Where the predicate holds the tables are of the stated range. -/
theorem ranges_of_fn (h : fn (F := F) te nu x g u d = fun _ => 1#1) :
    (∀ i, (te i).toNat < 8) ∧ ∀ i, 1 ≤ (nu i).toNat ∧ (nu i).toNat < 2 ^ 31 := by
  have h0 := congrFun h (fun a => a.elim0)
  dsimp only [fn] at h0
  obtain ⟨h1, h2⟩ := IntOp.andi_eq_one.1 h0
  obtain ⟨h3, h4⟩ := IntOp.andi_eq_one.1 h1
  exact ⟨fun i => lt_eight _ (Host.reduce_andi_all (t := S_) _ _ _ _ _ h3 i) (Host.reduce_andi_all (t := S_) _ _ _ _ _ h4 i),
    fun i => positive _ (Host.reduce_andi_all (t := S_) _ _ _ _ _ h2 i)⟩

/-- The tables, with their ranges. -/
def tablesOf (h : fn (F := F) te nu x g u d = fun _ => 1#1) : Cert.Kernel2Ideal.Experts.Tables :=
  ⟨te, nu, (ranges_of_fn te nu x g u d h).1, fun i => ((ranges_of_fn te nu x g u d h).2 i).1, fun i => ((ranges_of_fn te nu x g u d h).2 i).2⟩

end Cert.Pre_tables

end
-- ==== Proof.ExpertsBits.lean ====
/- The frames of the experts' call: of the program as printed and of its idealization, both from the one run at given tables. -/
module

public import proofs.«01_k».proof.Proof.Gen.Kernel2
public import proofs.«01_k».proof.Proof.ExpertsFrame
public import proofs.«01_k».proof.Proof.ExpertsPre

@[expose] public section

set_option maxRecDepth 16384

noncomputable section

open Idealize.ShloMosaic Idealize.ShloMosaic.TcCoe Idealize.SL.Sem

namespace Cert.Kernel2Ideal.Experts

/-- The one device. -/
theorem dev_eq (c : Dev nD) : c = ⟨0, by decide⟩ := by
  exact Fin.ext (Nat.lt_one_iff.mp c.isLt)

/-- A launch memory that meets the precondition holds tables of the stated range. -/
theorem holds_of_pre (m : (ℓ : Loc nD τ sig) → Buf (Elt Ideal) ℓ) (h : Cert.Pre_Kernel2Ideal (hPre_tables := Cert.Pre_tables.Gen.facts) m) :
    ∃ T : Tables, Holds T m :=
  ⟨Cert.Pre_tables.tablesOf _ _ _ _ _ _ (h ⟨0, by decide⟩), fun c => by rw [dev_eq c]; rfl, fun c => by rw [dev_eq c]; rfl⟩

/-- The idealized program's frame. -/
theorem quiescent_ideal : Cert.quiescent_Kernel2Ideal (hKernel2Ideal := Cert.Kernel2Ideal.Gen.facts) (hPre_tables := Cert.Pre_tables.Gen.facts) := fun m ρ h =>
  (holds_of_pre m h).elim fun T hT => frame_run T m ρ hT

/-- A launch memory of the program as printed, likewise. -/
theorem holds_of_pre_bits (m : (ℓ : Loc Cert.Kernel2.nD Cert.Kernel2.τ Cert.Kernel2.sig) → Buf (Elt Bits) ℓ) (h : Cert.Pre_Kernel2 (hPre_tables := Cert.Pre_tables.Gen.facts) m) :
    ∃ T : Tables, (∀ c : Dev Cert.Kernel2.nD, m ((c.tc : Thread Cert.Kernel2.nD Cert.Kernel2.τ).loc Cert.Kernel2.main_arg0) = T.te)
      ∧ (∀ c : Dev Cert.Kernel2.nD, m ((c.tc : Thread Cert.Kernel2.nD Cert.Kernel2.τ).loc Cert.Kernel2.main_arg1) = T.nu) :=
  ⟨Cert.Pre_tables.tablesOf _ _ _ _ _ _ (h ⟨0, by decide⟩), fun c => by rw [show c = ⟨0, by decide⟩ from dev_eq c]; rfl, fun c => by rw [show c = ⟨0, by decide⟩ from dev_eq c]; rfl⟩

section Same
variable {F : FTy → Type} [FloatOps F]

/-- The two programs' bodies are one table of definitions. -/
theorem bodies_eq : Cert.Kernel2.defs₀ (F := F) = Cert.Kernel2Ideal.defs₀ (F := F) := by
  unfold Cert.Kernel2.defs₀ Cert.Kernel2Ideal.defs₀
  refine congrArg (Defs.onTc (τ := Cert.Kernel2Ideal.τ) (sig := Cert.Kernel2Ideal.sig) (Val := Elt F) (Λ := Cert.Kernel2Ideal.Λ₀)) ?_
  funext l x
  match l, x with
  | ⟨0, _⟩, (t, s) => rfl

/-- The two programs' pipelines over those bodies are one table of definitions. -/
theorem defs_eq : Cert.Kernel2.defs (F := F) = Cert.Kernel2Ideal.defs (F := F) := by
  unfold Cert.Kernel2.defs Cert.Kernel2Ideal.defs
  exact congrArg (Pipeline.defs (Cert.Kernel2Ideal.pcfgs (F := F))) bodies_eq

/-- The two entry points are one program. -/
theorem main_eq : Cert.Kernel2.main (F := F) = Cert.Kernel2Ideal.main (F := F) := by
  unfold Cert.Kernel2.main Cert.Kernel2Ideal.main
  rfl

/-- A run of the idealized program's text is a run of the printed program's. -/
theorem run_same (m : (ℓ : Loc Cert.Kernel2Ideal.nD Cert.Kernel2Ideal.τ Cert.Kernel2Ideal.sig) → Buf (Elt F) ℓ) (ρ : Dev Cert.Kernel2Ideal.nD → PrngReg) (Q : _ → Prop)
    (h : θ_run (Cert.Kernel2Ideal.defs (F := F)) (onTc (τ := Cert.Kernel2Ideal.τ) (Cert.Kernel2Ideal.main (F := F))) ⟨m, fun _ => 0, ρ⟩ Q) :
    θ_run (Cert.Kernel2.defs (F := F)) (onTc (τ := Cert.Kernel2.τ) (Cert.Kernel2.main (F := F))) ⟨m, fun _ => 0, ρ⟩ Q :=
  Eq.mpr (congrArg₂ (fun D M => θ_run D (onTc (τ := Cert.Kernel2Ideal.τ) M) ⟨m, fun _ => 0, ρ⟩ Q) (defs_eq (F := F)) (main_eq (F := F))) h

end Same

/-- The frame of the program as printed: its text is the idealized program's, so the same run is its run. -/
theorem quiescent_bits : Cert.quiescent_Kernel2 (hKernel2 := Cert.Kernel2.Gen.facts) (hPre_tables := Cert.Pre_tables.Gen.facts) := fun m ρ h =>
  (holds_of_pre_bits m h).elim fun T hT => run_same _ _ _ (frame_run (F := Bits) T m ρ hT)

end Cert.Kernel2Ideal.Experts

end
-- ==== Proof.ExpertsBlocks.lean ====
/- The blocks the experts' call stages at a point of a tile in use, at an index of the arrays they are read from. -/
module

public import proofs.«01_k».proof.Proof.ExpertsFrame
public import Idealize.ShloMosaic.Lib.Pointwise

@[expose] public section

set_option maxRecDepth 16384

noncomputable section

namespace Cert.Kernel2Ideal.Experts

open Cert.Kernel2Ideal Cert.Kernel2Ideal.Gen
open Idealize.ShloMosaic Idealize.ShloMosaic.TcCoe

variable (T : Tables) (m : (ℓ : Loc nD τ sig) → Buf (Elt Ideal) ℓ) (ρ : Dev nD → PrngReg)

/-- The points of the grid are 308: seven for each of 44 tiles. -/
theorem lt_308 (t : Fin (cfgT (F := Ideal) T).N) : t.val < 308 := lt_of_lt_of_eq t.isLt N_0

/-- The rows' block, in a tile in use: the tile's rows. -/
theorem blk_x (c : Dev nD) (t : Fin (cfgT (F := Ideal) T).N) (hu : t.val / 7 < T.used) (r k : Fin 1024) :
    @Eq EReal (iblk T m ρ c (0 : Fin 5) t (ix2 r k : S1024x1024.Idx))
      (m ((c : Thread nD τ).loc main_arg2) (ix2 (⟨1024 * (t.val / 7) + r.val, by have := lt_308 T t; omega⟩ : Fin 45056) k)) := by
  have e := rows_index (F := Ideal) T (crd (F := Ideal) T t)
  rw [(coords_vals t).1, Nat.min_eq_left (by omega)] at e
  unfold iblk
  show m ((c : Thread nD τ).loc main_arg2) ((((cfgT (F := Ideal) T).win (0 : Fin 5)).rect t).emb (ix2 r k : S1024x1024.Idx)) = _
  congr 1
  funext a
  apply Fin.ext
  rw [Pipeline.Window.rect_emb_val ((cfgT (F := Ideal) T).win (0 : Fin 5)) _ _ _ rfl]
  match a with
  | ⟨0, _⟩ => have e0 : ((cfgT (F := Ideal) T).win (0 : Fin 5)).index t 0 = t.val / 7 := congrFun e 0
              show ((cfgT (F := Ideal) T).win (0 : Fin 5)).index t 0 * 1024 + r.val = 1024 * (t.val / 7) + r.val; rw [e0]; omega
  | ⟨1, _⟩ => have e1 : ((cfgT (F := Ideal) T).win (0 : Fin 5)).index t 1 = 0 := congrFun e 1
              show ((cfgT (F := Ideal) T).win (0 : Fin 5)).index t 1 * 1024 + k.val = k.val; rw [e1]; omega

/-- A point's tile. -/
def tileOf (t : Fin (cfgT (F := Ideal) T).N) : Fin 44 := ⟨t.val / 7, by have := lt_308 T t; omega⟩

theorem expert_used (t : Fin (cfgT (F := Ideal) T).N) : (T.te (ix1 ((crd (F := Ideal) T t) 0))).toNat = (T.expert (tileOf T t)).val := by
  have e : (crd (F := Ideal) T t) 0 = tileOf T t := Fin.ext (coords_vals t).1
  rw [e]; rfl

theorem colIndex_used (t : Fin (cfgT (F := Ideal) T).N) (hu : t.val / 7 < T.used) : colIndex T (crd (F := Ideal) T t) = t.val % 7 := by
  have e0 : ((crd (F := Ideal) T t) 0).val = t.val / 7 := (coords_vals t).1
  have e1 : ((crd (F := Ideal) T t) 1).val = t.val % 7 := (coords_vals t).2
  unfold colIndex
  rw [e0, e1, if_pos hu]

/-- The gate's column block: the tile's expert, the point's 512 hidden units. -/
theorem blk_gate (c : Dev nD) (t : Fin (cfgT (F := Ideal) T).N) (hu : t.val / 7 < T.used) (k : Fin 1024) (l : Fin 512) :
    @Eq EReal (iblk T m ρ c (1 : Fin 5) t (ix4 0 0 k l : S1x1x1024x512.Idx))
      (m ((c : Thread nD τ).loc main_arg3) (ix4 (0 : Fin 2) (T.expert (tileOf T t)) k (⟨512 * (t.val % 7) + l.val, by omega⟩ : Fin 3584))) := by
  have e := gate_index (F := Ideal) T (crd (F := Ideal) T t)
  rw [colIndex_used T t hu, expert_used T t] at e
  unfold iblk
  show m ((c : Thread nD τ).loc main_arg3) ((((cfgT (F := Ideal) T).win (1 : Fin 5)).rect t).emb (ix4 0 0 k l : S1x1x1024x512.Idx)) = _
  congr 1
  funext a
  apply Fin.ext
  rw [Pipeline.Window.rect_emb_val ((cfgT (F := Ideal) T).win (1 : Fin 5)) _ _ _ rfl]
  match a with
  | ⟨0, _⟩ => have e0 : ((cfgT (F := Ideal) T).win (1 : Fin 5)).index t 0 = 0 := congrFun e 0
              show ((cfgT (F := Ideal) T).win (1 : Fin 5)).index t 0 * 1 + 0 = 0; rw [e0]
  | ⟨1, _⟩ => have e1 : ((cfgT (F := Ideal) T).win (1 : Fin 5)).index t 1 = (T.expert (tileOf T t)).val := congrFun e 1
              show ((cfgT (F := Ideal) T).win (1 : Fin 5)).index t 1 * 1 + 0 = (T.expert (tileOf T t)).val; rw [e1]; omega
  | ⟨2, _⟩ => have e2 : ((cfgT (F := Ideal) T).win (1 : Fin 5)).index t 2 = 0 := congrFun e 2
              show ((cfgT (F := Ideal) T).win (1 : Fin 5)).index t 2 * 1024 + k.val = k.val; rw [e2]; omega
  | ⟨3, _⟩ => have e3 : ((cfgT (F := Ideal) T).win (1 : Fin 5)).index t 3 = t.val % 7 := congrFun e 3
              show ((cfgT (F := Ideal) T).win (1 : Fin 5)).index t 3 * 512 + l.val = 512 * (t.val % 7) + l.val; rw [e3]; omega

/-- The other column block, likewise. -/
theorem blk_up (c : Dev nD) (t : Fin (cfgT (F := Ideal) T).N) (hu : t.val / 7 < T.used) (k : Fin 1024) (l : Fin 512) :
    @Eq EReal (iblk T m ρ c (2 : Fin 5) t (ix4 0 0 k l : S1x1x1024x512.Idx))
      (m ((c : Thread nD τ).loc main_arg4) (ix4 (0 : Fin 2) (T.expert (tileOf T t)) k (⟨512 * (t.val % 7) + l.val, by omega⟩ : Fin 3584))) := by
  have e := up_index (F := Ideal) T (crd (F := Ideal) T t)
  rw [colIndex_used T t hu, expert_used T t] at e
  unfold iblk
  show m ((c : Thread nD τ).loc main_arg4) ((((cfgT (F := Ideal) T).win (2 : Fin 5)).rect t).emb (ix4 0 0 k l : S1x1x1024x512.Idx)) = _
  congr 1
  funext a
  apply Fin.ext
  rw [Pipeline.Window.rect_emb_val ((cfgT (F := Ideal) T).win (2 : Fin 5)) _ _ _ rfl]
  match a with
  | ⟨0, _⟩ => have e0 : ((cfgT (F := Ideal) T).win (2 : Fin 5)).index t 0 = 0 := congrFun e 0
              show ((cfgT (F := Ideal) T).win (2 : Fin 5)).index t 0 * 1 + 0 = 0; rw [e0]
  | ⟨1, _⟩ => have e1 : ((cfgT (F := Ideal) T).win (2 : Fin 5)).index t 1 = (T.expert (tileOf T t)).val := congrFun e 1
              show ((cfgT (F := Ideal) T).win (2 : Fin 5)).index t 1 * 1 + 0 = (T.expert (tileOf T t)).val; rw [e1]; omega
  | ⟨2, _⟩ => have e2 : ((cfgT (F := Ideal) T).win (2 : Fin 5)).index t 2 = 0 := congrFun e 2
              show ((cfgT (F := Ideal) T).win (2 : Fin 5)).index t 2 * 1024 + k.val = k.val; rw [e2]; omega
  | ⟨3, _⟩ => have e3 : ((cfgT (F := Ideal) T).win (2 : Fin 5)).index t 3 = t.val % 7 := congrFun e 3
              show ((cfgT (F := Ideal) T).win (2 : Fin 5)).index t 3 * 512 + l.val = 512 * (t.val % 7) + l.val; rw [e3]; omega

/-- The row block of the third weight, likewise. -/
theorem blk_down (c : Dev nD) (t : Fin (cfgT (F := Ideal) T).N) (hu : t.val / 7 < T.used) (l : Fin 512) (d : Fin 1024) :
    @Eq EReal (iblk T m ρ c (3 : Fin 5) t (ix4 0 0 l d : S1x1x512x1024.Idx))
      (m ((c : Thread nD τ).loc main_arg5) (ix4 (0 : Fin 2) (T.expert (tileOf T t)) (⟨512 * (t.val % 7) + l.val, by omega⟩ : Fin 3584) d)) := by
  have e := down_index (F := Ideal) T (crd (F := Ideal) T t)
  rw [colIndex_used T t hu, expert_used T t] at e
  unfold iblk
  show m ((c : Thread nD τ).loc main_arg5) ((((cfgT (F := Ideal) T).win (3 : Fin 5)).rect t).emb (ix4 0 0 l d : S1x1x512x1024.Idx)) = _
  congr 1
  funext a
  apply Fin.ext
  rw [Pipeline.Window.rect_emb_val ((cfgT (F := Ideal) T).win (3 : Fin 5)) _ _ _ rfl]
  match a with
  | ⟨0, _⟩ => have e0 : ((cfgT (F := Ideal) T).win (3 : Fin 5)).index t 0 = 0 := congrFun e 0
              show ((cfgT (F := Ideal) T).win (3 : Fin 5)).index t 0 * 1 + 0 = 0; rw [e0]
  | ⟨1, _⟩ => have e1 : ((cfgT (F := Ideal) T).win (3 : Fin 5)).index t 1 = (T.expert (tileOf T t)).val := congrFun e 1
              show ((cfgT (F := Ideal) T).win (3 : Fin 5)).index t 1 * 1 + 0 = (T.expert (tileOf T t)).val; rw [e1]; omega
  | ⟨2, _⟩ => have e2 : ((cfgT (F := Ideal) T).win (3 : Fin 5)).index t 2 = t.val % 7 := congrFun e 2
              show ((cfgT (F := Ideal) T).win (3 : Fin 5)).index t 2 * 512 + l.val = 512 * (t.val % 7) + l.val; rw [e2]; omega
  | ⟨3, _⟩ => have e3 : ((cfgT (F := Ideal) T).win (3 : Fin 5)).index t 3 = 0 := congrFun e 3
              show ((cfgT (F := Ideal) T).win (3 : Fin 5)).index t 3 * 1024 + d.val = d.val; rw [e3]; omega

theorem index_out : ∀ t : Fin grid0.N, cc0_transform_4 (grid0.coords t) = ![t.val / 7, 0] := by decide +kernel

/-- The result's block: the tile's rows. -/
theorem emb_out (t : Fin (cfgT (F := Ideal) T).N) (r d : Fin 1024) :
    (((cfgT (F := Ideal) T).win (4 : Fin 5)).blk t).view.emb (ix2 r d : S1024x1024.Idx)
      = (ix2 (⟨1024 * (t.val / 7) + r.val, by have := lt_308 T t; omega⟩ : Fin 45056) d : S45056x1024.Idx) := by
  have e := index_out t
  show (((cfgT (F := Ideal) T).win (4 : Fin 5)).rect t).emb (ix2 r d : S1024x1024.Idx) = _
  funext a
  apply Fin.ext
  rw [Pipeline.Window.rect_emb_val ((cfgT (F := Ideal) T).win (4 : Fin 5)) _ _ _ rfl]
  match a with
  | ⟨0, _⟩ => have e0 : ((cfgT (F := Ideal) T).win (4 : Fin 5)).index t 0 = t.val / 7 := congrFun e 0
              show ((cfgT (F := Ideal) T).win (4 : Fin 5)).index t 0 * 1024 + r.val = 1024 * (t.val / 7) + r.val; rw [e0]; omega
  | ⟨1, _⟩ => have e1 : ((cfgT (F := Ideal) T).win (4 : Fin 5)).index t 1 = 0 := congrFun e 1
              show ((cfgT (F := Ideal) T).win (4 : Fin 5)).index t 1 * 1024 + d.val = d.val; rw [e1]; omega

/-- The last point of a row's tile. -/
def lastOf (r : Fin 45056) : Fin (cfgT (F := Ideal) T).N :=
  ⟨7 * (r.val / 1024) + 6, lt_of_lt_of_eq (by omega : 7 * (r.val / 1024) + 6 < 308) N_0.symm⟩

/-- Every element of the result lies in a block that is written back. -/
theorem covered (i : S45056x1024.Idx) : ∃ t : Fin (cfgT (F := Ideal) T).N, ((cfgT (F := Ideal) T).win (4 : Fin 5)).flush t = true ∧ i ∈ (((cfgT (F := Ideal) T).win (4 : Fin 5)).blk t).view.set := by
  obtain ⟨r, d, rfl⟩ : ∃ (r : Fin 45056) (d : Fin 1024), i = ix2 r d := ⟨i 0, i 1, eq_ix2 i⟩
  refine ⟨lastOf T r, ?_, ?_⟩
  · rw [flush_eq]; exact decide_eq_true (by show (7 * (r.val / 1024) + 6) % 7 = 6; omega)
  · have e := emb_out T (lastOf T r) (⟨r.val % 1024, by omega⟩ : Fin 1024) d
    have hr : (⟨1024 * ((lastOf T r).val / 7) + r.val % 1024, by have := lt_308 T (lastOf T r); omega⟩ : Fin 45056) = r :=
      Fin.ext (by show 1024 * ((7 * (r.val / 1024) + 6) / 7) + r.val % 1024 = r.val; omega)
    rw [hr] at e
    rw [← e]
    exact View.emb_mem_set _ _

end Cert.Kernel2Ideal.Experts

end
-- ==== Proof.ExpertsMath.lean ====
/- The mathematics of one expert: the gated unit in its two spellings, and the sum over the hidden units cut into blocks. -/
module

public import Idealize.ShloMosaic.PureOps.Ideal
public import Idealize.ShloMosaic.PureOps.Ideal.Laws

@[expose] public section

noncomputable section

open Idealize.ShloMosaic

namespace Cert.Experts

/-- The sigmoid-weighted unit. -/
def silu (x : EReal) : EReal := Ideal.div x (1 + Ideal.exp (-x))

theorem exp_nonneg (x : EReal) : 0 ≤ Ideal.exp x := by
  induction x using EReal.rec with
  | bot => exact le_refl 0
  | top => exact le_top
  | coe r => exact EReal.coe_nonneg.2 (Real.exp_pos r).le

/-- The unit written as a product with the logistic function. -/
theorem silu_eq (x : EReal) : x * Ideal.div 1 (1 + Ideal.exp (-x)) = silu x := by
  have h : (1 + Ideal.exp (-x)) ≠ 0 := by
    have h1 : (0 : EReal) < 1 + Ideal.exp (-x) := lt_of_lt_of_le zero_lt_one (le_add_of_nonneg_right (exp_nonneg _))
    exact h1.ne'
  unfold silu Ideal.div
  rw [if_neg h, if_neg h, one_mul]

/-- One hidden unit of an expert: the unit of the row's product with the gate's column, times its product with the other column. -/
def hidden (x g u : Fin 1024 → EReal) : EReal := silu (∑ k, x k * g k) * ∑ k, x k * u k

/-- A sum over the 3584 hidden units is the sum over the seven blocks of 512. -/
theorem sum_blocks (f : Fin 3584 → EReal) :
    ∑ q, f q = ∑ j : Fin 7, ∑ l : Fin 512, f ⟨512 * j.val + l.val, by omega⟩ := by
  rw [← Fintype.sum_prod_type']
  exact (Fintype.sum_equiv (finProdFinEquiv (m := 7) (n := 512)) _ f fun x => congrArg f (Fin.ext (by
    show 512 * x.1.val + x.2.val = x.2.val + 512 * x.1.val; omega))).symm

end Cert.Experts

end
-- ==== Proof.ExpertsPay.lean ====
/- The body's payloads at an index: the kept rows, the cleared block, and the block increased by a column block's product. -/
module

public import proofs.«01_k».proof.Proof.ExpertsMath
public import proofs.«01_k».proof.Proof.Gen.Kernel2Ideal.Skeleton
public import Idealize.ShloMosaic.Lib.Pointwise

@[expose] public section

set_option maxRecDepth 16384

noncomputable section

open Idealize.ShloMosaic Idealize.ShloMosaic.TcCoe

namespace Cert.Kernel2Ideal.Experts

open Cert.Kernel2Ideal Cert.Kernel2Ideal.Gen

/-- The kept rows are the rows. -/
theorem pay1_apply (x : S1024x1024.Idx → EReal) (r k : Fin 1024) : @Eq EReal (k0_pay1 (F := Ideal) x (ix2 r k)) (x (ix2 r k)) := by
  pointwise [k0_pay1]

/-- The cleared block is zero. -/
theorem pay2_apply (r d : Fin 1024) : @Eq EReal (k0_pay2 (F := Ideal) (ix2 r d)) 0 := by
  pointwise [k0_pay2]

/-- A column block's product, added to the block. -/
theorem pay3_apply (wg wu : S1x1x1024x512.Idx → EReal) (wd : S1x1x512x1024.Idx → EReal) (x o : S1024x1024.Idx → EReal) (r d : Fin 1024) :
    @Eq EReal (k0_pay3 (F := Ideal) wg wu wd x o (ix2 r d))
      (o (ix2 r d) + ∑ l : Fin 512, Cert.Experts.hidden (fun k => x (ix2 r k)) (fun k => wg (ix4 0 0 k l)) (fun k => wu (ix4 0 0 k l)) * wd (ix4 0 0 l d)) := by
  pointwise [k0_pay3]
  unfold Cert.Experts.hidden Cert.Experts.silu
  simp only [zero_sub]

end Cert.Kernel2Ideal.Experts

end
-- ==== Proof.ExpertsValue.lean ====
/- The result of the experts' call at every index: in a tile in use the row through the tile's expert, its seven column blocks added up
   point by point; zero in the other tiles. -/
module

public import proofs.«01_k».proof.Proof.ExpertsBlocks
public import proofs.«01_k».proof.Proof.ExpertsPay
public import Idealize.ShloMosaic.Lib.Pipeline.ValueKit.Geometry

@[expose] public section

set_option maxRecDepth 16384

noncomputable section

namespace Cert.Kernel2Ideal.Experts

open Cert.Kernel2Ideal Cert.Kernel2Ideal.Gen
open Idealize.ShloMosaic Idealize.ShloMosaic.TcCoe

variable (T : Tables) (m : (ℓ : Loc nD τ sig) → Buf (Elt Ideal) ℓ) (ρ : Dev nD → PrngReg)

/-- The rows of tile `i`. -/
def rowsAt (c : Dev nD) (i : Fin 44) (r k : Fin 1024) : EReal :=
  m ((c : Thread nD τ).loc main_arg2) (ix2 (⟨1024 * i.val + r.val, by omega⟩ : Fin 45056) k)

/-- What hidden unit `f` of tile `i`'s expert adds to the result at row `r` of the tile and column `d`. -/
def share (c : Dev nD) (i : Fin 44) (r d : Fin 1024) (f : Fin 3584) : EReal :=
  Cert.Experts.hidden (rowsAt m c i r) (fun k => m ((c : Thread nD τ).loc main_arg3) (ix4 (0 : Fin 2) (T.expert i) k f))
    (fun k => m ((c : Thread nD τ).loc main_arg4) (ix4 (0 : Fin 2) (T.expert i) k f)) * (m ((c : Thread nD τ).loc main_arg5) (ix4 (0 : Fin 2) (T.expert i) f d) : EReal)

/-- What column block `s` adds. -/
def part (c : Dev nD) (i : Fin 44) (r d : Fin 1024) (s : ℕ) : EReal :=
  ∑ l : Fin 512, if h : s < 7 then share T m c i r d ⟨512 * s + l.val, by omega⟩ else 0

/-- The seven column blocks add up to all hidden units. -/
theorem sum_parts (c : Dev nD) (i : Fin 44) (r d : Fin 1024) : ∑ s ∈ Finset.range 7, part T m c i r d s = ∑ f : Fin 3584, share T m c i r d f := by
  rw [Cert.Experts.sum_blocks, Finset.sum_range]
  refine Finset.sum_congr rfl fun j _ => Finset.sum_congr rfl fun l _ => ?_
  rw [dif_pos j.isLt]

/-- One point of a tile in use adds its column block, the scratch buffer holding the tile's rows. -/
theorem pay3_part (c : Dev nD) (t : Fin (cfgT (F := Ideal) T).N) (hu : t.val / 7 < T.used) (s o : S1024x1024.Idx → EReal)
    (hs : ∀ r k, s (ix2 r k) = rowsAt m c (tileOf T t) r k) (r d : Fin 1024) :
    @Eq EReal (k0_pay3 (F := Ideal) (iblk T m ρ c (1 : Fin 5) t) (iblk T m ρ c (2 : Fin 5) t) (iblk T m ρ c (3 : Fin 5) t) s o (ix2 r d))
      (o (ix2 r d) + part T m c (tileOf T t) r d (t.val % 7)) := by
  have h7 : t.val % 7 < 7 := Nat.mod_lt _ (by decide)
  refine (pay3_apply _ _ _ s o r d).trans (congrArg (fun x : EReal => o (ix2 r d) + x) ?_)
  refine Finset.sum_congr rfl fun l _ => ?_
  rw [dif_pos h7]
  unfold share
  refine congrArg₂ (fun a b : EReal => a * b) ?_ (blk_down T m ρ c t hu l d)
  congr 1
  · exact funext fun k => hs r k
  · exact funext fun k => blk_gate T m ρ c t hu k l
  · exact funext fun k => blk_up T m ρ c t hu k l

/-- What a tile's first point leaves, the tile in use. -/
theorem step_first (c : Dev nD) (t : Fin (cfgT (F := Ideal) T).N) (h0 : t.val % 7 = 0) (hu : t.val / 7 < T.used) (p : State Ideal) :
    step T m ρ c t p = (k0_pay3 (iblk T m ρ c (1 : Fin 5) t) (iblk T m ρ c (2 : Fin 5) t) (iblk T m ρ c (3 : Fin 5) t) (k0_pay1 (iblk T m ρ c (0 : Fin 5) t)) (k0_pay2 (F := Ideal)),
      k0_pay1 (iblk T m ρ c (0 : Fin 5) t)) := by
  unfold step outAfter keptAfter
  rw [if_pos ((inUse_iff T t).2 hu), if_pos ((isFirst_iff T t).2 h0), if_pos ((isFirst_iff T t).2 h0)]

/-- What a later point leaves, the tile in use. -/
theorem step_later (c : Dev nD) (t : Fin (cfgT (F := Ideal) T).N) (h0 : ¬t.val % 7 = 0) (hu : t.val / 7 < T.used) (p : State Ideal) :
    step T m ρ c t p = (k0_pay3 (iblk T m ρ c (1 : Fin 5) t) (iblk T m ρ c (2 : Fin 5) t) (iblk T m ρ c (3 : Fin 5) t) p.2 p.1, p.2) := by
  unfold step outAfter keptAfter
  rw [if_pos ((inUse_iff T t).2 hu), if_neg (fun h => h0 ((isFirst_iff T t).1 h)), if_neg (fun h => h0 ((isFirst_iff T t).1 h))]

/-- What a point leaves in the output block, the tile not in use. -/
theorem step_unused (c : Dev nD) (t : Fin (cfgT (F := Ideal) T).N) (hu : ¬t.val / 7 < T.used) (p : State Ideal) :
    (step T m ρ c t p).1 = if t.val % 7 = 0 then k0_pay2 (F := Ideal) else p.1 := by
  unfold step outAfter
  rw [if_neg (fun h => hu ((inUse_iff T t).1 h))]
  by_cases h0 : t.val % 7 = 0
  · rw [if_pos ((isFirst_iff T t).2 h0), if_pos h0]
  · rw [if_neg (fun h => h0 ((isFirst_iff T t).1 h)), if_neg h0]

/-- After each point of a tile in use the scratch buffer holds the tile's rows, and the output block the sum of the column blocks so far. -/
theorem after_used (c : Dev nD) : ∀ (n : ℕ) (h : n < (cfgT (F := Ideal) T).N), n / 7 < T.used →
    (∀ r k : Fin 1024, @Eq EReal ((traj T m ρ c n h).2 (ix2 r k)) (rowsAt m c (tileOf T ⟨n, h⟩) r k))
      ∧ ∀ r d : Fin 1024, @Eq EReal ((traj T m ρ c n h).1 (ix2 r d)) (∑ s ∈ Finset.range (n % 7 + 1), part T m c (tileOf T ⟨n, h⟩) r d s) := by
  have first (n : ℕ) (h : n < (cfgT (F := Ideal) T).N) (hu : n / 7 < T.used) (h0 : n % 7 = 0) :
      (∀ r k : Fin 1024, @Eq EReal ((traj T m ρ c n h).2 (ix2 r k)) (rowsAt m c (tileOf T ⟨n, h⟩) r k))
      ∧ ∀ r d : Fin 1024, @Eq EReal ((traj T m ρ c n h).1 (ix2 r d)) (∑ s ∈ Finset.range (n % 7 + 1), part T m c (tileOf T ⟨n, h⟩) r d s) := by
    have hk (r k : Fin 1024) : @Eq EReal (k0_pay1 (F := Ideal) (iblk T m ρ c (0 : Fin 5) ⟨n, h⟩) (ix2 r k)) (rowsAt m c (tileOf T ⟨n, h⟩) r k) :=
      (pay1_apply _ r k).trans (blk_x T m ρ c ⟨n, h⟩ hu r k)
    rw [show traj T m ρ c n h = _ from traj_eq T m ρ c ⟨n, h⟩, step_first T m ρ c ⟨n, h⟩ h0 hu]
    refine ⟨hk, fun r d => (pay3_part T m ρ c ⟨n, h⟩ hu _ _ hk r d).trans ?_⟩
    rw [pay2_apply, zero_add, h0, Finset.sum_range_one]
  intro n
  induction n with
  | zero => exact fun h hu => first 0 h hu rfl
  | succ n ih =>
    intro h hu
    by_cases h0 : (n + 1) % 7 = 0
    · exact first (n + 1) h hu h0
    · have hd : n / 7 = (n + 1) / 7 := by omega
      have hm : n % 7 + 1 = (n + 1) % 7 := by omega
      have ht : tileOf T ⟨n, Nat.lt_of_succ_lt h⟩ = tileOf T ⟨n + 1, h⟩ := Fin.ext hd
      obtain ⟨i1, i2⟩ := ih (Nat.lt_of_succ_lt h) (by omega)
      rw [ht] at i1
      simp only [ht] at i2
      rw [show traj T m ρ c (n + 1) h = step T m ρ c ⟨n + 1, h⟩ (traj T m ρ c n (Nat.lt_of_succ_lt h)) from rfl, step_later T m ρ c ⟨n + 1, h⟩ h0 hu]
      refine ⟨i1, fun r d => (pay3_part T m ρ c ⟨n + 1, h⟩ hu _ _ i1 r d).trans ?_⟩
      rw [Finset.sum_range_succ, ← hm]
      exact congrArg₂ (fun a b : EReal => a + b) (i2 r d) rfl

/-- After each point of a tile not in use the output block is zero. -/
theorem after_unused (c : Dev nD) : ∀ (n : ℕ) (h : n < (cfgT (F := Ideal) T).N), ¬n / 7 < T.used →
    ∀ r d : Fin 1024, @Eq EReal ((traj T m ρ c n h).1 (ix2 r d)) 0 := by
  intro n
  induction n with
  | zero => exact fun h hu => absurd T.used_pos (by omega)
  | succ n ih =>
    intro h hu r d
    rw [show traj T m ρ c (n + 1) h = step T m ρ c ⟨n + 1, h⟩ (traj T m ρ c n (Nat.lt_of_succ_lt h)) from rfl, step_unused T m ρ c ⟨n + 1, h⟩ hu]
    split
    case isTrue h0 => exact pay2_apply r d
    case isFalse h0 =>
      have h0' : ¬(n + 1) % 7 = 0 := h0
      exact ih (Nat.lt_of_succ_lt h) (by omega) r d

/-- The result at row `r` and column `d`. -/
def result (c : Dev nD) (r : Fin 45056) (d : Fin 1024) : EReal :=
  if r.val / 1024 < T.used then ∑ f : Fin 3584, share T m c ⟨r.val / 1024, by omega⟩ ⟨r.val % 1024, by omega⟩ d f else 0

/-- The call's result array. -/
theorem arr_result (c : Dev nD) : (dats T m ρ 0 c).arrAt (4 : Fin 5) (cfgT (F := Ideal) T).N = (fun i : S45056x1024.Idx => result T m c (i 0) (i 1)) := by
  refine (dats T m ρ 0 c).arrAt_eq_of_emb (4 : Fin 5) _ (fun t hf y => ?_) (covered T)
  obtain ⟨r, d, rfl⟩ : ∃ r d : Fin 1024, y = (ix2 r d : S1024x1024.Idx) := ⟨y 0, y 1, eq_ix2 y⟩
  have h6 : t.val % 7 = 6 := by rw [flush_eq] at hf; exact of_decide_eq_true hf
  rw [emb_out]
  show @Eq EReal ((traj T m ρ c t.val t.isLt).1 (ix2 r d : S1024x1024.Idx)) (result T m c ⟨1024 * (t.val / 7) + r.val, by have := lt_308 T t; omega⟩ d)
  have e1 : (⟨(1024 * (t.val / 7) + r.val) / 1024, by have := lt_308 T t; omega⟩ : Fin 44) = tileOf T t :=
    Fin.ext (by show (1024 * (t.val / 7) + r.val) / 1024 = t.val / 7; omega)
  have e2 : (⟨(1024 * (t.val / 7) + r.val) % 1024, by omega⟩ : Fin 1024) = r :=
    Fin.ext (by show (1024 * (t.val / 7) + r.val) % 1024 = r.val; omega)
  have e3 : (1024 * (t.val / 7) + r.val) / 1024 = t.val / 7 := by omega
  unfold result
  simp only [e1, e2, e3]
  split
  case isTrue hu =>
    refine ((after_used T m ρ c t.val t.isLt hu).2 r d).trans ?_
    rw [h6]; exact sum_parts T m c (tileOf T t) r d
  case isFalse hu => exact after_unused T m ρ c t.val t.isLt hu r d

end Cert.Kernel2Ideal.Experts

end
-- ==== Proof.ExpertsRef.lean ====
/- The reference's result at an index: the row through its tile's expert where the tile is in use, zero elsewhere. -/
module

public import proofs.«01_k».proof.Proof.Gen.Reference2Ideal.Read
public import proofs.«01_k».proof.Proof.ExpertsMath
public import proofs.«01_k».proof.Proof.ExpertsTables
public import Idealize.ShloMosaic.Lib.Pointwise

@[expose] public section

set_option maxRecDepth 16384

noncomputable section

open Idealize.ShloMosaic Idealize.ShloMosaic.TcCoe

namespace Cert.Reference2Ideal.Experts

open Cert.Reference2Ideal Cert.Reference2Ideal.Gen Cert.Reference2Ideal.Read
open Cert.Kernel2Ideal.Experts (Tables)

/-- A row through expert `e`, at a column of the result. -/
def expertOut (x2 : (⟨S45056x1024, .f32⟩ : BufTy).Contents (Elt Ideal)) (x3 x4 : (⟨S2x8x1024x3584, .f32⟩ : BufTy).Contents (Elt Ideal))
    (x5 : (⟨S2x8x3584x1024, .f32⟩ : BufTy).Contents (Elt Ideal)) (e : Fin 8) (r : Fin 45056) (d : Fin 1024) : EReal :=
  ∑ f : Fin 3584, Cert.Experts.hidden (fun k => x2 (ix2 r k)) (fun k => x3 (ix4 0 e k f)) (fun k => x4 (ix4 0 e k f)) * x5 (ix4 0 e f d)

/-- The gated unit's network on all rows, as the reference's operations spell it. -/
def swiglu (x : (⟨S45056x1024, .f32⟩ : BufTy).Contents (Elt Ideal)) (a b : (⟨S1024x3584, .f32⟩ : BufTy).Contents (Elt Ideal))
    (w : (⟨S3584x1024, .f32⟩ : BufTy).Contents (Elt Ideal)) : (⟨S45056x1024, .f32⟩ : BufTy).Contents (Elt Ideal) :=
  Host.dotGeneral (F := Ideal) (φ₁ := .f32) (φ₂ := .f32) dot_S45056x3584_S3584x1024_S45056x1024_1_0_0_1_n_n none
    (mulf (mulf (Host.dotGeneral (F := Ideal) (φ₁ := .f32) (φ₂ := .f32) dot_S45056x1024_S1024x3584_S45056x3584_1_0_0_1_n_n none x a)
        (Host.divf (val_main_call0_v4 (F := Ideal)) (addf (val_main_call0_v2 (F := Ideal))
          (Host.exp (Host.negf (Host.dotGeneral (F := Ideal) (φ₁ := .f32) (φ₂ := .f32) dot_S45056x1024_S1024x3584_S45056x3584_1_0_0_1_n_n none x a))))))
      (Host.dotGeneral (F := Ideal) (φ₁ := .f32) (φ₂ := .f32) dot_S45056x1024_S1024x3584_S45056x3584_1_0_0_1_n_n none x b)) w

theorem swiglu_apply (x : (⟨S45056x1024, .f32⟩ : BufTy).Contents (Elt Ideal)) (a b : (⟨S1024x3584, .f32⟩ : BufTy).Contents (Elt Ideal))
    (w : (⟨S3584x1024, .f32⟩ : BufTy).Contents (Elt Ideal)) (r : Fin 45056) (d : Fin 1024) :
    @Eq EReal (swiglu x a b w (ix2 r d))
      (∑ f : Fin 3584, Cert.Experts.hidden (fun k => x (ix2 r k)) (fun k => a (ix2 k f)) (fun k => b (ix2 k f)) * w (ix2 f d)) := by
  unfold Cert.Experts.hidden
  simp only [← Cert.Experts.silu_eq]
  pointwise [swiglu, val_main_call0_v4, val_main_call0_v2, val_main_call0_cst, val_main_call0_cst_0]

/-- Expert `e`'s columns of the first two weights, at an index. -/
theorem columns_apply (e : Fin 8) (h : S8x1024x3584.Slices ![e.val, 0, 0] S1x1024x3584) (y : S8x1024x3584.Idx → EReal) (k : Fin 1024) (f : Fin 3584) :
    shapeCast S1024x3584 (extractStridedSlice S1x1024x3584 ![e.val, 0, 0] y h) shapeCasts_S1x1024x3584_S1024x3584 (ix2 k f) = y (ix3 e k f) := by
  refine (shapeCast_apply _ _ (ix2 k f) (ix3 (0 : Fin 1) k f) ?_).trans (extractStridedSlice_apply _ y h _ (ix3 e k f) fun a => ?_)
  · rewrite [Shape.rowMajor_val_three, Shape.rowMajor_val_two]
    show (0 * 1024 + k.val) * 3584 + f.val = k.val * 3584 + f.val; omega
  · match a with
    | ⟨0, _⟩ => show e.val = e.val + 0; omega
    | ⟨1, _⟩ => show k.val = 0 + k.val; omega
    | ⟨2, _⟩ => show f.val = 0 + f.val; omega

/-- Expert `e`'s rows of the third weight, at an index. -/
theorem rows_apply (e : Fin 8) (h : S8x3584x1024.Slices ![e.val, 0, 0] S1x3584x1024) (y : S8x3584x1024.Idx → EReal) (f : Fin 3584) (d : Fin 1024) :
    shapeCast S3584x1024 (extractStridedSlice S1x3584x1024 ![e.val, 0, 0] y h) shapeCasts_S1x3584x1024_S3584x1024 (ix2 f d) = y (ix3 e f d) := by
  refine (shapeCast_apply _ _ (ix2 f d) (ix3 (0 : Fin 1) f d) ?_).trans (extractStridedSlice_apply _ y h _ (ix3 e f d) fun a => ?_)
  · rewrite [Shape.rowMajor_val_three, Shape.rowMajor_val_two]
    show (0 * 3584 + f.val) * 1024 + d.val = f.val * 1024 + d.val; omega
  · match a with
    | ⟨0, _⟩ => show e.val = e.val + 0; omega
    | ⟨1, _⟩ => show f.val = 0 + f.val; omega
    | ⟨2, _⟩ => show d.val = 0 + d.val; omega

/-- The first layer's weights, at an index. -/
theorem first_gate (x3 : (⟨S2x8x1024x3584, .f32⟩ : BufTy).Contents (Elt Ideal)) (e : Fin 8) (k : Fin 1024) (f : Fin 3584) :
    @Eq EReal (val_main_v18 (F := Ideal) x3 (ix3 e k f)) (x3 (ix4 0 e k f)) := by
  rw [val_main_v18_apply, val_main_v17_apply]
  refine congrArg x3 (funext fun a => Fin.ext ?_)
  match a with
  | ⟨0, _⟩ => rfl
  | ⟨1, _⟩ => show ((e.val * 1024 + k.val) * 3584 + f.val) / 3670016 % 8 = e.val; omega
  | ⟨2, _⟩ => show ((e.val * 1024 + k.val) * 3584 + f.val) / 3584 % 1024 = k.val; omega
  | ⟨3, _⟩ => show ((e.val * 1024 + k.val) * 3584 + f.val) % 3584 = f.val; omega
theorem first_up (x4 : (⟨S2x8x1024x3584, .f32⟩ : BufTy).Contents (Elt Ideal)) (e : Fin 8) (k : Fin 1024) (f : Fin 3584) :
    @Eq EReal (val_main_v20 (F := Ideal) x4 (ix3 e k f)) (x4 (ix4 0 e k f)) := by
  rw [val_main_v20_apply, val_main_v19_apply]
  refine congrArg x4 (funext fun a => Fin.ext ?_)
  match a with
  | ⟨0, _⟩ => rfl
  | ⟨1, _⟩ => show ((e.val * 1024 + k.val) * 3584 + f.val) / 3670016 % 8 = e.val; omega
  | ⟨2, _⟩ => show ((e.val * 1024 + k.val) * 3584 + f.val) / 3584 % 1024 = k.val; omega
  | ⟨3, _⟩ => show ((e.val * 1024 + k.val) * 3584 + f.val) % 3584 = f.val; omega
theorem first_down (x5 : (⟨S2x8x3584x1024, .f32⟩ : BufTy).Contents (Elt Ideal)) (e : Fin 8) (f : Fin 3584) (d : Fin 1024) :
    @Eq EReal (val_main_v22 (F := Ideal) x5 (ix3 e f d)) (x5 (ix4 0 e f d)) := by
  rw [val_main_v22_apply, val_main_v21_apply]
  refine congrArg x5 (funext fun a => Fin.ext ?_)
  match a with
  | ⟨0, _⟩ => rfl
  | ⟨1, _⟩ => show ((e.val * 3584 + f.val) * 1024 + d.val) / 3670016 % 8 = e.val; omega
  | ⟨2, _⟩ => show ((e.val * 3584 + f.val) * 1024 + d.val) / 1024 % 3584 = f.val; omega
  | ⟨3, _⟩ => show ((e.val * 3584 + f.val) * 1024 + d.val) % 1024 = d.val; omega

/-- A row's gate for expert `e`: one where its tile is in use and the tile's expert is `e`, else zero. -/
theorem gate_apply (T : Tables) (r : Fin 45056) (e : Fin 8) :
    @Eq EReal (val_main_v16 (F := Ideal) T.te T.nu (ix2 r e))
      (if e = T.expert ⟨r.val / 1024, by omega⟩ ∧ r.val / 1024 < T.used then 1 else 0) := by
  have hr : r.val / 1024 < 44 := by omega
  have h1 := T.used_lt
  have ht := T.te_lt (ix1 (⟨r.val / 1024, hr⟩ : Fin 44))
  rw [val_main_v16_apply, val_main_v15_apply, val_main_v13_apply, val_main_v14_apply, val_main_v11_apply, val_main_v12_apply, val_main_v10_apply,
    val_main_v9_apply, val_main_v8_apply, val_main_v7_apply, val_main_v6_apply, val_main_v5_apply, val_main_v4_apply, val_main_v3_apply, val_main_v2_apply,
    val_main_v1_apply, val_main_v0_apply]
  have ea : idx_main_v6 (idx_main_v7 (idx_main_v8 (idx_main_v11 (ix2 r e)))) = ix1 (⟨r.val / 1024, hr⟩ : Fin 44) := by
    funext a; match a with
    | ⟨0, _⟩ => exact Fin.ext (by show (r.val * 1 + 0) / 1024 = r.val / 1024; omega)
  have eb : idx_main_v3 (idx_main_v4 (idx_main_v5 (idx_main_v14 (ix2 r e)))) = ix1 (⟨r.val / 1024, hr⟩ : Fin 44) := by
    funext a; match a with
    | ⟨0, _⟩ => exact Fin.ext (by show (r.val * 1 + 0) / 1024 = r.val / 1024; omega)
  rw [ea, eb]
  have en : T.nu (idx_main_v1 (ix1 (⟨r.val / 1024, hr⟩ : Fin 44))) = T.nu (ix1 0) := congrArg T.nu (Cert.Kernel2Ideal.Experts.idx1_eq _)
  rw [en]
  have e1 : IntOp.cmpi .slt (BitVec.ofNat 32 (r.val / 1024)) (T.nu (ix1 0)) = BitVec.ofBool (decide (r.val / 1024 < T.used)) := by
    have h0 : (BitVec.ofNat 32 (r.val / 1024)).toNat = r.val / 1024 := by simp only [BitVec.toNat_ofNat]; omega
    rw [WordCmp.cmpi_slt_of_lt (by rw [h0]; omega) (by show T.used < _; omega), h0]; rfl
  have e2 : IntOp.cmpi .eq (T.te (ix1 (⟨r.val / 1024, hr⟩ : Fin 44))) (BitVec.ofNat 32 e.val) = BitVec.ofBool (decide (e = T.expert ⟨r.val / 1024, hr⟩)) := by
    show BitVec.ofBool (_ == _) = _
    congr 1
    rw [Bool.eq_iff_iff, beq_iff_eq, decide_eq_true_iff, ← BitVec.toNat_inj, Fin.ext_iff]
    have : (BitVec.ofNat 32 e.val).toNat = e.val := by simp only [BitVec.toNat_ofNat]; omega
    rw [this]; exact eq_comm
  show @Eq EReal ((((IntOp.andi (IntOp.cmpi .eq (T.te (ix1 (⟨r.val / 1024, hr⟩ : Fin 44))) (BitVec.ofNat 32 e.val)) (IntOp.cmpi .slt (BitVec.ofNat 32 (r.val / 1024)) (T.nu (ix1 0)))).toNat : ℝ) : EReal)) _
  rw [e1, e2]
  by_cases h2 : e = T.expert ⟨r.val / 1024, hr⟩ <;> by_cases h3 : r.val / 1024 < T.used <;> simp [h2, h3, IntOp.andi]

/-- One term of the reference's sum: the rows through expert `e`, gated. -/
def term (x0 : (⟨S44, .i32⟩ : BufTy).Contents (Elt Ideal)) (x1 : (⟨S1, .i32⟩ : BufTy).Contents (Elt Ideal)) (x2 : (⟨S45056x1024, .f32⟩ : BufTy).Contents (Elt Ideal))
    (x3 x4 : (⟨S2x8x1024x3584, .f32⟩ : BufTy).Contents (Elt Ideal)) (x5 : (⟨S2x8x3584x1024, .f32⟩ : BufTy).Contents (Elt Ideal)) (e : ℕ)
    (h : S45056x8.Slices ![0, e] S45056x1) (hc : S8x1024x3584.Slices ![e, 0, 0] S1x1024x3584) (hr : S8x3584x1024.Slices ![e, 0, 0] S1x3584x1024) :
    (⟨S45056x1024, .f32⟩ : BufTy).Contents (Elt Ideal) :=
  mulf (φ := .f32) (F := Ideal) (broadcastInDim S45056x1024 ![0, 1] bcast_S45056x1_S45056x1024_0_1 (extractStridedSlice S45056x1 ![0, e] (val_main_v16 (F := Ideal) x0 x1) h))
    (swiglu x2 (shapeCast S1024x3584 (extractStridedSlice S1x1024x3584 ![e, 0, 0] (val_main_v18 (F := Ideal) x3) hc) shapeCasts_S1x1024x3584_S1024x3584)
      (shapeCast S1024x3584 (extractStridedSlice S1x1024x3584 ![e, 0, 0] (val_main_v20 (F := Ideal) x4) hc) shapeCasts_S1x1024x3584_S1024x3584)
      (shapeCast S3584x1024 (extractStridedSlice S1x3584x1024 ![e, 0, 0] (val_main_v22 (F := Ideal) x5) hr) shapeCasts_S1x3584x1024_S3584x1024))

theorem term_apply (T : Tables) (x2 : (⟨S45056x1024, .f32⟩ : BufTy).Contents (Elt Ideal))
    (x3 x4 : (⟨S2x8x1024x3584, .f32⟩ : BufTy).Contents (Elt Ideal)) (x5 : (⟨S2x8x3584x1024, .f32⟩ : BufTy).Contents (Elt Ideal)) (e : Fin 8) (h hc hr)
    (r : Fin 45056) (d : Fin 1024) :
    @Eq EReal (term T.te T.nu x2 x3 x4 x5 e.val h hc hr (ix2 r d))
      (if e = T.expert ⟨r.val / 1024, by omega⟩ then (if r.val / 1024 < T.used then expertOut x2 x3 x4 x5 e r d else 0) else 0) := by
  have hg : @Eq EReal (broadcastInDim S45056x1024 ![0, 1] bcast_S45056x1_S45056x1024_0_1 (extractStridedSlice S45056x1 ![0, e.val] (val_main_v16 (F := Ideal) T.te T.nu) h) (ix2 r d))
      (if e = T.expert ⟨r.val / 1024, by omega⟩ ∧ r.val / 1024 < T.used then 1 else 0) := by
    refine (broadcastInDim_apply _ _ _ (ix2 r d) (ix2 r (0 : Fin 1)) fun a => ?_).trans
      ((extractStridedSlice_apply _ _ h _ (ix2 r e) fun a => ?_).trans (gate_apply T r e))
    · match a with
      | ⟨0, _⟩ => show r.val = if (45056 : Nat) = 1 then 0 else r.val; rw [if_neg (by decide)]
      | ⟨1, _⟩ => show 0 = if (1 : Nat) = 1 then 0 else d.val; rw [if_pos rfl]
    · match a with
      | ⟨0, _⟩ => show r.val = 0 + r.val; omega
      | ⟨1, _⟩ => show e.val = e.val + 0; omega
  have hs := swiglu_apply x2 (shapeCast S1024x3584 (extractStridedSlice S1x1024x3584 ![e.val, 0, 0] (val_main_v18 (F := Ideal) x3) hc) shapeCasts_S1x1024x3584_S1024x3584)
      (shapeCast S1024x3584 (extractStridedSlice S1x1024x3584 ![e.val, 0, 0] (val_main_v20 (F := Ideal) x4) hc) shapeCasts_S1x1024x3584_S1024x3584)
      (shapeCast S3584x1024 (extractStridedSlice S1x3584x1024 ![e.val, 0, 0] (val_main_v22 (F := Ideal) x5) hr) shapeCasts_S1x3584x1024_S3584x1024) r d
  have hw (k f) := (columns_apply e hc (val_main_v18 (F := Ideal) x3) k f).trans (first_gate x3 e k f)
  have hu (k f) := (columns_apply e hc (val_main_v20 (F := Ideal) x4) k f).trans (first_up x4 e k f)
  have hd (f) := (rows_apply e hr (val_main_v22 (F := Ideal) x5) f d).trans (first_down x5 e f d)
  simp only [hw, hu, hd] at hs
  refine (congrArg₂ (fun a b : EReal => a * b) hg hs).trans ?_
  by_cases h2 : e = T.expert ⟨r.val / 1024, by omega⟩ <;> by_cases h3 : r.val / 1024 < T.used <;> simp only [h2, h3, if_true, if_false, and_true, and_false, and_self, one_mul, zero_mul, expertOut]

/-- The reference's result at an index. -/
theorem value (T : Tables) (x2 : (⟨S45056x1024, .f32⟩ : BufTy).Contents (Elt Ideal))
    (x3 x4 : (⟨S2x8x1024x3584, .f32⟩ : BufTy).Contents (Elt Ideal)) (x5 : (⟨S2x8x3584x1024, .f32⟩ : BufTy).Contents (Elt Ideal))
    (r : Fin 45056) (d : Fin 1024) :
    @Eq EReal (val_main_v143 (F := Ideal) T.te T.nu x2 x3 x4 x5 (ix2 r d))
      (if r.val / 1024 < T.used then expertOut x2 x3 x4 x5 (T.expert ⟨r.val / 1024, by omega⟩) r d else 0) := by
  have h0 : @Eq EReal (val_main_v23 (F := Ideal) (ix2 r d)) 0 := by
    rw [val_main_v23_apply, val_main_cst_apply]; exact Ideal.ofBits_zero_f32
  have e0 : @Eq EReal (val_main_v37 (F := Ideal) T.te T.nu x2 x3 x4 x5 (ix2 r d)) _ := term_apply T x2 x3 x4 x5 0 slices_S45056x8_S45056x1_0_0 slices_S8x1024x3584_S1x1024x3584_0_0_0 slices_S8x3584x1024_S1x3584x1024_0_0_0 r d
  have e1 : @Eq EReal (val_main_v52 (F := Ideal) T.te T.nu x2 x3 x4 x5 (ix2 r d)) _ := term_apply T x2 x3 x4 x5 1 slices_S45056x8_S45056x1_0_1 slices_S8x1024x3584_S1x1024x3584_1_0_0 slices_S8x3584x1024_S1x3584x1024_1_0_0 r d
  have e2 : @Eq EReal (val_main_v67 (F := Ideal) T.te T.nu x2 x3 x4 x5 (ix2 r d)) _ := term_apply T x2 x3 x4 x5 2 slices_S45056x8_S45056x1_0_2 slices_S8x1024x3584_S1x1024x3584_2_0_0 slices_S8x3584x1024_S1x3584x1024_2_0_0 r d
  have e3 : @Eq EReal (val_main_v82 (F := Ideal) T.te T.nu x2 x3 x4 x5 (ix2 r d)) _ := term_apply T x2 x3 x4 x5 3 slices_S45056x8_S45056x1_0_3 slices_S8x1024x3584_S1x1024x3584_3_0_0 slices_S8x3584x1024_S1x3584x1024_3_0_0 r d
  have e4 : @Eq EReal (val_main_v97 (F := Ideal) T.te T.nu x2 x3 x4 x5 (ix2 r d)) _ := term_apply T x2 x3 x4 x5 4 slices_S45056x8_S45056x1_0_4 slices_S8x1024x3584_S1x1024x3584_4_0_0 slices_S8x3584x1024_S1x3584x1024_4_0_0 r d
  have e5 : @Eq EReal (val_main_v112 (F := Ideal) T.te T.nu x2 x3 x4 x5 (ix2 r d)) _ := term_apply T x2 x3 x4 x5 5 slices_S45056x8_S45056x1_0_5 slices_S8x1024x3584_S1x1024x3584_5_0_0 slices_S8x3584x1024_S1x3584x1024_5_0_0 r d
  have e6 : @Eq EReal (val_main_v127 (F := Ideal) T.te T.nu x2 x3 x4 x5 (ix2 r d)) _ := term_apply T x2 x3 x4 x5 6 slices_S45056x8_S45056x1_0_6 slices_S8x1024x3584_S1x1024x3584_6_0_0 slices_S8x3584x1024_S1x3584x1024_6_0_0 r d
  have e7 : @Eq EReal (val_main_v142 (F := Ideal) T.te T.nu x2 x3 x4 x5 (ix2 r d)) _ := term_apply T x2 x3 x4 x5 7 slices_S45056x8_S45056x1_0_7 slices_S8x1024x3584_S1x1024x3584_7_0_0 slices_S8x3584x1024_S1x3584x1024_7_0_0 r d
  rw [val_main_v143_apply, val_main_v128_apply, val_main_v113_apply, val_main_v98_apply, val_main_v83_apply, val_main_v68_apply, val_main_v53_apply, val_main_v38_apply]
  show @Eq EReal ((((((((val_main_v23 (F := Ideal) (ix2 r d) + val_main_v37 (F := Ideal) T.te T.nu x2 x3 x4 x5 (ix2 r d)) + val_main_v52 (F := Ideal) T.te T.nu x2 x3 x4 x5 (ix2 r d))
    + val_main_v67 (F := Ideal) T.te T.nu x2 x3 x4 x5 (ix2 r d)) + val_main_v82 (F := Ideal) T.te T.nu x2 x3 x4 x5 (ix2 r d)) + val_main_v97 (F := Ideal) T.te T.nu x2 x3 x4 x5 (ix2 r d))
    + val_main_v112 (F := Ideal) T.te T.nu x2 x3 x4 x5 (ix2 r d)) + val_main_v127 (F := Ideal) T.te T.nu x2 x3 x4 x5 (ix2 r d)) + val_main_v142 (F := Ideal) T.te T.nu x2 x3 x4 x5 (ix2 r d)) _
  rw [h0, zero_add, e0, e1, e2, e3, e4, e5, e6, e7]
  rw [← Fin.sum_univ_eight fun e : Fin 8 => if e = T.expert ⟨r.val / 1024, by omega⟩ then (if r.val / 1024 < T.used then expertOut x2 x3 x4 x5 e r d else 0) else (0 : EReal)]
  rw [Finset.sum_ite_eq' Finset.univ (T.expert ⟨r.val / 1024, by omega⟩) fun e => if r.val / 1024 < T.used then expertOut x2 x3 x4 x5 e r d else (0 : EReal), if_pos (Finset.mem_univ _)]

end Cert.Reference2Ideal.Experts

end
-- ==== Proof.ExpertsClaim.lean ====
/- The value claim of the experts' call: on tables of the stated range its result is the reference's. -/
module

public import proofs.«01_k».proof.Proof.ExpertsBits
public import proofs.«01_k».proof.Proof.ExpertsValue
public import proofs.«01_k».proof.Proof.ExpertsRef
public import proofs.«01_k».proof.Proof.Gen.Reference2Ideal.Run
public import Idealize.ShloMosaic.Adequacy
public import Idealize.ShloMosaic.Init

@[expose] public section

set_option maxRecDepth 16384

noncomputable section

namespace Cert.Kernel2Ideal.Experts

open Cert.Kernel2Ideal Cert.Kernel2Ideal.Gen
open Idealize.ShloMosaic Idealize.ShloMosaic.TcCoe Idealize.SL.Sem

variable (T : Tables) (m : (ℓ : Loc nD τ sig) → Buf (Elt Ideal) ℓ) (ρ : Dev nD → PrngReg)

/-- The row's sum over its expert's hidden units is the reference's, the row read as a row of its tile. -/
theorem result_apply (c : Dev nD) (r : Fin 45056) (d : Fin 1024) : result T m c r d =
    if r.val / 1024 < T.used then Cert.Reference2Ideal.Experts.expertOut (m ((c : Thread nD τ).loc main_arg2)) (m ((c : Thread nD τ).loc main_arg3))
      (m ((c : Thread nD τ).loc main_arg4)) (m ((c : Thread nD τ).loc main_arg5)) (T.expert ⟨r.val / 1024, by omega⟩) r d else 0 := by
  have er : (⟨1024 * (r.val / 1024) + r.val % 1024, by omega⟩ : Fin 45056) = r := Fin.ext (Nat.div_add_mod _ _)
  have ex : rowsAt m c (⟨r.val / 1024, by omega⟩ : Fin 44) (⟨r.val % 1024, by omega⟩ : Fin 1024) = fun k => (m ((c : Thread nD τ).loc main_arg2) (ix2 r k) : EReal) :=
    funext fun k => by
      show m ((c : Thread nD τ).loc main_arg2) (ix2 (⟨1024 * (r.val / 1024) + r.val % 1024, _⟩ : Fin 45056) k) = _
      rw [er]
  unfold result
  refine congrArg (fun x : EReal => if r.val / 1024 < T.used then x else 0) ?_
  unfold Cert.Reference2Ideal.Experts.expertOut share
  rw [ex]

/-- The call's result array is the reference's result. -/
theorem arr_eq (c : Dev nD) : (dats T m ρ 0 c).arrAt (4 : Fin 5) (cfgT (F := Ideal) T).N =
    Cert.Reference2Ideal.Read.val_main_v143 (F := Ideal) T.te T.nu (m ((c : Thread nD τ).loc main_arg2)) (m ((c : Thread nD τ).loc main_arg3))
      (m ((c : Thread nD τ).loc main_arg4)) (m ((c : Thread nD τ).loc main_arg5)) := by
  rw [arr_result]
  funext i
  obtain ⟨r, d, rfl⟩ : ∃ (r : Fin 45056) (d : Fin 1024), i = (ix2 r d : S45056x1024.Idx) := ⟨i 0, i 1, eq_ix2 i⟩
  exact (result_apply T m c r d).trans (Cert.Reference2Ideal.Experts.value T _ _ _ _ r d).symm

/-- Every execution ends with the computed result, the argument arrays unchanged. -/
theorem value_run (hp : Holds T m) :
    θ_run (defs (F := Ideal)) (onTc (τ := τ) (main (F := Ideal))) ⟨m, fun _ => 0, ρ⟩ (fun r => ∀ c : Dev nD,
      r.2.mem ((c.tc : Thread nD τ).loc main_v0) = (dats T m ρ 0 c).arrAt (4 : Fin 5) (cfgT (F := Ideal) T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 (4 : Fin 5), ((h.1 c).2 0).trans (hp.1 c).symm, ((h.1 c).2 1).trans (hp.2 c).symm,
    ((h.1 c).1 (0 : Fin 5)).trans ((dats T m ρ 0 c).arrAt_in (0 : Fin 5) rfl _), ((h.1 c).1 (1 : Fin 5)).trans ((dats T m ρ 0 c).arrAt_in (1 : Fin 5) rfl _),
    ((h.1 c).1 (2 : Fin 5)).trans ((dats T m ρ 0 c).arrAt_in (2 : Fin 5) rfl _), ((h.1 c).1 (3 : Fin 5)).trans ((dats T m ρ 0 c).arrAt_in (3 : Fin 5) rfl _)⟩)
    (run_quiescent T m ρ hp)

/-- On tables of the stated range the call's result is the reference's. -/
theorem algebraic_experts : Cert.algebraic_Kernel2Ideal_Reference2Ideal (hKernel2Ideal := Cert.Kernel2Ideal.Gen.facts)
    (hReference2Ideal := Cert.Reference2Ideal.Gen.facts) (hPre_tables := Cert.Pre_tables.Gen.facts) := fun m ρ m' ρ' hpre hargs => by
  obtain ⟨T, hT⟩ := holds_of_pre m hpre
  refine ⟨fun c => (dats T m ρ 0 c).arrAt (4 : Fin 5) (cfgT (F := Ideal) T).N, value_run T m ρ hT, ?_⟩
  refine (θ_run Cert.Reference2Ideal.defs _ _).mono (fun r h c => ⟨(h c).1.trans ?_, (h c).2⟩) (Cert.Reference2Ideal.Value.run m' ρ')
  obtain ⟨e0, e1, e2, e3, e4, e5⟩ := hargs c
  refine (Cert.Reference2Ideal.Read.val_main_v143_eq _).trans (Eq.trans ?_ (arr_eq T m ρ c).symm)
  rw [← hT.1 c, ← hT.2 c, ← e0, ← e1, ← e2, ← e3, ← e4, ← e5]

/-- The experts' reference runs, leaves its arguments as they were and every counter at zero. -/
theorem quiescent_experts_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Kernel2Ideal.Experts

end
-- ==== Proof.Block.lean ====
/- What one run of the attention body leaves in its output block, head by head, as a function of the blocks of queries, keys
   and values it reads: `weighted` is one head's pair of products, `attended` the whole block. -/
module

public import proofs.«01_k».proof.Proof.Gen.KernelIdeal.Value
public import Idealize.ShloMosaic.Lib.Pipeline.Value
public import Idealize.ShloMosaic.Lib.Pointwise

@[expose] public section

noncomputable section

open Idealize.ShloMosaic Idealize.ShloMosaic.TcCoe Idealize.SL.Sem Idealize.SL.ProofMode

namespace Cert.KernelIdeal.Attn

open Cert.KernelIdeal Cert.KernelIdeal.Gen

set_option maxRecDepth 16384

/-- One head, one query: the sum over the keys of two to the power (score less the greatest score) times lane `d` of the
    value, the score of key `t` being the product of the query's and the key's 128 lanes. -/
def weighted {n : ℕ} (q : Fin 128 → EReal) (k v : Fin n → Fin 128 → EReal) (d : Fin 128) : EReal :=
  ∑ t : Fin n, Ideal.exp2 ((∑ l, q l * k t l) - Finset.univ.fold max ⊥ fun t => ∑ l, q l * k t l) * v t d

/-- The two products of a context block (256 keys) are `weighted` of the three operands' rows. -/
theorem pv_A (q k v : Vec Ideal S1x256x128 .bf16) (r : Fin 256) (d : Fin 128) :
    k0_pay6 (F := Ideal) q k v (ix2 r d)
      = weighted (fun l => q (ix3 0 r l)) (fun t l => k (ix3 0 t l)) (fun t l => v (ix3 0 t l)) d := by
  unfold weighted
  pointwise [k0_pay6]
  rfl

/-- The two products of a latent block (all 2304 keys) are `weighted` of the three operands' rows. -/
theorem pv_B (q : Vec Ideal S1x256x128 .bf16) (k v : Vec Ideal S1x2304x128 .bf16) (r : Fin 256) (d : Fin 128) :
    k0_pay19 (F := Ideal) q k v (ix2 r d)
      = weighted (fun l => q (ix3 0 r l)) (fun t l => k (ix3 0 t l)) (fun t l => v (ix3 0 t l)) d := by
  unfold weighted
  pointwise [k0_pay19]
  rfl

/-- What is stored of two heads `a`, `b`: on the first 64 lanes `a` over its lanes 64 further on, on the others `b`'s lanes 64
    before over `b`. -/
theorem st_apply (a b : FVec Ideal S256x128 .f32) (r : Fin 256) (l : Fin 128) :
    k0_pay11 (F := Ideal) k0_pay1 a b (ix3 0 r l)
      = if l.val < 64 then Ideal.div (a (ix2 r l)) (a (ix2 r ⟨(l.val + 64) % 128, by omega⟩))
        else Ideal.div (b (ix2 r ⟨(l.val + 64) % 128, by omega⟩)) (b (ix2 r l)) := by
  pointwise [k0_pay11, k0_pay1]
  have e : (l.val + 128 - 64) % 128 = (l.val + 64) % 128 := by omega
  have hc : IntOp.cmpi CmpIPredicate.slt (BitVec.ofNat 32 l.val) 64#32 = BitVec.ofBool (decide (l.val < 64)) :=
    (by decide +kernel : ∀ l : Fin 128, IntOp.cmpi CmpIPredicate.slt (BitVec.ofNat 32 l.val) 64#32 = BitVec.ofBool (decide (l.val < 64))) l
  simp only [e, hc]
  by_cases h : l.val < 64 <;> simp [h, Scalar.select]

/-- The block a run leaves, from the blocks it reads and the number `nk` of keys it attends to: at sample `y 0`, row `y 1` and
    column `y 2`, the head being `y 2 / 64`, lane `y 2 % 64` of the head's `weighted` sum over the lane 64 further on. -/
def attended (nk : ℕ) (hk : nk ≤ 2304) (x0 : Vec Ideal S2x256x512 .bf16) (x1 x2 : Vec Ideal S2x2304x512 .bf16)
    (n : Fin 2) (r c : Fin 256) : EReal :=
  let q : Fin 128 → EReal := fun l => x0 (ix3 n r ⟨128 * (c.val / 64) + l.val, by omega⟩)
  let k : Fin nk → Fin 128 → EReal := fun t l => x1 (ix3 n ⟨t.val, by omega⟩ ⟨128 * (c.val / 64) + l.val, by omega⟩)
  let v : Fin nk → Fin 128 → EReal := fun t l => x2 (ix3 n ⟨t.val, by omega⟩ ⟨128 * (c.val / 64) + l.val, by omega⟩)
  Ideal.div (weighted q k v ⟨c.val % 64, by omega⟩) (weighted q k v ⟨c.val % 64 + 64, by omega⟩)

/-- The stored piece of sample `n` and of heads `2 j` and `2 j + 1` of case A (256 keys) is `attended` at its place, whatever the
    operands are that hold the two heads' lanes of the blocks. -/
theorem piece_A (x0 : Vec Ideal S2x256x512 .bf16) (x1 x2 : Vec Ideal S2x2304x512 .bf16) (n j : Fin 2)
    (Q Q' : Vec Ideal S1x256x128 .bf16) (K K' V V' : Vec Ideal S1x256x128 .bf16)
    (hQ : ∀ r l, Q (ix3 0 r l) = x0 (ix3 n r ⟨256 * j.val + l.val, by omega⟩))
    (hQ' : ∀ r l, Q' (ix3 0 r l) = x0 (ix3 n r ⟨256 * j.val + 128 + l.val, by omega⟩))
    (hK : ∀ t l, K (ix3 0 t l) = x1 (ix3 n ⟨t.val, by omega⟩ ⟨256 * j.val + l.val, by omega⟩))
    (hK' : ∀ t l, K' (ix3 0 t l) = x1 (ix3 n ⟨t.val, by omega⟩ ⟨256 * j.val + 128 + l.val, by omega⟩))
    (hV : ∀ t l, V (ix3 0 t l) = x2 (ix3 n ⟨t.val, by omega⟩ ⟨256 * j.val + l.val, by omega⟩))
    (hV' : ∀ t l, V' (ix3 0 t l) = x2 (ix3 n ⟨t.val, by omega⟩ ⟨256 * j.val + 128 + l.val, by omega⟩))
    (r : Fin 256) (l : Fin 128) :
    k0_pay11 (F := Ideal) k0_pay1 (k0_pay6 Q K V) (k0_pay6 Q' K' V') (ix3 0 r l)
      = attended 256 (by omega) x0 x1 x2 n r ⟨128 * j.val + l.val, by omega⟩ := by
  rw [st_apply]
  simp only [pv_A, hQ, hQ', hK, hK', hV, hV']
  unfold attended
  by_cases h : l.val < 64
  · have e1 : (128 * j.val + l.val) / 64 = 2 * j.val := by omega
    have e2 : (128 * j.val + l.val) % 64 = l.val := by omega
    have e3 : (l.val + 64) % 128 = l.val + 64 := by omega
    simp only [h, if_true, e1, e2, e3, ← mul_assoc, Nat.reduceMul]
  · have e1 : (128 * j.val + l.val) / 64 = 2 * j.val + 1 := by omega
    have e2 : (128 * j.val + l.val) % 64 = l.val - 64 := by omega
    have e3 : (l.val + 64) % 128 = l.val - 64 := by omega
    have e4 : l.val - 64 + 64 = l.val := by omega
    simp only [h, if_false, e1, e2, e3, e4, mul_add, ← mul_assoc, Nat.reduceMul]

/-- The block that case A leaves (256 keys) is `attended` of the blocks it reads. -/
theorem out_A (c : Dev nD) (i : grid0.Coords) (arg2 : Memref sig .tc .vmem S2x256x512 .bf16) (harg2 : arg2.IsWhole) (arg3 : Memref sig .tc .vmem S2x2304x512 .bf16) (harg3 : arg3.IsWhole) (arg4 : Memref sig .tc .vmem S2x2304x512 .bf16) (harg4 : arg4.IsWhole) (arg5 : Memref sig .tc .vmem S2x256x256 .bf16) (harg5 : arg5.IsWhole) (hc0 : cond0_0 i) (hc1 : ¬cond0_1 i)
    (x0 : Vec Ideal S2x256x512 .bf16) (x1 x2 : Vec Ideal S2x2304x512 .bf16) (y : S2x256x256.Idx) :
    out0_A_3 (F := Ideal) c i arg2 harg2 arg3 harg3 arg4 harg4 arg5 harg5 hc0 hc1 x0 x1 x2 y
      = attended 256 (by omega) x0 x1 x2 (y 0) (y 1) (y 2) := by
  unfold out0_A_3
  rw [View.read_writes_eq_canon _ _ _ (cover0_A_3 c i arg2 harg2 arg3 harg3 arg4 harg4 arg5 harg5 hc0 hc1 x0 x1 x2)]
  refine View.canon_apply_of_pieces (fun y : S2x256x256.Idx => attended 256 (by omega) x0 x1 x2 (y 0) (y 1) (y 2)) _ ?_ y
    (cover0_A_3 c i arg2 harg2 arg3 harg3 arg4 harg4 arg5 harg5 hc0 hc1 x0 x1 x2 y)
  unfold kernelRun0_A
  dsimp only
  sl_unfold_words
  simp only [View.readAt_eq_ld, harg2.read_unread, harg3.read_unread, harg4.read_unread]
  intro p hp
  simp only [List.mem_cons, List.not_mem_nil, or_false] at hp
  rcases hp with rfl | rfl | rfl | rfl
  · intro x
    obtain ⟨r, l, rfl⟩ : ∃ (r : Fin 256) (l : Fin 128), x = ix3 0 r l :=
      ⟨x 1, x 2, (eq_ix3 x).trans (by congr 1; exact Subsingleton.elim (α := Fin 1) _ _)⟩
    refine (piece_A x0 x1 x2 1 1 _ _ _ _ _ _ ?_ ?_ ?_ ?_ ?_ ?_ r l).trans ?_
    · intro r l; pointwise
    · intro r l; pointwise
    · intro r l; pointwise
    · intro r l; pointwise
    · intro r l; pointwise
    · intro r l; pointwise
    · dsimp only; congr 1 <;> apply Fin.ext <;> simp
  · intro x
    obtain ⟨r, l, rfl⟩ : ∃ (r : Fin 256) (l : Fin 128), x = ix3 0 r l :=
      ⟨x 1, x 2, (eq_ix3 x).trans (by congr 1; exact Subsingleton.elim (α := Fin 1) _ _)⟩
    refine (piece_A x0 x1 x2 1 0 _ _ _ _ _ _ ?_ ?_ ?_ ?_ ?_ ?_ r l).trans ?_
    · intro r l; pointwise
    · intro r l; pointwise
    · intro r l; pointwise
    · intro r l; pointwise
    · intro r l; pointwise
    · intro r l; pointwise
    · dsimp only; congr 1 <;> apply Fin.ext <;> simp
  · intro x
    obtain ⟨r, l, rfl⟩ : ∃ (r : Fin 256) (l : Fin 128), x = ix3 0 r l :=
      ⟨x 1, x 2, (eq_ix3 x).trans (by congr 1; exact Subsingleton.elim (α := Fin 1) _ _)⟩
    refine (piece_A x0 x1 x2 0 1 _ _ _ _ _ _ ?_ ?_ ?_ ?_ ?_ ?_ r l).trans ?_
    · intro r l; pointwise
    · intro r l; pointwise
    · intro r l; pointwise
    · intro r l; pointwise
    · intro r l; pointwise
    · intro r l; pointwise
    · dsimp only; congr 1 <;> apply Fin.ext <;> simp
  · intro x
    obtain ⟨r, l, rfl⟩ : ∃ (r : Fin 256) (l : Fin 128), x = ix3 0 r l :=
      ⟨x 1, x 2, (eq_ix3 x).trans (by congr 1; exact Subsingleton.elim (α := Fin 1) _ _)⟩
    refine (piece_A x0 x1 x2 0 0 _ _ _ _ _ _ ?_ ?_ ?_ ?_ ?_ ?_ r l).trans ?_
    · intro r l; pointwise
    · intro r l; pointwise
    · intro r l; pointwise
    · intro r l; pointwise
    · intro r l; pointwise
    · intro r l; pointwise
    · dsimp only; congr 1 <;> apply Fin.ext <;> simp

/-- The stored piece of sample `n` and of heads `2 j` and `2 j + 1` of case B (2304 keys) is `attended` at its place, whatever the
    operands are that hold the two heads' lanes of the blocks. -/
theorem piece_B (x0 : Vec Ideal S2x256x512 .bf16) (x1 x2 : Vec Ideal S2x2304x512 .bf16) (n j : Fin 2)
    (Q Q' : Vec Ideal S1x256x128 .bf16) (K K' V V' : Vec Ideal S1x2304x128 .bf16)
    (hQ : ∀ r l, Q (ix3 0 r l) = x0 (ix3 n r ⟨256 * j.val + l.val, by omega⟩))
    (hQ' : ∀ r l, Q' (ix3 0 r l) = x0 (ix3 n r ⟨256 * j.val + 128 + l.val, by omega⟩))
    (hK : ∀ t l, K (ix3 0 t l) = x1 (ix3 n ⟨t.val, by omega⟩ ⟨256 * j.val + l.val, by omega⟩))
    (hK' : ∀ t l, K' (ix3 0 t l) = x1 (ix3 n ⟨t.val, by omega⟩ ⟨256 * j.val + 128 + l.val, by omega⟩))
    (hV : ∀ t l, V (ix3 0 t l) = x2 (ix3 n ⟨t.val, by omega⟩ ⟨256 * j.val + l.val, by omega⟩))
    (hV' : ∀ t l, V' (ix3 0 t l) = x2 (ix3 n ⟨t.val, by omega⟩ ⟨256 * j.val + 128 + l.val, by omega⟩))
    (r : Fin 256) (l : Fin 128) :
    k0_pay11 (F := Ideal) k0_pay1 (k0_pay19 Q K V) (k0_pay19 Q' K' V') (ix3 0 r l)
      = attended 2304 (by omega) x0 x1 x2 n r ⟨128 * j.val + l.val, by omega⟩ := by
  rw [st_apply]
  simp only [pv_B, hQ, hQ', hK, hK', hV, hV']
  unfold attended
  by_cases h : l.val < 64
  · have e1 : (128 * j.val + l.val) / 64 = 2 * j.val := by omega
    have e2 : (128 * j.val + l.val) % 64 = l.val := by omega
    have e3 : (l.val + 64) % 128 = l.val + 64 := by omega
    simp only [h, if_true, e1, e2, e3, ← mul_assoc, Nat.reduceMul]
  · have e1 : (128 * j.val + l.val) / 64 = 2 * j.val + 1 := by omega
    have e2 : (128 * j.val + l.val) % 64 = l.val - 64 := by omega
    have e3 : (l.val + 64) % 128 = l.val - 64 := by omega
    have e4 : l.val - 64 + 64 = l.val := by omega
    simp only [h, if_false, e1, e2, e3, e4, mul_add, ← mul_assoc, Nat.reduceMul]

/-- The block that case B leaves (2304 keys) is `attended` of the blocks it reads. -/
theorem out_B (c : Dev nD) (i : grid0.Coords) (arg2 : Memref sig .tc .vmem S2x256x512 .bf16) (harg2 : arg2.IsWhole) (arg3 : Memref sig .tc .vmem S2x2304x512 .bf16) (harg3 : arg3.IsWhole) (arg4 : Memref sig .tc .vmem S2x2304x512 .bf16) (harg4 : arg4.IsWhole) (arg5 : Memref sig .tc .vmem S2x256x256 .bf16) (harg5 : arg5.IsWhole) (hc0 : ¬cond0_0 i) (hc1 : cond0_1 i)
    (x0 : Vec Ideal S2x256x512 .bf16) (x1 x2 : Vec Ideal S2x2304x512 .bf16) (y : S2x256x256.Idx) :
    out0_B_3 (F := Ideal) c i arg2 harg2 arg3 harg3 arg4 harg4 arg5 harg5 hc0 hc1 x0 x1 x2 y
      = attended 2304 (by omega) x0 x1 x2 (y 0) (y 1) (y 2) := by
  unfold out0_B_3
  rw [View.read_writes_eq_canon _ _ _ (cover0_B_3 c i arg2 harg2 arg3 harg3 arg4 harg4 arg5 harg5 hc0 hc1 x0 x1 x2)]
  refine View.canon_apply_of_pieces (fun y : S2x256x256.Idx => attended 2304 (by omega) x0 x1 x2 (y 0) (y 1) (y 2)) _ ?_ y
    (cover0_B_3 c i arg2 harg2 arg3 harg3 arg4 harg4 arg5 harg5 hc0 hc1 x0 x1 x2 y)
  unfold kernelRun0_B
  dsimp only
  sl_unfold_words
  simp only [View.readAt_eq_ld, harg2.read_unread, harg3.read_unread, harg4.read_unread]
  intro p hp
  simp only [List.mem_cons, List.not_mem_nil, or_false] at hp
  rcases hp with rfl | rfl | rfl | rfl
  · intro x
    obtain ⟨r, l, rfl⟩ : ∃ (r : Fin 256) (l : Fin 128), x = ix3 0 r l :=
      ⟨x 1, x 2, (eq_ix3 x).trans (by congr 1; exact Subsingleton.elim (α := Fin 1) _ _)⟩
    refine (piece_B x0 x1 x2 1 1 _ _ _ _ _ _ ?_ ?_ ?_ ?_ ?_ ?_ r l).trans ?_
    · intro r l; pointwise
    · intro r l; pointwise
    · intro r l; pointwise
    · intro r l; pointwise
    · intro r l; pointwise
    · intro r l; pointwise
    · dsimp only; congr 1 <;> apply Fin.ext <;> simp
  · intro x
    obtain ⟨r, l, rfl⟩ : ∃ (r : Fin 256) (l : Fin 128), x = ix3 0 r l :=
      ⟨x 1, x 2, (eq_ix3 x).trans (by congr 1; exact Subsingleton.elim (α := Fin 1) _ _)⟩
    refine (piece_B x0 x1 x2 1 0 _ _ _ _ _ _ ?_ ?_ ?_ ?_ ?_ ?_ r l).trans ?_
    · intro r l; pointwise
    · intro r l; pointwise
    · intro r l; pointwise
    · intro r l; pointwise
    · intro r l; pointwise
    · intro r l; pointwise
    · dsimp only; congr 1 <;> apply Fin.ext <;> simp
  · intro x
    obtain ⟨r, l, rfl⟩ : ∃ (r : Fin 256) (l : Fin 128), x = ix3 0 r l :=
      ⟨x 1, x 2, (eq_ix3 x).trans (by congr 1; exact Subsingleton.elim (α := Fin 1) _ _)⟩
    refine (piece_B x0 x1 x2 0 1 _ _ _ _ _ _ ?_ ?_ ?_ ?_ ?_ ?_ r l).trans ?_
    · intro r l; pointwise
    · intro r l; pointwise
    · intro r l; pointwise
    · intro r l; pointwise
    · intro r l; pointwise
    · intro r l; pointwise
    · dsimp only; congr 1 <;> apply Fin.ext <;> simp
  · intro x
    obtain ⟨r, l, rfl⟩ : ∃ (r : Fin 256) (l : Fin 128), x = ix3 0 r l :=
      ⟨x 1, x 2, (eq_ix3 x).trans (by congr 1; exact Subsingleton.elim (α := Fin 1) _ _)⟩
    refine (piece_B x0 x1 x2 0 0 _ _ _ _ _ _ ?_ ?_ ?_ ?_ ?_ ?_ r l).trans ?_
    · intro r l; pointwise
    · intro r l; pointwise
    · intro r l; pointwise
    · intro r l; pointwise
    · intro r l; pointwise
    · intro r l; pointwise
    · dsimp only; congr 1 <;> apply Fin.ext <;> simp

end Cert.KernelIdeal.Attn

end
-- ==== Proof.Host.lean ====
/- The three arrays that the attention call is given, element by element from the launch's arguments: the queries scaled and padded
   to 128 lanes a head, the keys padded, the values followed by ones. -/
module

public import proofs.«01_k».proof.Proof.Gen.KernelIdeal.Value
public import Idealize.ShloMosaic.Lib.Pipeline.Value
public import Idealize.ShloMosaic.Lib.Pointwise
public import Idealize.ShloMosaic.Lib.StableHlo.ReadAt
public import Idealize.ShloMosaic.PureOps.IdealRules

@[expose] public section

noncomputable section

open Idealize.ShloMosaic Idealize.ShloMosaic.TcCoe Idealize.SL.Sem Idealize.SL.ProofMode

namespace Cert.KernelIdeal.Attn

open Cert.KernelIdeal Cert.KernelIdeal.Gen

set_option maxRecDepth 16384

/-- The softmax's scale times `log2 e`. -/
def logScale : ℝ := (Real.sqrt 96)⁻¹ * (Real.log 2)⁻¹

/-- The inverse root of 96 over the logarithm of 2, as the host computes it, is `logScale`. -/
theorem scale_eq : Ideal.div (Ideal.rsqrt (Ideal.ofBits .f32 0x42C00000#32)) (Ideal.log (Ideal.ofBits .f32 0x40000000#32))
    = (logScale : EReal) := by
  have h96 : Ideal.ofBits .f32 0x42C00000#32 = ((96 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : Real.log 2 ≠ 0 := (Real.log_pos one_lt_two).ne'
  rw [h96, h2]
  show Ideal.div (if (96 : ℝ) < 0 then ⊥ else if (96 : ℝ) = 0 then ⊤ else ((Real.sqrt 96)⁻¹ : ℝ))
    (if (2 : ℝ) ≤ 0 then ⊥ else (Real.log 2 : EReal)) = _
  simp only [show ¬(96 : ℝ) < 0 by norm_num, show ¬(96 : ℝ) = 0 by norm_num, show ¬(2 : ℝ) ≤ 0 by norm_num, if_false]
  rw [Ideal.div_coe hl, ← EReal.coe_mul, logScale, one_div]

variable (m : (ℓ : Loc nD τ sig) → Buf (Elt Ideal) ℓ)

/-- The queries, keys and values of the launch, at sample, token, head and lane. -/
def argQ (c : Dev nD) (b : Fin 8) (r : Fin 2304) (h : Fin 4) (l : Fin 96) : EReal := m ((c : Thread nD τ).loc main_arg0) (ix4 b r h l)
def argK (c : Dev nD) (b : Fin 8) (r : Fin 2304) (h : Fin 4) (l : Fin 96) : EReal := m ((c : Thread nD τ).loc main_arg1) (ix4 b r h l)
def argV (c : Dev nD) (b : Fin 8) (r : Fin 2304) (h : Fin 4) (l : Fin 64) : EReal := m ((c : Thread nD τ).loc main_arg2) (ix4 b r h l)

/-- The zero that pads queries and keys, an integer's conversion, is zero. -/
theorem pad_zero : FloatOps.sitofp (F := Ideal) FTy.f32 0#32 = (0 : EReal) := by
  show ((((0#32 : BitVec 32).toInt : ℝ)) : EReal) = 0
  simp

/-- The staged queries: scaled on the first 96 lanes of a head, zero on the rest. -/
theorem q_apply (c : Dev nD) (b : Fin 8) (r : Fin 2304) (h : Fin 4) (l : Fin 128) :
    @Eq EReal (V m c main_v7 (ix3 b r ⟨128 * h.val + l.val, by omega⟩))
      (if hl : l.val < 96 then argQ m c b r h ⟨l.val, hl⟩ * (logScale : EReal) else 0) := by
  unfold V
  after_reads_at
  have e1 : (128 * h.val + l.val) / 128 = h.val := by omega
  have e2 : (128 * h.val + l.val) % 128 = l.val := by omega
  simp only [e1, e2, h.isLt, true_and, scale_eq, pad_zero]
  rfl

/-- The staged keys: the keys on the first 96 lanes of a head, zero on the rest. -/
theorem k_apply (c : Dev nD) (b : Fin 8) (r : Fin 2304) (h : Fin 4) (l : Fin 128) :
    @Eq EReal (V m c main_v10 (ix3 b r ⟨128 * h.val + l.val, by omega⟩))
      (if hl : l.val < 96 then argK m c b r h ⟨l.val, hl⟩ else 0) := by
  unfold V
  after_reads_at
  have e1 : (128 * h.val + l.val) / 128 = h.val := by omega
  have e2 : (128 * h.val + l.val) % 128 = l.val := by omega
  simp only [e1, e2, h.isLt, true_and, pad_zero]
  rfl

/-- The staged values: the values on the first 64 lanes of a head, ones on the rest. -/
theorem v_apply (c : Dev nD) (b : Fin 8) (r : Fin 2304) (h : Fin 4) (l : Fin 128) :
    @Eq EReal (V m c main_v14 (ix3 b r ⟨128 * h.val + l.val, by omega⟩))
      (if hl : l.val < 64 then argV m c b r h ⟨l.val, hl⟩ else 1) := by
  unfold V
  after_reads_at
  have e1 : (128 * h.val + l.val) / 128 = h.val := by omega
  have e2 : (128 * h.val + l.val) % 128 = l.val := by omega
  simp only [e1, e2, h.isLt]
  split
  · after_reads_at
    rfl
  · after_reads_at

end Cert.KernelIdeal.Attn

end
-- ==== Proof.Array.lean ====
/- The result array after the run, at every index: the block of the grid point that covers the index, computed from the three staged
   arrays. -/
module

public import proofs.«01_k».proof.Proof.Block
public import proofs.«01_k».proof.Proof.Host
public import proofs.«01_k».proof.Proof.Gen.KernelIdeal.Value

@[expose] public section

noncomputable section

open Idealize.ShloMosaic Idealize.ShloMosaic.TcCoe Idealize.SL.Sem Idealize.SL.ProofMode

namespace Cert.KernelIdeal.Attn

open Cert.KernelIdeal Cert.KernelIdeal.Gen

set_option maxRecDepth 16384

variable (m : (ℓ : Loc nD τ sig) → Buf (Elt Ideal) ℓ)

/-- Point `t`'s block of queries is that of pair `t / 9` of samples and of tile `t % 9` of tokens. -/
theorem index_q : ∀ t : Fin cfg0.N, win0_0.index t 0 = t.val / 9 ∧ win0_0.index t 1 = t.val % 9 ∧ win0_0.index t 2 = 0 :=
  (by decide +kernel : ∀ t : Fin grid0.N, win0_0.index t 0 = t.val / 9 ∧ win0_0.index t 1 = t.val % 9 ∧ win0_0.index t 2 = 0)

/-- Its block of keys is the whole of the pair's, -/
theorem index_k : ∀ t : Fin cfg0.N, win0_1.index t 0 = t.val / 9 ∧ win0_1.index t 1 = 0 ∧ win0_1.index t 2 = 0 :=
  (by decide +kernel : ∀ t : Fin grid0.N, win0_1.index t 0 = t.val / 9 ∧ win0_1.index t 1 = 0 ∧ win0_1.index t 2 = 0)

/-- so is its block of values, -/
theorem index_v : ∀ t : Fin cfg0.N, win0_2.index t 0 = t.val / 9 ∧ win0_2.index t 1 = 0 ∧ win0_2.index t 2 = 0 :=
  (by decide +kernel : ∀ t : Fin grid0.N, win0_2.index t 0 = t.val / 9 ∧ win0_2.index t 1 = 0 ∧ win0_2.index t 2 = 0)

/-- and its block of the result lies as that of the queries does. -/
theorem index_o : ∀ t : Fin cfg0.N, win0_3.index t 0 = t.val / 9 ∧ win0_3.index t 1 = t.val % 9 ∧ win0_3.index t 2 = 0 :=
  (by decide +kernel : ∀ t : Fin grid0.N, win0_3.index t 0 = t.val / 9 ∧ win0_3.index t 1 = t.val % 9 ∧ win0_3.index t 2 = 0)

theorem lt_36 (t : Fin cfg0.N) : t.val < 36 := lt_of_lt_of_eq t.isLt N_0

/-- Point `t`'s block of queries, at an index. -/
theorem blk_q (c : Dev nD) (t : Fin cfg0.N) (n : Fin 2) (r : Fin 256) (l : Fin 512) :
    @Eq EReal (iblk m c 0 t (ix3 n r l))
      (V m c main_v7 (ix3 ⟨2 * (t.val / 9) + n.val, by have := lt_36 t; omega⟩ ⟨256 * (t.val % 9) + r.val, by omega⟩ l)) := by
  obtain ⟨e0, e1, e2⟩ := index_q t
  unfold iblk
  show V m c main_v7 ((win0_0.rect t).emb (ix3 n r l)) = _
  congr 1
  funext a
  apply Fin.ext
  rw [Pipeline.Window.rect_emb_val win0_0 _ _ _ rfl]
  match a with
  | ⟨0, _⟩ => show win0_0.index t 0 * 2 + n.val = 2 * (t.val / 9) + n.val; rw [e0]; omega
  | ⟨1, _⟩ => show win0_0.index t 1 * 256 + r.val = 256 * (t.val % 9) + r.val; rw [e1]; omega
  | ⟨2, _⟩ => show win0_0.index t 2 * 512 + l.val = l.val; rw [e2]; omega

/-- Its block of keys, at an index. -/
theorem blk_k (c : Dev nD) (t : Fin cfg0.N) (n : Fin 2) (r : Fin 2304) (l : Fin 512) :
    @Eq EReal (iblk m c 1 t (ix3 n r l)) (V m c main_v10 (ix3 ⟨2 * (t.val / 9) + n.val, by have := lt_36 t; omega⟩ r l)) := by
  obtain ⟨e0, e1, e2⟩ := index_k t
  unfold iblk
  show V m c main_v10 ((win0_1.rect t).emb (ix3 n r l)) = _
  congr 1
  funext a
  apply Fin.ext
  rw [Pipeline.Window.rect_emb_val win0_1 _ _ _ rfl]
  match a with
  | ⟨0, _⟩ => show win0_1.index t 0 * 2 + n.val = 2 * (t.val / 9) + n.val; rw [e0]; omega
  | ⟨1, _⟩ => show win0_1.index t 1 * 2304 + r.val = r.val; rw [e1]; omega
  | ⟨2, _⟩ => show win0_1.index t 2 * 512 + l.val = l.val; rw [e2]; omega

/-- Its block of values, at an index. -/
theorem blk_v (c : Dev nD) (t : Fin cfg0.N) (n : Fin 2) (r : Fin 2304) (l : Fin 512) :
    @Eq EReal (iblk m c 2 t (ix3 n r l)) (V m c main_v14 (ix3 ⟨2 * (t.val / 9) + n.val, by have := lt_36 t; omega⟩ r l)) := by
  obtain ⟨e0, e1, e2⟩ := index_v t
  unfold iblk
  show V m c main_v14 ((win0_2.rect t).emb (ix3 n r l)) = _
  congr 1
  funext a
  apply Fin.ext
  rw [Pipeline.Window.rect_emb_val win0_2 _ _ _ rfl]
  match a with
  | ⟨0, _⟩ => show win0_2.index t 0 * 2 + n.val = 2 * (t.val / 9) + n.val; rw [e0]; omega
  | ⟨1, _⟩ => show win0_2.index t 1 * 2304 + r.val = r.val; rw [e1]; omega
  | ⟨2, _⟩ => show win0_2.index t 2 * 512 + l.val = l.val; rw [e2]; omega

/-- The grid point whose block of the result holds sample `b`, token `r`. -/
def pointOf (b : Fin 8) (r : Fin 2304) : Fin cfg0.N :=
  ⟨9 * (b.val / 2) + r.val / 256, lt_of_lt_of_eq (by omega : 9 * (b.val / 2) + r.val / 256 < 36) N_0.symm⟩

/-- An element of the result lies in the block of that point. -/
theorem emb_pointOf (b : Fin 8) (r : Fin 2304) (d : Fin 256) :
    ((cfg0.win 3).blk (pointOf b r)).view.emb (ix3 (⟨b.val % 2, by omega⟩ : Fin 2) (⟨r.val % 256, by omega⟩ : Fin 256) d : S2x256x256.Idx)
      = (ix3 b r d : S8x2304x256.Idx) := by
  obtain ⟨e0, e1, e2⟩ := index_o (pointOf b r)
  show (win0_3.rect (pointOf b r)).emb (ix3 (⟨b.val % 2, by omega⟩ : Fin 2) (⟨r.val % 256, by omega⟩ : Fin 256) d : S2x256x256.Idx) = _
  funext a
  apply Fin.ext
  rw [Pipeline.Window.rect_emb_val win0_3 _ _ _ rfl]
  match a with
  | ⟨0, _⟩ =>
    show win0_3.index (pointOf b r) 0 * 2 + b.val % 2 = b.val
    rw [e0]; show (9 * (b.val / 2) + r.val / 256) / 9 * 2 + b.val % 2 = b.val; omega
  | ⟨1, _⟩ =>
    show win0_3.index (pointOf b r) 1 * 256 + r.val % 256 = r.val
    rw [e1]; show (9 * (b.val / 2) + r.val / 256) % 9 * 256 + r.val % 256 = r.val; omega
  | ⟨2, _⟩ => show win0_3.index (pointOf b r) 2 * 256 + d.val = d.val; rw [e2]; omega

/-- The result at an index is what that point wrote there. -/
theorem arr_apply (c : Dev nD) (b : Fin 8) (r : Fin 2304) (d : Fin 256) :
    @Eq EReal ((dats m 0 c).arrAt 3 cfg0.N (ix3 b r d))
      ((dats m 0 c).flushed 3 (pointOf b r) (ix3 (⟨b.val % 2, by omega⟩ : Fin 2) (⟨r.val % 256, by omega⟩ : Fin 256) d : S2x256x256.Idx)) := by
  rw [← emb_pointOf b r d]
  exact congrFun (Value.blocks3 m c (pointOf b r) (flush0_3 _)) _

end Cert.KernelIdeal.Attn

end
-- ==== Proof.Flushed.lean ====
/- What the grid points write, at every index. -/
module

public import proofs.«01_k».proof.Proof.Array

@[expose] public section

noncomputable section

open Idealize.ShloMosaic Idealize.ShloMosaic.TcCoe Idealize.SL.Sem Idealize.SL.ProofMode

namespace Cert.KernelIdeal.Attn

open Cert.KernelIdeal Cert.KernelIdeal.Gen

set_option maxRecDepth 16384

variable (m : (ℓ : Loc nD τ sig) → Buf (Elt Ideal) ℓ)

/-- In the first tile of tokens the point attends over the first 256 tokens, -/
theorem flushed_ctx (c : Dev nD) (t : Fin cfg0.N) (h : t.val % 9 = 0) (n : Fin 2) (r d : Fin 256) :
    @Eq EReal ((dats m 0 c).flushed 3 t (ix3 n r d : S2x256x256.Idx))
      (attended 256 (by omega) (iblk m c 0 t) (iblk m c 1 t) (iblk m c 2 t) n r d) :=
  (congrFun (Value.flushed3_A m c t h (by omega)) (ix3 n r d : S2x256x256.Idx)).trans (out_A ..)

/-- in the other tiles over all. -/
theorem flushed_lat (c : Dev nD) (t : Fin cfg0.N) (h : ¬t.val % 9 = 0) (n : Fin 2) (r d : Fin 256) :
    @Eq EReal ((dats m 0 c).flushed 3 t (ix3 n r d : S2x256x256.Idx))
      (attended 2304 (by omega) (iblk m c 0 t) (iblk m c 1 t) (iblk m c 2 t) n r d) :=
  (congrFun (Value.flushed3_B m c t h (by omega)) (ix3 n r d : S2x256x256.Idx)).trans (out_B ..)

end Cert.KernelIdeal.Attn

end
-- ==== Proof.Softmax.lean ====
/- Two ways to take a softmax's mean, at scores that are real numbers and values that are any extended reals: powers of two of the
   scores over `log 2`, whose sum divides last, and exponentials divided by their sum before the values are weighed. -/
module

public import Idealize.ShloMosaic.PureOps.Ideal
public import Idealize.ShloMosaic.PureOps.Ideal.Laws
public import Mathlib.Analysis.SpecialFunctions.Pow.Real

@[expose] public section

noncomputable section

open Idealize.ShloMosaic

namespace Cert.Softmax

/-- The greatest of finitely many real numbers, at least one, is a real number. -/
theorem fold_max_real {ι : Type*} (S : Finset ι) (hS : S.Nonempty) (a : ι → ℝ) :
    ∃ m : ℝ, S.fold max (⊥ : EReal) (fun t => (a t : EReal)) = m := by
  classical
  induction hS using Finset.Nonempty.cons_induction with
  | singleton t => exact ⟨a t, by simp⟩
  | cons t S h _ ih =>
    obtain ⟨m, hm⟩ := ih
    exact ⟨max (a t) m, by rw [Finset.fold_cons, hm]; exact (EReal.coe_strictMono.monotone.map_max).symm⟩

/-- A sum of real numbers is the real sum. -/
theorem coe_sum {ι : Type*} (S : Finset ι) (a : ι → ℝ) : ((∑ t ∈ S, a t : ℝ) : EReal) = ∑ t ∈ S, (a t : EReal) := by
  classical
  induction S using Finset.induction_on with
  | empty => simp
  | insert t S h ih => rw [Finset.sum_insert h, Finset.sum_insert h, EReal.coe_add, ih]

/-- A sum of extended reals times a real number that is not negative is the sum of the products. -/
theorem sum_mul_real {ι : Type*} (S : Finset ι) (f : ι → EReal) (c : ℝ) (hc : 0 ≤ c) :
    (∑ t ∈ S, f t) * (c : EReal) = ∑ t ∈ S, f t * c := by
  classical
  induction S using Finset.induction_on with
  | empty => simp
  | insert t S h ih =>
    rw [Finset.sum_insert h, Finset.sum_insert h,
      EReal.right_distrib_of_nonneg_of_ne_top (EReal.coe_nonneg.mpr hc) (EReal.coe_ne_top c), ih]

/-- Two to the power `x / log 2` is the exponential of `x`. -/
theorem two_rpow (x : ℝ) : Real.rpow 2 (x * (Real.log 2)⁻¹) = Real.exp x := by
  have h2 : Real.log 2 ≠ 0 := (Real.log_pos one_lt_two).ne'
  show (2 : ℝ) ^ (x * (Real.log 2)⁻¹) = _
  rw [Real.rpow_def_of_pos two_pos]
  congr 1
  field_simp

/-- The mean of `v` under the softmax of the real scores `s`: the powers of two of `s / log 2` less their greatest, summed with the
    values and divided by their own sum, are the exponentials of `s` less its greatest, each divided by their sum. -/
theorem mean_eq {n : ℕ} (hn : 0 < n) (s : Fin n → ℝ) (v : Fin n → EReal) :
    Ideal.div
        (∑ t, Ideal.exp2 (((s t * (Real.log 2)⁻¹ : ℝ) : EReal)
          - Finset.univ.fold max ⊥ fun t => ((s t * (Real.log 2)⁻¹ : ℝ) : EReal)) * v t)
        (∑ t, Ideal.exp2 (((s t * (Real.log 2)⁻¹ : ℝ) : EReal)
          - Finset.univ.fold max ⊥ fun t => ((s t * (Real.log 2)⁻¹ : ℝ) : EReal)) * 1)
      = ∑ t, v t * Ideal.div (Ideal.exp ((s t : EReal) - Finset.univ.fold max ⊥ fun t => (s t : EReal)))
          (∑ t, Ideal.exp ((s t : EReal) - Finset.univ.fold max ⊥ fun t => (s t : EReal))) := by
  have hne : (Finset.univ : Finset (Fin n)).Nonempty := ⟨⟨0, hn⟩, Finset.mem_univ _⟩
  obtain ⟨m, hm⟩ := fold_max_real Finset.univ hne s
  obtain ⟨m', hm'⟩ := fold_max_real Finset.univ hne fun t => s t * (Real.log 2)⁻¹
  have h2 : Real.log 2 ≠ 0 := (Real.log_pos one_lt_two).ne'
  rw [hm, hm']
  have hw : ∀ t, Ideal.exp2 (((s t * (Real.log 2)⁻¹ : ℝ) : EReal) - (m' : EReal)) = (Real.exp (s t - m' * Real.log 2) : EReal) := by
    intro t
    rw [← EReal.coe_sub, Ideal.exp2_coe, show s t * (Real.log 2)⁻¹ - m' = (s t - m' * Real.log 2) * (Real.log 2)⁻¹ by field_simp,
      two_rpow]
  have hu : ∀ t, Ideal.exp ((s t : EReal) - (m : EReal)) = (Real.exp (s t - m) : EReal) := by
    intro t; rw [← EReal.coe_sub, Ideal.exp_coe]
  simp only [hw, hu, mul_one, ← coe_sum]
  have hW : 0 < ∑ t : Fin n, Real.exp (s t - m' * Real.log 2) := Finset.sum_pos (fun t _ => Real.exp_pos _) hne
  have hU : 0 < ∑ t : Fin n, Real.exp (s t - m) := Finset.sum_pos (fun t _ => Real.exp_pos _) hne
  rw [Ideal.div_coe hW.ne']
  rw [sum_mul_real _ _ _ (by positivity)]
  refine Finset.sum_congr rfl fun t _ => ?_
  rw [Ideal.div_coe hU.ne', ← EReal.coe_mul, mul_right_comm, ← EReal.coe_mul, mul_comm (v t)]
  congr 2
  have e : ∀ t, Real.exp (s t - m' * Real.log 2) = Real.exp (m - m' * Real.log 2) * Real.exp (s t - m) := by
    intro t; rw [← Real.exp_add]; congr 1; ring
  simp only [e, ← Finset.mul_sum]
  have := Real.exp_pos (m - m' * Real.log 2)
  field_simp

end Cert.Softmax

end
-- ==== Proof.RefValue.lean ====
/- The reference's result at an index: attention with a softmax, over the first 256 tokens for a context token and over all for a latent. -/
module

public import proofs.«01_k».proof.Proof.Gen.ReferenceIdeal.Read
public import Idealize.ShloMosaic.Lib.Pointwise

@[expose] public section

noncomputable section

open Idealize.ShloMosaic Idealize.ShloMosaic.TcCoe Idealize.SL.Sem Idealize.SL.ProofMode

namespace Cert.ReferenceIdeal.Attn

open Cert.ReferenceIdeal Cert.ReferenceIdeal.Gen Cert.ReferenceIdeal.Read

set_option maxRecDepth 16384

/-- The score of the query of token `r` against the key of token `t`. -/
def score (x0 x1 : (⟨S8x2304x4x96, .f32⟩ : BufTy).Contents (Elt Ideal)) (b : Fin 8) (h : Fin 4) (r t : Fin 2304) : EReal :=
  (∑ l : Fin 96, x0 (ix4 b r h l) * x1 (ix4 b t h l)) * Ideal.rsqrt (Ideal.ofBits .f32 0x42C00000#32)

/-- The mean of the values of the first `n` tokens, weighted by the softmax of their scores. -/
def mean (n : ℕ) (s v : Fin n → EReal) : EReal :=
  ∑ t, v t * Ideal.div (Ideal.exp (s t - Finset.univ.fold max ⊥ s)) (∑ t, Ideal.exp (s t - Finset.univ.fold max ⊥ s))

variable (x0 x1 : (⟨S8x2304x4x96, .f32⟩ : BufTy).Contents (Elt Ideal)) (x2 : (⟨S8x2304x4x64, .f32⟩ : BufTy).Contents (Elt Ideal))

/-- A context token's scores. -/
theorem ctx_score (b : Fin 8) (h : Fin 4) (r : Fin 256) (t : Fin 256) :
    @Eq EReal (val_main_v6 (F := Ideal) x0 x1 (ix4 b h r t)) (score x0 x1 b h ⟨r.val, by omega⟩ ⟨t.val, by omega⟩) := by
  rw [val_main_v6_apply, val_main_v4_apply]
  simp only [val_main_v1_apply, val_main_v2_apply, val_main_v5_apply, val_main_v0_apply]
  have el (l : Fin 96) : idx_main_v1 (lidx_main_v4 (ix4 b h r t) l) = ix4 b ⟨r.val, by omega⟩ h l := eq_ix4 _
  have er (l : Fin 96) : idx_main_v2 (ridx_main_v4 (ix4 b h r t) l) = ix4 b ⟨t.val, by omega⟩ h l := eq_ix4 _
  simp only [el, er]
  rfl

/-- Their maximum. -/
theorem ctx_max (b : Fin 8) (h : Fin 4) (r : Fin 256) :
    @Eq EReal (val_main_v9 (F := Ideal) x0 x1 (ix3 b h r))
      (Finset.univ.fold max ⊥ fun t : Fin 256 => score x0 x1 b h ⟨r.val, by omega⟩ ⟨t.val, by omega⟩) := by
  rw [val_main_v9_apply, val_main_v8_apply]
  have e : @Eq EReal (val_main_v7 (F := Ideal) x0 x1 (ix3 b h r))
      (Finset.univ.fold max ⊥ fun t : Fin 256 => val_main_v6 (F := Ideal) x0 x1 (ix4 b h r t)) := by
    unfold val_main_v7
    generalize val_main_v6 (F := Ideal) x0 x1 = y
    pointwise [val_main_cst_0]
    rfl
  rw [e]
  simp only [ctx_score]
  exact max_eq_right bot_le

/-- The exponential of a score less the maximum. -/
theorem ctx_exp (b : Fin 8) (h : Fin 4) (r : Fin 256) (t : Fin 256) :
    @Eq EReal (val_main_v13 (F := Ideal) x0 x1 (ix4 b h r t))
      (Ideal.exp (score x0 x1 b h ⟨r.val, by omega⟩ ⟨t.val, by omega⟩
        - Finset.univ.fold max ⊥ fun t : Fin 256 => score x0 x1 b h ⟨r.val, by omega⟩ ⟨t.val, by omega⟩)) := by
  rw [val_main_v13_apply, val_main_v12_apply, val_main_v11_apply, val_main_v10_apply, ctx_score]
  have e : idx_main_v10 (idx_main_v11 (ix4 b h r t)) = ix3 b h r := eq_ix3 _
  rw [e]
  exact congrArg (fun x : EReal => Ideal.exp (score x0 x1 b h ⟨r.val, by omega⟩ ⟨t.val, by omega⟩ - x)) (ctx_max x0 x1 b h r)

/-- The softmax of a score. -/
theorem ctx_softmax (b : Fin 8) (h : Fin 4) (r : Fin 256) (t : Fin 256) :
    @Eq EReal (val_main_v17 (F := Ideal) x0 x1 (ix4 b h r t))
      (Ideal.div (Ideal.exp (score x0 x1 b h ⟨r.val, by omega⟩ ⟨t.val, by omega⟩
          - Finset.univ.fold max ⊥ fun t : Fin 256 => score x0 x1 b h ⟨r.val, by omega⟩ ⟨t.val, by omega⟩))
        (∑ t : Fin 256, Ideal.exp (score x0 x1 b h ⟨r.val, by omega⟩ ⟨t.val, by omega⟩
          - Finset.univ.fold max ⊥ fun t : Fin 256 => score x0 x1 b h ⟨r.val, by omega⟩ ⟨t.val, by omega⟩))) := by
  rw [val_main_v17_apply, val_main_v16_apply, val_main_v15_apply, val_main_v14_apply, ctx_exp]
  have ei (k : Fin 256) : idx_main_v14 (idx_main_v15 (idx_main_v16 (ix4 b h r t))) k = ix4 b h r k := eq_ix4 _
  simp only [ei]
  have e : @Eq EReal (val_main_cst_2 (F := Ideal) (Shape.Idx.first h_S_) + ∑ t : Fin 256, val_main_v13 (F := Ideal) x0 x1 (ix4 b h r t))
      (∑ t : Fin 256, Ideal.exp (score x0 x1 b h ⟨r.val, by omega⟩ ⟨t.val, by omega⟩
          - Finset.univ.fold max ⊥ fun t : Fin 256 => score x0 x1 b h ⟨r.val, by omega⟩ ⟨t.val, by omega⟩)) := by
    simp only [ctx_exp]
    exact (congrArg (· + _) (by simp [val_main_cst_2, constant, Ideal.ofBits, Ideal.ieee])).trans (zero_add _)
  exact congrArg (fun x : EReal => Ideal.div _ x) e

/-- A context token's result: the mean of the values of the first 256 tokens. -/
theorem ctx_value (b : Fin 8) (r : Fin 256) (h : Fin 4) (d : Fin 64) :
    @Eq EReal (val_main_v20 (F := Ideal) x0 x1 x2 (ix3 b r ⟨64 * h.val + d.val, by omega⟩))
      (mean 256 (fun t => score x0 x1 b h ⟨r.val, by omega⟩ ⟨t.val, by omega⟩) fun t => x2 (ix4 b ⟨t.val, by omega⟩ h d)) := by
  have e : idx_main_v20 (ix3 b r (⟨64 * h.val + d.val, by omega⟩ : Fin 256)) = ix4 b r h d := by
    funext a
    apply Fin.ext
    match a with
    | ⟨0, _⟩ => show ((b.val * 256 + r.val) * 256 + (64 * h.val + d.val)) / 65536 = b.val; omega
    | ⟨1, _⟩ => show ((b.val * 256 + r.val) * 256 + (64 * h.val + d.val)) / 256 % 256 = r.val; omega
    | ⟨2, _⟩ => show ((b.val * 256 + r.val) * 256 + (64 * h.val + d.val)) / 64 % 4 = h.val; omega
    | ⟨3, _⟩ => show ((b.val * 256 + r.val) * 256 + (64 * h.val + d.val)) % 64 = d.val; omega
  rw [val_main_v20_apply, e, val_main_v19_apply, val_main_v18_apply]
  unfold mean
  refine Finset.sum_congr rfl fun t _ => ?_
  rw [val_main_v3_apply]
  have el : idx_main_v3 (lidx_main_v18 (idx_main_v19 (ix4 b r h d)) t) = ix4 b ⟨t.val, by omega⟩ h d := eq_ix4 _
  have er : ridx_main_v18 (idx_main_v19 (ix4 b r h d)) t = ix4 b h r t := eq_ix4 _
  rw [el, er]
  exact congrArg (fun x : EReal => x2 (ix4 b ⟨t.val, by omega⟩ h d) * x) (ctx_softmax x0 x1 b h r t)

/-- A latent token's scores. -/
theorem lat_score (b : Fin 8) (h : Fin 4) (r : Fin 2048) (t : Fin 2304) :
    @Eq EReal (val_main_v24 (F := Ideal) x0 x1 (ix4 b h r t)) (score x0 x1 b h ⟨256 + r.val, by omega⟩ t) := by
  rw [val_main_v24_apply, val_main_v22_apply]
  simp only [val_main_v21_apply, val_main_v23_apply, val_main_v0_apply]
  have el (l : Fin 96) : idx_main_v21 (lidx_main_v22 (ix4 b h r t) l) = ix4 b ⟨256 + r.val, by omega⟩ h l := eq_ix4 _
  have er (l : Fin 96) : ridx_main_v22 (ix4 b h r t) l = ix4 b t h l := eq_ix4 _
  simp only [el, er]
  rfl

/-- Their maximum. -/
theorem lat_max (b : Fin 8) (h : Fin 4) (r : Fin 2048) :
    @Eq EReal (val_main_v27 (F := Ideal) x0 x1 (ix3 b h r))
      (Finset.univ.fold max ⊥ fun t : Fin 2304 => score x0 x1 b h ⟨256 + r.val, by omega⟩ t) := by
  rw [val_main_v27_apply, val_main_v26_apply]
  have e : @Eq EReal (val_main_v25 (F := Ideal) x0 x1 (ix3 b h r))
      (Finset.univ.fold max ⊥ fun t : Fin 2304 => val_main_v24 (F := Ideal) x0 x1 (ix4 b h r t)) := by
    unfold val_main_v25
    generalize val_main_v24 (F := Ideal) x0 x1 = y
    pointwise [val_main_cst_3]
    rfl
  rw [e]
  simp only [lat_score]
  exact max_eq_right bot_le

/-- The exponential of a score less the maximum. -/
theorem lat_exp (b : Fin 8) (h : Fin 4) (r : Fin 2048) (t : Fin 2304) :
    @Eq EReal (val_main_v31 (F := Ideal) x0 x1 (ix4 b h r t))
      (Ideal.exp (score x0 x1 b h ⟨256 + r.val, by omega⟩ t
        - Finset.univ.fold max ⊥ fun t : Fin 2304 => score x0 x1 b h ⟨256 + r.val, by omega⟩ t)) := by
  rw [val_main_v31_apply, val_main_v30_apply, val_main_v29_apply, val_main_v28_apply, lat_score]
  have e : idx_main_v28 (idx_main_v29 (ix4 b h r t)) = ix3 b h r := eq_ix3 _
  rw [e]
  exact congrArg (fun x : EReal => Ideal.exp (score x0 x1 b h ⟨256 + r.val, by omega⟩ t - x)) (lat_max x0 x1 b h r)

/-- The softmax of a score. -/
theorem lat_softmax (b : Fin 8) (h : Fin 4) (r : Fin 2048) (t : Fin 2304) :
    @Eq EReal (val_main_v35 (F := Ideal) x0 x1 (ix4 b h r t))
      (Ideal.div (Ideal.exp (score x0 x1 b h ⟨256 + r.val, by omega⟩ t
          - Finset.univ.fold max ⊥ fun t : Fin 2304 => score x0 x1 b h ⟨256 + r.val, by omega⟩ t))
        (∑ t : Fin 2304, Ideal.exp (score x0 x1 b h ⟨256 + r.val, by omega⟩ t
          - Finset.univ.fold max ⊥ fun t : Fin 2304 => score x0 x1 b h ⟨256 + r.val, by omega⟩ t))) := by
  rw [val_main_v35_apply, val_main_v34_apply, val_main_v33_apply, val_main_v32_apply, lat_exp]
  have ei (k : Fin 2304) : idx_main_v32 (idx_main_v33 (idx_main_v34 (ix4 b h r t))) k = ix4 b h r k := eq_ix4 _
  simp only [ei]
  have e : @Eq EReal (val_main_cst_5 (F := Ideal) (Shape.Idx.first h_S_) + ∑ t : Fin 2304, val_main_v31 (F := Ideal) x0 x1 (ix4 b h r t))
      (∑ t : Fin 2304, Ideal.exp (score x0 x1 b h ⟨256 + r.val, by omega⟩ t
          - Finset.univ.fold max ⊥ fun t : Fin 2304 => score x0 x1 b h ⟨256 + r.val, by omega⟩ t)) := by
    simp only [lat_exp]
    exact (congrArg (· + _) (by simp [val_main_cst_5, constant, Ideal.ofBits, Ideal.ieee])).trans (zero_add _)
  exact congrArg (fun x : EReal => Ideal.div _ x) e

/-- A latent token's result: the mean of the values of all tokens. -/
theorem lat_value (b : Fin 8) (r : Fin 2048) (h : Fin 4) (d : Fin 64) :
    @Eq EReal (val_main_v38 (F := Ideal) x0 x1 x2 (ix3 b r ⟨64 * h.val + d.val, by omega⟩))
      (mean 2304 (fun t => score x0 x1 b h ⟨256 + r.val, by omega⟩ t) fun t => x2 (ix4 b t h d)) := by
  have e : idx_main_v38 (ix3 b r (⟨64 * h.val + d.val, by omega⟩ : Fin 256)) = ix4 b r h d := by
    funext a
    apply Fin.ext
    match a with
    | ⟨0, _⟩ => show ((b.val * 2048 + r.val) * 256 + (64 * h.val + d.val)) / 524288 = b.val; omega
    | ⟨1, _⟩ => show ((b.val * 2048 + r.val) * 256 + (64 * h.val + d.val)) / 256 % 2048 = r.val; omega
    | ⟨2, _⟩ => show ((b.val * 2048 + r.val) * 256 + (64 * h.val + d.val)) / 64 % 4 = h.val; omega
    | ⟨3, _⟩ => show ((b.val * 2048 + r.val) * 256 + (64 * h.val + d.val)) % 64 = d.val; omega
  rw [val_main_v38_apply, e, val_main_v37_apply, val_main_v36_apply]
  unfold mean
  refine Finset.sum_congr rfl fun t _ => ?_
  have el : lidx_main_v36 (idx_main_v37 (ix4 b r h d)) t = ix4 b t h d := eq_ix4 _
  have er : ridx_main_v36 (idx_main_v37 (ix4 b r h d)) t = ix4 b h r t := eq_ix4 _
  rw [el, er]
  exact congrArg (fun x : EReal => x2 (ix4 b t h d) * x) (lat_softmax x0 x1 b h r t)

/-- The reference's result at an index. -/
theorem value (b : Fin 8) (r : Fin 2304) (h : Fin 4) (d : Fin 64) :
    @Eq EReal (val_main_v40 (F := Ideal) x0 x1 x2 (ix3 b r ⟨64 * h.val + d.val, by omega⟩))
      (if r.val < 256 then
          mean 256 (fun t => score x0 x1 b h r ⟨t.val, by omega⟩) fun t => x2 (ix4 b ⟨t.val, by omega⟩ h d)
        else mean 2304 (fun t => score x0 x1 b h r t) fun t => x2 (ix4 b t h d)) := by
  have e : @Eq EReal (val_main_v40 (F := Ideal) x0 x1 x2 (ix3 b r ⟨64 * h.val + d.val, by omega⟩))
      (if hr : r.val < 256 then val_main_v20 (F := Ideal) x0 x1 x2 (ix3 b (⟨r.val, hr⟩ : Fin 256) ⟨64 * h.val + d.val, by omega⟩)
        else val_main_v38 (F := Ideal) x0 x1 x2 (ix3 b (⟨r.val - 256, by omega⟩ : Fin 2048) ⟨64 * h.val + d.val, by omega⟩)) := by
    unfold val_main_v40 val_main_v39
    generalize val_main_v20 (F := Ideal) x0 x1 x2 = y
    generalize val_main_v38 (F := Ideal) x0 x1 x2 = z
    pointwise []
  rw [e]
  split
  case isTrue hr => exact ctx_value x0 x1 x2 b ⟨r.val, hr⟩ h d
  case isFalse hr =>
    have hr' : (⟨256 + (r.val - 256), by omega⟩ : Fin 2304) = r := Fin.ext (by show 256 + (r.val - 256) = r.val; omega)
    refine (lat_value x0 x1 x2 b (⟨r.val - 256, by omega⟩ : Fin 2048) h d).trans ?_
    simp only [hr']

end Cert.ReferenceIdeal.Attn

end
-- ==== Proof.Attention.lean ====
/- A block's element as the reference's mean of values: the 128 lanes of a head are 96 that count and 32 of zeros, the ones behind
   the values sum the weights, and the division comes last. -/
module

public import proofs.«01_k».proof.Proof.Block
public import proofs.«01_k».proof.Proof.Host
public import proofs.«01_k».proof.Proof.Softmax
public import proofs.«01_k».proof.Proof.RefValue

@[expose] public section

noncomputable section

open Idealize.ShloMosaic Idealize.ShloMosaic.TcCoe Idealize.SL.Sem Idealize.SL.ProofMode

namespace Cert.KernelIdeal.Attn

open Cert.KernelIdeal Cert.KernelIdeal.Gen

set_option maxRecDepth 16384

/-- The score of two real rows, scaled. -/
def realScore (q k : Fin 96 → ℝ) : ℝ := (∑ l, q l * k l) * (Real.sqrt 96)⁻¹

/-- The product of a query's 128 staged lanes with a key's is their score over `log 2`. -/
theorem staged_score (q k : Fin 96 → ℝ) (a b : Fin 128 → EReal)
    (ha : ∀ l : Fin 128, a l = if hl : l.val < 96 then (q ⟨l.val, hl⟩ : EReal) * (logScale : EReal) else 0)
    (hb : ∀ l : Fin 128, b l = if hl : l.val < 96 then (k ⟨l.val, hl⟩ : EReal) else 0) :
    ∑ l, a l * b l = ((realScore q k * (Real.log 2)⁻¹ : ℝ) : EReal) := by
  have h1 (l : Fin 96) : a (Fin.castAdd 32 l) * b (Fin.castAdd 32 l) = ((q l * logScale * k l : ℝ) : EReal) := by
    rw [ha, hb]
    have hl : (Fin.castAdd 32 l : Fin 128).val < 96 := l.isLt
    rw [dif_pos hl, dif_pos hl, ← EReal.coe_mul, ← EReal.coe_mul]
    rfl
  have h2 (l : Fin 32) : a (Fin.natAdd 96 l) * b (Fin.natAdd 96 l) = 0 := by
    rw [ha]
    have hl : ¬(Fin.natAdd 96 l : Fin 128).val < 96 := by show ¬(96 + l.val < 96); omega
    rw [dif_neg hl, zero_mul]
  refine (Fin.sum_univ_add (a := 96) (b := 32) fun l => a l * b l).trans ?_
  rw [Finset.sum_congr rfl fun l _ => h1 l, Finset.sum_congr rfl fun l _ => h2 l, Finset.sum_const_zero, add_zero, ← Softmax.coe_sum]
  congr 1
  unfold realScore logScale
  rw [Finset.sum_mul, Finset.sum_mul]
  exact Finset.sum_congr rfl fun l _ => by ring

/-- An element of a block, where the three blocks hold a query, keys and values as the host stages them. -/
theorem attended_eq (nk : ℕ) (hk : nk ≤ 2304) (hn : 0 < nk) (q : Fin 96 → ℝ) (k : Fin nk → Fin 96 → ℝ) (v : Fin nk → Fin 64 → EReal)
    (x0 : Vec Ideal S2x256x512 .bf16) (x1 x2 : Vec Ideal S2x2304x512 .bf16) (n : Fin 2) (r : Fin 256) (h : Fin 4) (d : Fin 64)
    (h0 : ∀ l : Fin 128, @Eq EReal (x0 (ix3 n r ⟨128 * h.val + l.val, by omega⟩))
      (if hl : l.val < 96 then (q ⟨l.val, hl⟩ : EReal) * (logScale : EReal) else 0))
    (h1 : ∀ (t : Fin nk) (l : Fin 128), @Eq EReal (x1 (ix3 n ⟨t.val, by omega⟩ ⟨128 * h.val + l.val, by omega⟩))
      (if hl : l.val < 96 then (k t ⟨l.val, hl⟩ : EReal) else 0))
    (h2 : ∀ (t : Fin nk) (l : Fin 128), @Eq EReal (x2 (ix3 n ⟨t.val, by omega⟩ ⟨128 * h.val + l.val, by omega⟩))
      (if hl : l.val < 64 then v t ⟨l.val, hl⟩ else 1)) :
    attended nk hk x0 x1 x2 n r ⟨64 * h.val + d.val, by omega⟩
      = ReferenceIdeal.Attn.mean nk (fun t => (realScore q (k t) : EReal)) fun t => v t d := by
  have e1 : (64 * h.val + d.val) / 64 = h.val := by omega
  have e2 : (64 * h.val + d.val) % 64 = d.val := by omega
  have hs (t : Fin nk) : (∑ l : Fin 128, (x0 (ix3 n r ⟨128 * h.val + l.val, by omega⟩) : EReal)
      * x1 (ix3 n ⟨t.val, by omega⟩ ⟨128 * h.val + l.val, by omega⟩)) = ((realScore q (k t) * (Real.log 2)⁻¹ : ℝ) : EReal) :=
    staged_score q (k t) _ _ h0 (h1 t)
  unfold attended weighted
  simp only [e1, e2]
  have hv (t : Fin nk) : @Eq EReal (x2 (ix3 n ⟨t.val, by omega⟩ ⟨128 * h.val + d.val, by omega⟩)) (v t d) :=
    (h2 t ⟨d.val, by omega⟩).trans (dif_pos d.isLt)
  have hw (t : Fin nk) : @Eq EReal (x2 (ix3 n ⟨t.val, by omega⟩ ⟨128 * h.val + (d.val + 64), by omega⟩)) 1 :=
    (h2 t ⟨d.val + 64, by omega⟩).trans (dif_neg (by show ¬(d.val + 64 < 64); omega))
  simp only [hs, hv, hw]
  exact Softmax.mean_eq hn (fun t => realScore q (k t)) fun t => v t d

end Cert.KernelIdeal.Attn

namespace Cert.ReferenceIdeal.Attn

open Cert.ReferenceIdeal

/-- The inverse root of 96. -/
theorem rsqrt_eq : Ideal.rsqrt (Ideal.ofBits .f32 0x42C00000#32) = (((Real.sqrt 96)⁻¹ : ℝ) : EReal) := by
  have h96 : Ideal.ofBits .f32 0x42C00000#32 = ((96 : ℝ) : EReal) := by
    simp [Ideal.ofBits, Ideal.ieee, -EReal.coe_mul]; norm_num
  rw [h96]
  show (if (96 : ℝ) < 0 then ⊥ else if (96 : ℝ) = 0 then ⊤ else (((Real.sqrt 96)⁻¹ : ℝ) : EReal)) = _
  simp only [show ¬(96 : ℝ) < 0 by norm_num, show ¬(96 : ℝ) = 0 by norm_num, if_false]

/-- The reference's score of real rows. -/
theorem score_eq (x0 x1 : (⟨S8x2304x4x96, .f32⟩ : BufTy).Contents (Elt Ideal)) (b : Fin 8) (h : Fin 4) (r t : Fin 2304)
    (q k : Fin 96 → ℝ) (h0 : ∀ l, @Eq EReal (x0 (ix4 b r h l)) (q l)) (h1 : ∀ l, @Eq EReal (x1 (ix4 b t h l)) (k l)) :
    score x0 x1 b h r t = (KernelIdeal.Attn.realScore q k : EReal) := by
  unfold score KernelIdeal.Attn.realScore
  simp only [h0, h1, rsqrt_eq]
  rw [EReal.coe_mul, Softmax.coe_sum]
  simp only [EReal.coe_mul]

end Cert.ReferenceIdeal.Attn

end
-- ==== Proof.Result.lean ====
/- The kernel's result is the reference's, at every index, where the queries and the keys are real numbers. -/
module

public import proofs.«01_k».proof.Proof.Flushed
public import proofs.«01_k».proof.Proof.Attention

@[expose] public section

noncomputable section

open Idealize.ShloMosaic Idealize.ShloMosaic.TcCoe Idealize.SL.Sem Idealize.SL.ProofMode

namespace Cert.KernelIdeal.Attn

open Cert.KernelIdeal Cert.KernelIdeal.Gen

set_option maxRecDepth 16384

variable (m : (ℓ : Loc nD τ sig) → Buf (Elt Ideal) ℓ)

/-- The result at an index is the mean of the values under the softmax of the real scores. -/
theorem arr_mean (c : Dev nD) (q k : Fin 8 → Fin 2304 → Fin 4 → Fin 96 → ℝ) (hq : ∀ b r h l, argQ m c b r h l = q b r h l)
    (hk : ∀ b r h l, argK m c b r h l = k b r h l) (b : Fin 8) (r : Fin 2304) (h : Fin 4) (d : Fin 64) :
    @Eq EReal ((dats m 0 c).arrAt 3 cfg0.N (ix3 b r ⟨64 * h.val + d.val, by omega⟩))
      (if r.val < 256 then
          ReferenceIdeal.Attn.mean 256 (fun t => (realScore (q b r h) (k b ⟨t.val, by omega⟩ h) : EReal)) fun t => argV m c b ⟨t.val, by omega⟩ h d
        else ReferenceIdeal.Attn.mean 2304 (fun t => (realScore (q b r h) (k b t h) : EReal)) fun t => argV m c b t h d) := by
  have hb : (⟨2 * ((pointOf b r).val / 9) + b.val % 2, by have := lt_36 (pointOf b r); omega⟩ : Fin 8) = b :=
    Fin.ext (by show 2 * ((9 * (b.val / 2) + r.val / 256) / 9) + b.val % 2 = b.val; omega)
  have hr : (⟨256 * ((pointOf b r).val % 9) + r.val % 256, by omega⟩ : Fin 2304) = r :=
    Fin.ext (by show 256 * ((9 * (b.val / 2) + r.val / 256) % 9) + r.val % 256 = r.val; omega)
  have h0 (l : Fin 128) : @Eq EReal (iblk m c 0 (pointOf b r)
      (ix3 (⟨b.val % 2, by omega⟩ : Fin 2) (⟨r.val % 256, by omega⟩ : Fin 256) ⟨128 * h.val + l.val, by omega⟩))
      (if hl : l.val < 96 then (q b r h ⟨l.val, hl⟩ : EReal) * (logScale : EReal) else 0) := by
    rw [blk_q]
    simp only [hb, hr]
    refine (q_apply m c b r h l).trans ?_
    simp only [hq]
  have h1 (t : Fin 2304) (l : Fin 128) : @Eq EReal (iblk m c 1 (pointOf b r)
      (ix3 (⟨b.val % 2, by omega⟩ : Fin 2) t ⟨128 * h.val + l.val, by omega⟩))
      (if hl : l.val < 96 then (k b t h ⟨l.val, hl⟩ : EReal) else 0) := by
    rw [blk_k]
    simp only [hb]
    refine (k_apply m c b t h l).trans ?_
    simp only [hk]
  have h2 (t : Fin 2304) (l : Fin 128) : @Eq EReal (iblk m c 2 (pointOf b r)
      (ix3 (⟨b.val % 2, by omega⟩ : Fin 2) t ⟨128 * h.val + l.val, by omega⟩))
      (if hl : l.val < 64 then argV m c b t h ⟨l.val, hl⟩ else 1) := by
    rw [blk_v]
    simp only [hb]
    exact v_apply m c b t h l
  have hp : (pointOf b r).val % 9 = r.val / 256 := by show (9 * (b.val / 2) + r.val / 256) % 9 = r.val / 256; omega
  rw [arr_apply]
  split
  case isTrue hc =>
    rw [flushed_ctx m c (pointOf b r) (by omega)]
    exact attended_eq 256 _ (by omega) (q b r h) (fun t => k b ⟨t.val, by omega⟩ h) (fun t d => argV m c b ⟨t.val, by omega⟩ h d) _ _ _ _ _ h d
      h0 (fun t => h1 ⟨t.val, by omega⟩) fun t => h2 ⟨t.val, by omega⟩
  case isFalse hc =>
    rw [flushed_lat m c (pointOf b r) (by omega)]
    exact attended_eq 2304 _ (by omega) (q b r h) (fun t => k b t h) (fun t d => argV m c b t h d) _ _ _ _ _ h d h0 h1 h2

open Cert.ReferenceIdeal.Read in
/-- So the two results are the same array. -/
theorem result_eq (c : Dev nD)
    (hq : ∀ i : S8x2304x4x96.Idx, ∃ a : ℝ, @Eq EReal (m ((c : Thread nD τ).loc main_arg0) i) a)
    (hk : ∀ i : S8x2304x4x96.Idx, ∃ a : ℝ, @Eq EReal (m ((c : Thread nD τ).loc main_arg1) i) a) :
    (dats m 0 c).arrAt 3 cfg0.N
      = val_main_v40 (F := Ideal) (m ((c : Thread nD τ).loc main_arg0)) (m ((c : Thread nD τ).loc main_arg1)) (m ((c : Thread nD τ).loc main_arg2)) := by
  choose q hq using fun b r h l => hq (ix4 b r h l)
  choose k hk using fun b r h l => hk (ix4 b r h l)
  funext i
  obtain ⟨b, r, x, rfl⟩ : ∃ (b : Fin 8) (r : Fin 2304) (x : Fin 256), i = ix3 b r x := ⟨i 0, i 1, i 2, eq_ix3 i⟩
  obtain ⟨h, d, rfl⟩ : ∃ (h : Fin 4) (d : Fin 64), x = ⟨64 * h.val + d.val, by omega⟩ :=
    ⟨⟨x.val / 64, by omega⟩, ⟨x.val % 64, by omega⟩, Fin.ext (by show x.val = 64 * (x.val / 64) + x.val % 64; omega)⟩
  refine (arr_mean m c q k hq hk b r h d).trans (Eq.trans ?_ (ReferenceIdeal.Attn.value _ _ _ b r h d).symm)
  have hs (t : Fin 2304) := ReferenceIdeal.Attn.score_eq (m ((c : Thread nD τ).loc main_arg0)) (m ((c : Thread nD τ).loc main_arg1)) b h r t
    (q b r h) (k b t h) (hq b r h) (hk b t h)
  simp only [hs]
  rfl

end Cert.KernelIdeal.Attn

end
-- ==== Proof.DensePay.lean ====
/- The dense network's payloads at an index: a token's normalised, modulated row, the cleared block, the block increased by a column
   block's product, and the residual sum. -/
module

public import proofs.«01_k».proof.Proof.ExpertsMath
public import proofs.«01_k».proof.Proof.Gen.Kernel3Ideal.Skeleton
public import Idealize.ShloMosaic.Lib.Pointwise

@[expose] public section

set_option maxRecDepth 16384

noncomputable section

open Idealize.ShloMosaic Idealize.ShloMosaic.TcCoe

namespace Cert.Dense

/-- A row over the root of its mean square, times the gain. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- Scaled by one plus `scale`, and shifted. -/
def modulated (x g shift scale : Fin 1024 → EReal) (k : Fin 1024) : EReal := normed x g k * (1 + scale k) + shift k

/-- The residual network on one token: `md` holds the six rows of the modulation, of which the last three are the shift, the scale and the gate. -/
def token (x g : Fin 1024 → EReal) (md : Fin 6144 → EReal) (wg wu : Fin 1024 → Fin 2816 → EReal) (wd : Fin 2816 → Fin 1024 → EReal) (d : Fin 1024) : EReal :=
  x d + md ⟨5 * 1024 + d.val, by omega⟩ * ∑ f : Fin 2816,
    Cert.Experts.hidden (modulated x g (fun k => md ⟨3 * 1024 + k.val, by omega⟩) (fun k => md ⟨4 * 1024 + k.val, by omega⟩)) (fun k => wg k f) (fun k => wu k f) * wd f d

end Cert.Dense

namespace Cert.Kernel3Ideal.Dense

open Cert.Kernel3Ideal Cert.Kernel3Ideal.Gen Cert.Dense

/-- Row `r` of token tile `a` is a context token. -/
def isCtx (a : Fin 2) (r : Fin 1152) : Prop := 1152 * a.val + r.val < 256

instance (a : Fin 2) (r : Fin 1152) : Decidable (isCtx a r) := by unfold isCtx; infer_instance

/-- The first row of tile `a`, as the body computes it. -/
def firstRow (a : Fin 2) : BitVec 32 := Scalar.muli (BitVec.ofNat 32 a.val) 1152#32

/-- The comparison that picks the modulation, read: the row is a context token. -/
theorem ctx_word (a : Fin 2) (r : Fin 1152) : IntOp.cmpi .slt (IntOp.addi (firstRow a) (BitVec.ofNat 32 r.val)) 256#32 = BitVec.ofBool (decide (isCtx a r)) :=
  (by decide +kernel : ∀ (a : Fin 2) (r : Fin 1152), IntOp.cmpi .slt (IntOp.addi (firstRow a) (BitVec.ofNat 32 r.val)) 256#32 = BitVec.ofBool (decide (isCtx a r))) a r

/-- The shift, by row: the context's or the sample's. -/
theorem pay4_apply (a : Fin 2) (x y : S1x1x1x1024.Idx → EReal) (r : Fin 1152) (k : Fin 1024) :
    @Eq EReal (k0_pay4 (F := Ideal) (firstRow a) x y (ix2 r k)) (if isCtx a r then x (ix4 0 0 0 k) else y (ix4 0 0 0 k)) := by
  pointwise [k0_pay4]
  have e := ctx_word a r
  unfold Scalar.select
  by_cases h : isCtx a r
  · simp only [h, decide_true, if_true] at e ⊢
    simp [e]
  · simp only [h, decide_false, if_false] at e ⊢
    simp [e]

/-- The modulated token the scratch buffer is given, at an index. -/
theorem pay7_apply (v32 : S1152x1024.Idx → EReal) (v34 : S1x1024.Idx → EReal) (v50 v66 v67 : S1152x1024.Idx → EReal) (r : Fin 1152) (k : Fin 1024) :
    @Eq EReal (k0_pay7 (F := Ideal) v32 v34 v50 v66 v67 (ix2 r k))
      (v32 (ix2 r k) * Ideal.rsqrt (Ideal.div (∑ j : Fin 1024, v67 (ix2 r j)) (Ideal.ofBits .f32 0x44800000#32) + Ideal.ofBits .f32 0x358637BD#32) * v34 (ix2 0 k)
        * (1 + v66 (ix2 r k)) + v50 (ix2 r k)) := by
  pointwise [k0_pay7]

/-- The parts it is made of, at an index. -/
theorem pay2_apply (x : S1x1152x1024.Idx → EReal) (r : Fin 1152) (k : Fin 1024) : @Eq EReal (k0_pay2 (F := Ideal) x (ix2 r k)) (x (ix3 0 r k)) := by
  pointwise [k0_pay2]

theorem pay3_apply (x : S1x1024.Idx → EReal) (k : Fin 1024) : @Eq EReal (k0_pay3 (F := Ideal) x (ix2 0 k)) (x (ix2 0 k)) := by
  pointwise [k0_pay3]

theorem pay6_apply (x : S1x1152x1024.Idx → EReal) (r : Fin 1152) (k : Fin 1024) : @Eq EReal (k0_pay6 (F := Ideal) x (ix2 r k)) (x (ix3 0 r k) * x (ix3 0 r k)) := by
  pointwise [k0_pay6, k0_pay2]

/-- The cleared block is zero. -/
theorem pay8_apply (r : Fin 1152) (d : Fin 1024) : @Eq EReal (k0_pay8 (F := Ideal) (ix3 0 r d)) 0 := by
  pointwise [k0_pay8]

/-- A column block's product, added to the block. -/
theorem pay9_apply (x : S1152x1024.Idx → EReal) (wg wu : S1x1024x1408.Idx → EReal) (o : S1x1152x1024.Idx → EReal) (wd : S1x1408x1024.Idx → EReal) (r : Fin 1152) (d : Fin 1024) :
    @Eq EReal (k0_pay9 (F := Ideal) x wg wu o wd (ix3 0 r d))
      (o (ix3 0 r d) + ∑ l : Fin 1408, Cert.Experts.hidden (fun k => x (ix2 r k)) (fun k => wg (ix3 0 k l)) (fun k => wu (ix3 0 k l)) * wd (ix3 0 l d)) := by
  pointwise [k0_pay9]
  unfold Cert.Experts.hidden Cert.Experts.silu
  simp only [zero_sub]

/-- The residual sum. -/
theorem pay1_apply (a : Fin 2) (x o : S1x1152x1024.Idx → EReal) (u v : S1x1x1x1024.Idx → EReal) (r : Fin 1152) (k : Fin 1024) :
    @Eq EReal (k0_pay1 (F := Ideal) (firstRow a) x u v o (ix3 0 r k)) (x (ix3 0 r k) + (if isCtx a r then u (ix4 0 0 0 k) else v (ix4 0 0 0 k)) * o (ix3 0 r k)) := by
  pointwise [k0_pay1]
  have e := ctx_word a r
  unfold Scalar.select
  by_cases h : isCtx a r
  · simp only [h, decide_true, if_true] at e ⊢
    simp [e]
  · simp only [h, decide_false, if_false] at e ⊢
    simp [e]

end Cert.Kernel3Ideal.Dense

end
-- ==== Proof.DenseBlock.lean ====
/- What one run of the dense network's body leaves in its output block and its scratch buffer, at an index, from the blocks it reads. -/
module

public import proofs.«01_k».proof.Proof.DensePay
public import proofs.«01_k».proof.Proof.Gen.Kernel3Ideal.Value
public import Idealize.ShloMosaic.Lib.Pipeline.Value
public import Idealize.ShloMosaic.Lib.Pipeline.ValueKit.Basic
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem Idealize.SL.ProofMode Idealize.ShloMosaic.Tactic

namespace Cert.Kernel3Ideal.Dense

open Cert.Kernel3Ideal Cert.Kernel3Ideal.Gen Cert.Dense

/-- The offsets of a whole buffer are zero. -/
theorem zeros2 : (![0, 0] : Fin 2 → ℕ) = fun _ => 0 := View.eq_zero_of_forall (by decide)
/-- The same with three axes. -/
theorem zeros3 : (![0, 0, 0] : Fin 3 → ℕ) = fun _ => 0 := View.eq_zero_of_forall (by decide)

/-- A whole block loaded is the block. -/
theorem ld3 (X : Vec Ideal S1x1152x1024 .f32) (inb : ∀ a, (![0, 0, 0] : Fin 3 → ℕ) a + S1x1152x1024.size a ≤ S1x1152x1024.size a) :
    View.ld X (Rect.unit (s := S1x1152x1024) ![0, 0, 0] ![1, 1152, 1024] inb) = X := View.ld_unit_zero (S := S1x1152x1024) zeros3 inb X
/-- A load of the whole gain is the gain. -/
theorem ldg (X : Vec Ideal S1x1024 .f32) (inb : ∀ a, (![0, 0] : Fin 2 → ℕ) a + S1x1024.size a ≤ S1x1024.size a) :
    View.ld X (Rect.unit (s := S1x1024) ![0, 0] ![1, 1024] inb) = X := View.ld_unit_zero (S := S1x1024) zeros2 inb X
/-- A load of a whole column block of hidden weights is that block. -/
theorem ldw (X : Vec Ideal S1x1024x1408 .bf16) (inb : ∀ a, (![0, 0, 0] : Fin 3 → ℕ) a + S1x1024x1408.size a ≤ S1x1024x1408.size a) :
    View.ld X (Rect.unit (s := S1x1024x1408) ![0, 0, 0] ![1, 1024, 1408] inb) = X := View.ld_unit_zero (S := S1x1024x1408) zeros3 inb X
/-- A load of a whole row block of the way back is that block. -/
theorem ldd (X : Vec Ideal S1x1408x1024 .bf16) (inb : ∀ a, (![0, 0, 0] : Fin 3 → ℕ) a + S1x1408x1024.size a ≤ S1x1408x1024.size a) :
    View.ld X (Rect.unit (s := S1x1408x1024) ![0, 0, 0] ![1, 1408, 1024] inb) = X := View.ld_unit_zero (S := S1x1408x1024) zeros3 inb X
/-- A load of the whole scratch buffer is what it holds. -/
theorem lds (X : Vec Ideal S1152x1024 .bf16) (inb : ∀ a, (![0, 0] : Fin 2 → ℕ) a + S1152x1024.size a ≤ S1152x1024.size a) :
    View.ld X (Rect.unit (s := S1152x1024) ![0, 0] ![1152, 1024] inb) = X := View.ld_unit_zero (S := S1152x1024) zeros2 inb X

/-- Row `s k` of the modulation block, loaded. -/
def modRow (x1 : Vec Ideal S1x2x8x1024 .f32) (s : Fin 2) (k : Fin 8) : Vec Ideal S1x1x1x1024 .f32 := fun y => x1 (ix4 0 s k (y 3))

/-- A load of one row of the modulation, at an index. -/
theorem ldm (x1 : Vec Ideal S1x2x8x1024 .f32) (s : Fin 2) (k : Fin 8) (inb : ∀ a, (![0, s.val, k.val, 0] : Fin 4 → ℕ) a + S1x1x1x1024.size a ≤ S1x2x8x1024.size a) :
    View.ld x1 (Rect.unit (s := S1x2x8x1024) ![0, s.val, k.val, 0] ![1, 1, 1, 1024] inb) = modRow x1 s k := by
  funext y
  show x1 _ = x1 _
  congr 1
  funext a
  apply Fin.ext
  match a with
  | ⟨0, _⟩ => show 0 + 1 * (y 0).val = 0; have : (y 0).val < 1 := (y 0).isLt; omega
  | ⟨1, _⟩ => show s.val + 1 * (y 1).val = s.val; have : (y 1).val < 1 := (y 1).isLt; omega
  | ⟨2, _⟩ => show k.val + 1 * (y 2).val = k.val; have : (y 2).val < 1 := (y 2).isLt; omega
  | ⟨3, _⟩ => show 0 + 1 * (y 3).val = (y 3).val; omega

/-- The context's shift, scale and gate, and the latents'. -/
theorem ldm03 (x1 : Vec Ideal S1x2x8x1024 .f32) (inb : ∀ a, (![0, 0, 3, 0] : Fin 4 → ℕ) a + S1x1x1x1024.size a ≤ S1x2x8x1024.size a) :
    View.ld x1 (Rect.unit (s := S1x2x8x1024) ![0, 0, 3, 0] ![1, 1, 1, 1024] inb) = modRow x1 0 3 := ldm x1 0 3 inb
theorem ldm04 (x1 : Vec Ideal S1x2x8x1024 .f32) (inb : ∀ a, (![0, 0, 4, 0] : Fin 4 → ℕ) a + S1x1x1x1024.size a ≤ S1x2x8x1024.size a) :
    View.ld x1 (Rect.unit (s := S1x2x8x1024) ![0, 0, 4, 0] ![1, 1, 1, 1024] inb) = modRow x1 0 4 := ldm x1 0 4 inb
theorem ldm05 (x1 : Vec Ideal S1x2x8x1024 .f32) (inb : ∀ a, (![0, 0, 5, 0] : Fin 4 → ℕ) a + S1x1x1x1024.size a ≤ S1x2x8x1024.size a) :
    View.ld x1 (Rect.unit (s := S1x2x8x1024) ![0, 0, 5, 0] ![1, 1, 1, 1024] inb) = modRow x1 0 5 := ldm x1 0 5 inb
theorem ldm13 (x1 : Vec Ideal S1x2x8x1024 .f32) (inb : ∀ a, (![0, 1, 3, 0] : Fin 4 → ℕ) a + S1x1x1x1024.size a ≤ S1x2x8x1024.size a) :
    View.ld x1 (Rect.unit (s := S1x2x8x1024) ![0, 1, 3, 0] ![1, 1, 1, 1024] inb) = modRow x1 1 3 := ldm x1 1 3 inb
theorem ldm14 (x1 : Vec Ideal S1x2x8x1024 .f32) (inb : ∀ a, (![0, 1, 4, 0] : Fin 4 → ℕ) a + S1x1x1x1024.size a ≤ S1x2x8x1024.size a) :
    View.ld x1 (Rect.unit (s := S1x2x8x1024) ![0, 1, 4, 0] ![1, 1, 1, 1024] inb) = modRow x1 1 4 := ldm x1 1 4 inb
theorem ldm15 (x1 : Vec Ideal S1x2x8x1024 .f32) (inb : ∀ a, (![0, 1, 5, 0] : Fin 4 → ℕ) a + S1x1x1x1024.size a ≤ S1x2x8x1024.size a) :
    View.ld x1 (Rect.unit (s := S1x2x8x1024) ![0, 1, 5, 0] ![1, 1, 1, 1024] inb) = modRow x1 1 5 := ldm x1 1 5 inb

/-- The normalised, modulated rows that the scratch buffer keeps, as the body computes them. -/
def xn (v0 : BitVec 32) (x0 : Vec Ideal S1x1152x1024 .f32) (x1 : Vec Ideal S1x2x8x1024 .f32) (x2 : Vec Ideal S1x1024 .f32) : Vec Ideal S1152x1024 .bf16 :=
  k0_pay7 (F := Ideal) (k0_pay2 x0) (k0_pay3 x2) (k0_pay4 v0 (modRow x1 0 3) (modRow x1 1 3)) (k0_pay5 v0 (modRow x1 0 4) (modRow x1 1 4)) (k0_pay6 x0)

set_option maxHeartbeats 2000000 in
/-- What a tile's first point leaves in the scratch buffer: the tokens, normalised and modulated. -/
theorem sout_A (c : Dev nD) (i : grid0.Coords) (arg3 : Memref sig .tc .vmem S1x1152x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1152x1024 .f32) (harg9 : arg9.IsWhole) (arg10 : Memref sig .tc .vmem S1152x1024 .bf16) (harg10 : arg10.IsWhole) (hc0 : cond0_0 i) (hc1 : ¬cond0_1 i)
    (x0 : Vec Ideal S1x1152x1024 .f32) (x1 : Vec Ideal S1x2x8x1024 .f32) (x2 : Vec Ideal S1x1024 .f32) (x3 : Vec Ideal S1x1024x1408 .bf16) (x4 : Vec Ideal S1x1024x1408 .bf16) (x5 : Vec Ideal S1x1408x1024 .bf16) :
    sout0_A_0 (F := Ideal) c i arg3 harg3 arg4 harg4 arg5 harg5 arg6 harg6 arg7 harg7 arg8 harg8 arg9 harg9 arg10 harg10 hc0 hc1 x0 x1 x2 x3 x4 x5 = xn (firstRow (i 1)) x0 x1 x2 := by
  unfold sout0_A_0
  rw [View.read_writes_junk_eq_canon]
  unfold kernelRun0_A
  dsimp only
  sl_unfold_words
  rw [View.canon_cons_unit_zero (S := S1152x1024) zeros2]
  simp only [View.readAt_eq_ld, harg3.read_unread, harg4.read_unread, harg5.read_unread]
  rw [ld3, ldg, ldm03, ldm13, ldm04, ldm14]
  unfold xn firstRow
  with_reducible rfl

set_option maxHeartbeats 2000000 in
/-- What a tile's first point leaves in the result's block: the first column block's product, added to zero. -/
theorem out_A (c : Dev nD) (i : grid0.Coords) (arg3 : Memref sig .tc .vmem S1x1152x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1152x1024 .f32) (harg9 : arg9.IsWhole) (arg10 : Memref sig .tc .vmem S1152x1024 .bf16) (harg10 : arg10.IsWhole) (hc0 : cond0_0 i) (hc1 : ¬cond0_1 i)
    (x0 : Vec Ideal S1x1152x1024 .f32) (x1 : Vec Ideal S1x2x8x1024 .f32) (x2 : Vec Ideal S1x1024 .f32) (x3 : Vec Ideal S1x1024x1408 .bf16) (x4 : Vec Ideal S1x1024x1408 .bf16) (x5 : Vec Ideal S1x1408x1024 .bf16) :
    out0_A_6 (F := Ideal) c i arg3 harg3 arg4 harg4 arg5 harg5 arg6 harg6 arg7 harg7 arg8 harg8 arg9 harg9 arg10 harg10 hc0 hc1 x0 x1 x2 x3 x4 x5 = k0_pay9 (F := Ideal) (xn (firstRow (i 1)) x0 x1 x2) x3 x4 (k0_pay8 (F := Ideal)) x5 := by
  unfold out0_A_6
  rw [View.read_writes_junk_eq_canon]
  unfold kernelRun0_A
  dsimp only
  sl_unfold_words
  rw [View.canon_cons_unit_zero (S := S1x1152x1024) zeros3]
  simp only [View.readAt_eq_ld, View.readCov_cons_toLoadRect, harg3.read_unread, harg4.read_unread, harg5.read_unread, harg6.read_unread, harg7.read_unread, harg8.read_unread]
  rw [ld3, ldg, ldm03, ldm13, ldm04, ldm14, ldw, ldw, ldd]
  unfold xn firstRow
  with_reducible rfl

set_option maxHeartbeats 2000000 in
/-- What a tile's last point leaves in the result's block: the tokens plus the gated sum of both column blocks' products. -/
theorem out_B (c : Dev nD) (i : grid0.Coords) (arg3 : Memref sig .tc .vmem S1x1152x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024x1408 .bf16) (harg6 : arg6.IsWhole) (arg7 : Memref sig .tc .vmem S1x1024x1408 .bf16) (harg7 : arg7.IsWhole) (arg8 : Memref sig .tc .vmem S1x1408x1024 .bf16) (harg8 : arg8.IsWhole) (arg9 : Memref sig .tc .vmem S1x1152x1024 .f32) (harg9 : arg9.IsWhole) (arg10 : Memref sig .tc .vmem S1152x1024 .bf16) (harg10 : arg10.IsWhole) (hc0 : ¬cond0_0 i) (hc1 : cond0_1 i)
    (x0 : Vec Ideal S1x1152x1024 .f32) (x1 : Vec Ideal S1x2x8x1024 .f32) (x2 : Vec Ideal S1x1024 .f32) (x3 : Vec Ideal S1x1024x1408 .bf16) (x4 : Vec Ideal S1x1024x1408 .bf16) (x5 : Vec Ideal S1x1408x1024 .bf16) (xo6 : Vec Ideal S1x1152x1024 .f32) (xs0 : Vec Ideal S1152x1024 .bf16) :
    out0_B_6 (F := Ideal) c i arg3 harg3 arg4 harg4 arg5 harg5 arg6 harg6 arg7 harg7 arg8 harg8 arg9 harg9 arg10 harg10 hc0 hc1 x0 x1 x2 x3 x4 x5 xo6 xs0
      = k0_pay1 (F := Ideal) (firstRow (i 1)) x0 (modRow x1 0 5) (modRow x1 1 5) (k0_pay9 (F := Ideal) xs0 x3 x4 xo6 x5) := by
  unfold out0_B_6
  rw [View.read_writes_junk_eq_canon]
  unfold kernelRun0_B
  dsimp only
  sl_unfold_words
  rw [View.canon_cons_unit_zero (S := S1x1152x1024) zeros3]
  simp only [View.readAt_eq_ld, View.readCov_cons_toLoadRect, harg3.read_unread, harg4.read_unread, harg5.read_unread, harg6.read_unread, harg7.read_unread, harg8.read_unread, harg9.read_unread, harg10.read_unread]
  rw [ld3, ld3, ldm05, ldm15, lds, ldw, ldw, ldd]
  unfold firstRow
  with_reducible rfl

end Cert.Kernel3Ideal.Dense

end
-- ==== Proof.DenseArray.lean ====
/- The arrays that the dense network's call is given, element by element from the launch's arguments, and a point's blocks of them. -/
module

public import proofs.«01_k».proof.Proof.DenseBlock
public import proofs.«01_k».proof.Proof.Gen.Kernel3Ideal.Value
public import Idealize.ShloMosaic.Lib.Pipeline.Value
public import Idealize.ShloMosaic.Lib.Pointwise
public import Idealize.ShloMosaic.Lib.StableHlo.ReadAt
public import Idealize.ShloMosaic.PureOps.IdealRules

@[expose] public section

set_option maxRecDepth 16384

noncomputable section

open Idealize.ShloMosaic Idealize.ShloMosaic.TcCoe Idealize.SL.Sem Idealize.SL.ProofMode

namespace Cert.Kernel3Ideal.Dense

open Cert.Kernel3Ideal Cert.Kernel3Ideal.Gen Cert.Dense

variable (m : (ℓ : Loc nD τ sig) → Buf (Elt Ideal) ℓ)

/-- The launch's arguments at an index: the tokens, the modulation of a sample's latents and of the context, the gain, the weights of the first layer. -/
def argH (c : Dev nD) (b : Fin 8) (s : Fin 2304) (d : Fin 1024) : EReal := m ((c : Thread nD τ).loc main_arg0) (ix3 b s d)
def argL (c : Dev nD) (b : Fin 8) (d : Fin 6144) : EReal := m ((c : Thread nD τ).loc main_arg1) (ix2 b d)
def argC (c : Dev nD) (d : Fin 6144) : EReal := m ((c : Thread nD τ).loc main_arg2) (ix1 d)
def argG (c : Dev nD) (d : Fin 1024) : EReal := m ((c : Thread nD τ).loc main_arg3) (ix1 d)
def argWg (c : Dev nD) (k : Fin 1024) (f : Fin 2816) : EReal := m ((c : Thread nD τ).loc main_arg4) (ix3 0 k f)
def argWu (c : Dev nD) (k : Fin 1024) (f : Fin 2816) : EReal := m ((c : Thread nD τ).loc main_arg5) (ix3 0 k f)
def argWd (c : Dev nD) (f : Fin 2816) (d : Fin 1024) : EReal := m ((c : Thread nD τ).loc main_arg6) (ix3 0 f d)

/-- The tokens reach the call as they are. -/
theorem h_apply (c : Dev nD) (b : Fin 8) (s : Fin 2304) (d : Fin 1024) : @Eq EReal (V m c main_arg0 (ix3 b s d)) (argH m c b s d) := by
  unfold V
  after_reads_at
  rfl

/-- The gain reaches the call as one row. -/
theorem g_apply (c : Dev nD) (d : Fin 1024) : @Eq EReal (V m c main_v14 (ix2 0 d)) (argG m c d) := by
  unfold V
  after_reads_at
  rfl

/-- The gate's weights reach the call cast, which changes nothing here. -/
theorem wg_apply (c : Dev nD) (k : Fin 1024) (f : Fin 2816) : @Eq EReal (V m c main_v11 (ix3 0 k f)) (argWg m c k f) := by
  unfold V
  after_reads_at
  rfl

/-- The other weights of the hidden layer, likewise. -/
theorem wu_apply (c : Dev nD) (k : Fin 1024) (f : Fin 2816) : @Eq EReal (V m c main_v12 (ix3 0 k f)) (argWu m c k f) := by
  unfold V
  after_reads_at
  rfl

/-- The weights of the way back, likewise. -/
theorem wd_apply (c : Dev nD) (f : Fin 2816) (d : Fin 1024) : @Eq EReal (V m c main_v13 (ix3 0 f d)) (argWd m c f d) := by
  unfold V
  after_reads_at
  rfl

/-- Row 0 of the modulation array is the context's, -/
theorem c_apply (c : Dev nD) (b : Fin 8) (k : Fin 6) (d : Fin 1024) :
    @Eq EReal (V m c main_v10 (ix4 b 0 ⟨k.val, by omega⟩ d)) (argC m c ⟨k.val * 1024 + d.val, by omega⟩) := by
  unfold V
  after_reads_at
  after_reads_at
  after_reads_at
  rfl

/-- row 1 the sample's. -/
theorem l_apply (c : Dev nD) (b : Fin 8) (k : Fin 6) (d : Fin 1024) :
    @Eq EReal (V m c main_v10 (ix4 b 1 ⟨k.val, by omega⟩ d)) (argL m c b ⟨k.val * 1024 + d.val, by omega⟩) := by
  unfold V
  after_reads_at
  after_reads_at
  after_reads_at
  rfl

end Cert.Kernel3Ideal.Dense

end
-- ==== Proof.DenseValue.lean ====
/- The dense network's result array at an index: what the two column blocks of a token's tile leave. -/
module

public import proofs.«01_k».proof.Proof.DenseArray
public import proofs.«01_k».proof.Proof.Gen.Kernel3Ideal.Value
public import Idealize.ShloMosaic.Lib.Pipeline.Value
public import Idealize.ShloMosaic.Lib.Pipeline.ValueKit.Geometry

@[expose] public section

set_option maxRecDepth 16384

noncomputable section

open Idealize.ShloMosaic Idealize.ShloMosaic.TcCoe Idealize.SL.Sem Idealize.SL.ProofMode

namespace Cert.Kernel3Ideal.Dense

open Cert.Kernel3Ideal Cert.Kernel3Ideal.Gen Cert.Dense

variable (m : (ℓ : Loc nD τ sig) → Buf (Elt Ideal) ℓ)

/-- A row of the scratch buffer: the token's row normalised and modulated. -/
theorem xn_apply (a : Fin 2) (x0 : Vec Ideal S1x1152x1024 .f32) (x1 : Vec Ideal S1x2x8x1024 .f32) (x2 : Vec Ideal S1x1024 .f32) (r : Fin 1152) (k : Fin 1024) :
    @Eq EReal (xn (firstRow a) x0 x1 x2 (ix2 r k))
      (modulated (fun j => x0 (ix3 0 r j)) (fun j => x2 (ix2 0 j)) (fun j => if isCtx a r then x1 (ix4 0 0 3 j) else x1 (ix4 0 1 3 j))
        (fun j => if isCtx a r then x1 (ix4 0 0 4 j) else x1 (ix4 0 1 4 j)) k) := by
  unfold xn modulated normed
  refine (pay7_apply _ _ _ _ _ r k).trans ?_
  have e4 : @Eq EReal (k0_pay4 (F := Ideal) (firstRow a) (modRow x1 0 3) (modRow x1 1 3) (ix2 r k)) _ := pay4_apply a _ _ r k
  have e5 : @Eq EReal (k0_pay5 (F := Ideal) (firstRow a) (modRow x1 0 4) (modRow x1 1 4) (ix2 r k)) _ := pay4_apply a _ _ r k
  simp only [pay2_apply, pay3_apply, pay6_apply, e4, e5]
  rfl

/-- The grid point of sample `b`, token tile `a` and column block `j`. -/
def At (t : Fin cfg0.N) (b : Fin 8) (a j : Fin 2) : Prop := t.val = 4 * b.val + 2 * a.val + j.val

/-- The tile of a grid point. -/
theorem coord_tile : ∀ t : Fin cfg0.N, (grid0.coords t 1).val = t.val / 2 % 2 :=
  (by decide +kernel : ∀ t : Fin grid0.N, (grid0.coords t 1).val = t.val / 2 % 2)

/-- A point's block of tokens is that of its sample and tile, -/
theorem index_h : ∀ t : Fin cfg0.N, win0_0.index t 0 = t.val / 4 ∧ win0_0.index t 1 = t.val / 2 % 2 ∧ win0_0.index t 2 = 0 :=
  (by decide +kernel : ∀ t : Fin grid0.N, win0_0.index t 0 = t.val / 4 ∧ win0_0.index t 1 = t.val / 2 % 2 ∧ win0_0.index t 2 = 0)

/-- its block of the modulation that of its sample, -/
theorem index_m : ∀ t : Fin cfg0.N, win0_1.index t 0 = t.val / 4 ∧ win0_1.index t 1 = 0 ∧ win0_1.index t 2 = 0 ∧ win0_1.index t 3 = 0 :=
  (by decide +kernel : ∀ t : Fin grid0.N, win0_1.index t 0 = t.val / 4 ∧ win0_1.index t 1 = 0 ∧ win0_1.index t 2 = 0 ∧ win0_1.index t 3 = 0)

/-- the gain is whole, -/
theorem index_g : ∀ t : Fin cfg0.N, win0_2.index t 0 = 0 ∧ win0_2.index t 1 = 0 :=
  (by decide +kernel : ∀ t : Fin grid0.N, win0_2.index t 0 = 0 ∧ win0_2.index t 1 = 0)

/-- the weights' blocks are the columns of its column block, -/
theorem index_wg : ∀ t : Fin cfg0.N, win0_3.index t 0 = 0 ∧ win0_3.index t 1 = 0 ∧ win0_3.index t 2 = t.val % 2 :=
  (by decide +kernel : ∀ t : Fin grid0.N, win0_3.index t 0 = 0 ∧ win0_3.index t 1 = 0 ∧ win0_3.index t 2 = t.val % 2)

/-- in the second weight too, -/
theorem index_wu : ∀ t : Fin cfg0.N, win0_4.index t 0 = 0 ∧ win0_4.index t 1 = 0 ∧ win0_4.index t 2 = t.val % 2 :=
  (by decide +kernel : ∀ t : Fin grid0.N, win0_4.index t 0 = 0 ∧ win0_4.index t 1 = 0 ∧ win0_4.index t 2 = t.val % 2)

/-- and its rows in the third; -/
theorem index_wd : ∀ t : Fin cfg0.N, win0_5.index t 0 = 0 ∧ win0_5.index t 1 = t.val % 2 ∧ win0_5.index t 2 = 0 :=
  (by decide +kernel : ∀ t : Fin grid0.N, win0_5.index t 0 = 0 ∧ win0_5.index t 1 = t.val % 2 ∧ win0_5.index t 2 = 0)

/-- the result's block lies as that of the tokens does. -/
theorem index_o : ∀ t : Fin cfg0.N, win0_6.index t 0 = t.val / 4 ∧ win0_6.index t 1 = t.val / 2 % 2 ∧ win0_6.index t 2 = 0 :=
  (by decide +kernel : ∀ t : Fin grid0.N, win0_6.index t 0 = t.val / 4 ∧ win0_6.index t 1 = t.val / 2 % 2 ∧ win0_6.index t 2 = 0)

/-- The tokens' block, at an index, -/
theorem blk_h (c : Dev nD) {t : Fin cfg0.N} {b : Fin 8} {a j : Fin 2} (ht : At t b a j) (r : Fin 1152) (k : Fin 1024) :
    @Eq EReal (iblk m c 0 t (ix3 0 r k)) (argH m c b ⟨1152 * a.val + r.val, by omega⟩ k) := by
  obtain ⟨e0, e1, e2⟩ := index_h t
  refine Eq.trans ?_ (h_apply m c b ⟨1152 * a.val + r.val, by omega⟩ k)
  unfold iblk
  show V m c main_arg0 ((win0_0.rect t).emb (ix3 0 r k)) = _
  congr 1
  funext q
  apply Fin.ext
  rw [Pipeline.Window.rect_emb_val win0_0 _ _ _ rfl]
  match q with
  | ⟨0, _⟩ => show win0_0.index t 0 * 1 + 0 = b.val; rw [e0]; unfold At at ht; omega
  | ⟨1, _⟩ => show win0_0.index t 1 * 1152 + r.val = 1152 * a.val + r.val; rw [e1]; unfold At at ht; omega
  | ⟨2, _⟩ => show win0_0.index t 2 * 1024 + k.val = k.val; rw [e2]; unfold At at ht; omega

/-- the context's rows of the modulation, -/
theorem blk_c (c : Dev nD) {t : Fin cfg0.N} {b : Fin 8} {a j : Fin 2} (ht : At t b a j) (n : Fin 6) (k : Fin 1024) :
    @Eq EReal (iblk m c 1 t (ix4 0 0 ⟨n.val, by omega⟩ k)) (argC m c ⟨n.val * 1024 + k.val, by omega⟩) := by
  obtain ⟨e0, e1, e2, e3⟩ := index_m t
  refine Eq.trans ?_ (c_apply m c b n k)
  unfold iblk
  show V m c main_v10 ((win0_1.rect t).emb (ix4 0 0 ⟨n.val, by omega⟩ k)) = _
  congr 1
  funext q
  apply Fin.ext
  rw [Pipeline.Window.rect_emb_val win0_1 _ _ _ rfl]
  match q with
  | ⟨0, _⟩ => show win0_1.index t 0 * 1 + 0 = b.val; rw [e0]; unfold At at ht; omega
  | ⟨1, _⟩ => show win0_1.index t 1 * 2 + 0 = 0; rw [e1]
  | ⟨2, _⟩ => show win0_1.index t 2 * 8 + n.val = n.val; rw [e2]; unfold At at ht; omega
  | ⟨3, _⟩ => show win0_1.index t 3 * 1024 + k.val = k.val; rw [e3]; unfold At at ht; omega

/-- the sample's, -/
theorem blk_l (c : Dev nD) {t : Fin cfg0.N} {b : Fin 8} {a j : Fin 2} (ht : At t b a j) (n : Fin 6) (k : Fin 1024) :
    @Eq EReal (iblk m c 1 t (ix4 0 1 ⟨n.val, by omega⟩ k)) (argL m c b ⟨n.val * 1024 + k.val, by omega⟩) := by
  obtain ⟨e0, e1, e2, e3⟩ := index_m t
  refine Eq.trans ?_ (l_apply m c b n k)
  unfold iblk
  show V m c main_v10 ((win0_1.rect t).emb (ix4 0 1 ⟨n.val, by omega⟩ k)) = _
  congr 1
  funext q
  apply Fin.ext
  rw [Pipeline.Window.rect_emb_val win0_1 _ _ _ rfl]
  match q with
  | ⟨0, _⟩ => show win0_1.index t 0 * 1 + 0 = b.val; rw [e0]; unfold At at ht; omega
  | ⟨1, _⟩ => show win0_1.index t 1 * 2 + 1 = 1; rw [e1]
  | ⟨2, _⟩ => show win0_1.index t 2 * 8 + n.val = n.val; rw [e2]; unfold At at ht; omega
  | ⟨3, _⟩ => show win0_1.index t 3 * 1024 + k.val = k.val; rw [e3]; unfold At at ht; omega

/-- the gain, -/
theorem blk_g (c : Dev nD) {t : Fin cfg0.N} {b : Fin 8} {a j : Fin 2} (ht : At t b a j) (k : Fin 1024) :
    @Eq EReal (iblk m c 2 t (ix2 0 k)) (argG m c k) := by
  obtain ⟨e0, e1⟩ := index_g t
  refine Eq.trans ?_ (g_apply m c k)
  unfold iblk
  show V m c main_v14 ((win0_2.rect t).emb (ix2 0 k)) = _
  congr 1
  funext q
  apply Fin.ext
  rw [Pipeline.Window.rect_emb_val win0_2 _ _ _ rfl]
  match q with
  | ⟨0, _⟩ => show win0_2.index t 0 * 1 + 0 = 0; rw [e0]
  | ⟨1, _⟩ => show win0_2.index t 1 * 1024 + k.val = k.val; rw [e1]; unfold At at ht; omega

/-- the columns of the first weight, -/
theorem blk_wg (c : Dev nD) {t : Fin cfg0.N} {b : Fin 8} {a j : Fin 2} (ht : At t b a j) (k : Fin 1024) (l : Fin 1408) :
    @Eq EReal (iblk m c 3 t (ix3 0 k l)) (argWg m c k ⟨1408 * j.val + l.val, by omega⟩) := by
  obtain ⟨e0, e1, e2⟩ := index_wg t
  refine Eq.trans ?_ (wg_apply m c k ⟨1408 * j.val + l.val, by omega⟩)
  unfold iblk
  show V m c main_v11 ((win0_3.rect t).emb (ix3 0 k l)) = _
  congr 1
  funext q
  apply Fin.ext
  rw [Pipeline.Window.rect_emb_val win0_3 _ _ _ rfl]
  match q with
  | ⟨0, _⟩ => show win0_3.index t 0 * 1 + 0 = 0; rw [e0]
  | ⟨1, _⟩ => show win0_3.index t 1 * 1024 + k.val = k.val; rw [e1]; unfold At at ht; omega
  | ⟨2, _⟩ => show win0_3.index t 2 * 1408 + l.val = 1408 * j.val + l.val; rw [e2]; unfold At at ht; omega

/-- of the second, -/
theorem blk_wu (c : Dev nD) {t : Fin cfg0.N} {b : Fin 8} {a j : Fin 2} (ht : At t b a j) (k : Fin 1024) (l : Fin 1408) :
    @Eq EReal (iblk m c 4 t (ix3 0 k l)) (argWu m c k ⟨1408 * j.val + l.val, by omega⟩) := by
  obtain ⟨e0, e1, e2⟩ := index_wu t
  refine Eq.trans ?_ (wu_apply m c k ⟨1408 * j.val + l.val, by omega⟩)
  unfold iblk
  show V m c main_v12 ((win0_4.rect t).emb (ix3 0 k l)) = _
  congr 1
  funext q
  apply Fin.ext
  rw [Pipeline.Window.rect_emb_val win0_4 _ _ _ rfl]
  match q with
  | ⟨0, _⟩ => show win0_4.index t 0 * 1 + 0 = 0; rw [e0]
  | ⟨1, _⟩ => show win0_4.index t 1 * 1024 + k.val = k.val; rw [e1]; unfold At at ht; omega
  | ⟨2, _⟩ => show win0_4.index t 2 * 1408 + l.val = 1408 * j.val + l.val; rw [e2]; unfold At at ht; omega

/-- and the rows of the third. -/
theorem blk_wd (c : Dev nD) {t : Fin cfg0.N} {b : Fin 8} {a j : Fin 2} (ht : At t b a j) (l : Fin 1408) (k : Fin 1024) :
    @Eq EReal (iblk m c 5 t (ix3 0 l k)) (argWd m c ⟨1408 * j.val + l.val, by omega⟩ k) := by
  obtain ⟨e0, e1, e2⟩ := index_wd t
  refine Eq.trans ?_ (wd_apply m c ⟨1408 * j.val + l.val, by omega⟩ k)
  unfold iblk
  show V m c main_v13 ((win0_5.rect t).emb (ix3 0 l k)) = _
  congr 1
  funext q
  apply Fin.ext
  rw [Pipeline.Window.rect_emb_val win0_5 _ _ _ rfl]
  match q with
  | ⟨0, _⟩ => show win0_5.index t 0 * 1 + 0 = 0; rw [e0]
  | ⟨1, _⟩ => show win0_5.index t 1 * 1408 + l.val = 1408 * j.val + l.val; rw [e1]; unfold At at ht; omega
  | ⟨2, _⟩ => show win0_5.index t 2 * 1024 + k.val = k.val; rw [e2]; unfold At at ht; omega

/-- A token's rows of the modulation: the context's for the first 256 tokens, else the sample's. -/
def md (c : Dev nD) (b : Fin 8) (s : Fin 2304) (k : Fin 6144) : EReal := if s.val < 256 then argC m c k else argL m c b k

/-- A token's normalised, modulated row. -/
def row (c : Dev nD) (b : Fin 8) (s : Fin 2304) : Fin 1024 → EReal :=
  modulated (argH m c b s) (argG m c) (fun k => md m c b s ⟨3 * 1024 + k.val, by omega⟩) (fun k => md m c b s ⟨4 * 1024 + k.val, by omega⟩)

/-- What hidden unit `f` adds to a token's result. -/
def share (c : Dev nD) (b : Fin 8) (s : Fin 2304) (d : Fin 1024) (f : Fin 2816) : EReal :=
  Cert.Experts.hidden (row m c b s) (fun k => argWg m c k f) (fun k => argWu m c k f) * argWd m c f d

/-- The row of the modulation block that the body selects is the token's. -/
theorem mod_apply (c : Dev nD) {t : Fin cfg0.N} {b : Fin 8} {a j : Fin 2} (ht : At t b a j) (n : Fin 6) (r : Fin 1152) (k : Fin 1024) :
    @Eq EReal (if isCtx a r then iblk m c 1 t (ix4 0 0 ⟨n.val, by omega⟩ k) else iblk m c 1 t (ix4 0 1 ⟨n.val, by omega⟩ k))
      (md m c b ⟨1152 * a.val + r.val, by omega⟩ ⟨n.val * 1024 + k.val, by omega⟩) := by
  unfold md isCtx
  exact ite_congr rfl (fun _ => blk_c m c ht n k) (fun _ => blk_l m c ht n k)

/-- The tile of a point in place. -/
theorem tile_eq {t : Fin cfg0.N} {b : Fin 8} {a j : Fin 2} (ht : At t b a j) : grid0.coords t 1 = a :=
  Fin.ext ((coord_tile t).trans (by unfold At at ht; omega))

/-- A row kept at a point. -/
theorem xn_at (c : Dev nD) {t : Fin cfg0.N} {b : Fin 8} {a j : Fin 2} (ht : At t b a j) (r : Fin 1152) (k : Fin 1024) :
    @Eq EReal (xn (firstRow (grid0.coords t 1)) (iblk m c 0 t) (iblk m c 1 t) (iblk m c 2 t) (ix2 r k)) (row m c b ⟨1152 * a.val + r.val, by omega⟩ k) := by
  rw [tile_eq ht]
  refine (xn_apply a _ _ _ r k).trans ?_
  unfold row
  have e0 := fun j => blk_h m c ht r j
  have e2 := fun j => blk_g m c ht j
  have e3 := fun j => mod_apply m c ht 3 r j
  have e4 := fun j => mod_apply m c ht 4 r j
  exact congrFun (congr (congr (congr (congrArg modulated (funext e0)) (funext e2)) (funext e3)) (funext e4)) k

/-- A block `o` increased by a point's column block, the rows kept being the tokens'. -/
theorem pay9_at (c : Dev nD) {t : Fin cfg0.N} {b : Fin 8} {a j : Fin 2} (ht : At t b a j) (x : Vec Ideal S1152x1024 .bf16)
    (hx : ∀ r k, @Eq EReal (x (ix2 r k)) (row m c b ⟨1152 * a.val + r.val, by omega⟩ k)) (o : Vec Ideal S1x1152x1024 .f32) (r : Fin 1152) (d : Fin 1024) :
    @Eq EReal (k0_pay9 (F := Ideal) x (iblk m c 3 t) (iblk m c 4 t) o (iblk m c 5 t) (ix3 0 r d))
      (o (ix3 0 r d) + ∑ l : Fin 1408, share m c b ⟨1152 * a.val + r.val, by omega⟩ d ⟨1408 * j.val + l.val, by omega⟩) := by
  refine (pay9_apply _ _ _ _ _ r d).trans ?_
  refine congrArg (fun y : EReal => o (ix3 0 r d) + y) (Finset.sum_congr rfl fun l _ => ?_)
  unfold share
  refine congrArg₂ (fun y z : EReal => y * z) ?_ (blk_wd m c ht l d)
  exact congr (congr (congrArg Cert.Experts.hidden (funext (hx r))) (funext fun k => blk_wg m c ht k l)) (funext fun k => blk_wu m c ht k l)

/-- After a tile's first column block: the scratch buffer holds the tokens' rows, -/
theorem first_rows (c : Dev nD) (t : Fin cfg0.N) {b : Fin 8} {a : Fin 2} (ht : At t b a 0) (r : Fin 1152) (k : Fin 1024) :
    @Eq EReal ((outsAt0 m c t.val t.isLt).2 (ix2 r k)) (row m c b ⟨1152 * a.val + r.val, by omega⟩ k) := by
  have h : t.val % 2 = 0 := by unfold At at ht; have : (0 : Fin 2).val = 0 := rfl; omega
  rw [outsAt0_A m c t h (by omega)]
  dsimp only
  rw [sout_A]
  exact xn_at m c ht r k

/-- the output block the sum over the block's hidden units. -/
theorem first_out (c : Dev nD) (t : Fin cfg0.N) {b : Fin 8} {a : Fin 2} (ht : At t b a 0) (r : Fin 1152) (d : Fin 1024) :
    @Eq EReal ((outsAt0 m c t.val t.isLt).1 (ix3 0 r d))
      (∑ l : Fin 1408, share m c b ⟨1152 * a.val + r.val, by omega⟩ d ⟨l.val, by omega⟩) := by
  have h : t.val % 2 = 0 := by unfold At at ht; have : (0 : Fin 2).val = 0 := rfl; omega
  rw [outsAt0_A m c t h (by omega)]
  dsimp only
  rw [out_A]
  refine (pay9_at m c ht _ (fun r k => xn_at m c ht r k) _ r d).trans ?_
  rw [pay8_apply, zero_add]
  refine Finset.sum_congr rfl fun l _ => congrArg (share m c b _ d) (Fin.ext ?_)
  show 1408 * 0 + l.val = l.val
  omega

/-- A sum over the 2816 hidden units is that over the first 1408 and that over the others. -/
theorem sum_halves (f : Fin 2816 → EReal) : ∑ q, f q = (∑ l : Fin 1408, f ⟨l.val, by omega⟩) + ∑ l : Fin 1408, f ⟨1408 * 1 + l.val, by omega⟩ :=
  Fin.sum_univ_add (a := 1408) (b := 1408) f

/-- The result at sample `b`, token `s` and column `d`. -/
def result (c : Dev nD) (b : Fin 8) (s : Fin 2304) (d : Fin 1024) : EReal :=
  token (argH m c b s) (argG m c) (md m c b s) (argWg m c) (argWu m c) (argWd m c) d

/-- After a tile's second column block the output block holds the result. -/
theorem second_out (c : Dev nD) (t : Fin cfg0.N) {b : Fin 8} {a : Fin 2} (ht : At t b a 1) (r : Fin 1152) (d : Fin 1024) :
    @Eq EReal ((outsAt0 m c t.val t.isLt).1 (ix3 0 r d)) (result m c b ⟨1152 * a.val + r.val, by omega⟩ d) := by
  have h : t.val % 2 = 1 := by unfold At at ht; have : (1 : Fin 2).val = 1 := rfl; omega
  have hp : At ⟨t.val - 1, Nat.lt_of_le_of_lt (Nat.sub_le _ _) t.isLt⟩ b a 0 := by
    unfold At at ht ⊢
    have e1 : (1 : Fin 2).val = 1 := rfl
    have e0 : (0 : Fin 2).val = 0 := rfl
    show t.val - 1 = _
    omega
  rw [outsAt0_B m c t (by omega) h]
  dsimp only
  rw [out_B, tile_eq ht]
  refine (pay1_apply a _ _ _ _ r d).trans ?_
  have e9 := (pay9_at m c ht _ (first_rows m c _ hp) (outsAt0 m c (t.val - 1) (Nat.lt_of_le_of_lt (Nat.sub_le _ _) t.isLt)).1 r d).trans
    (congrArg (fun y : EReal => y + ∑ l : Fin 1408, share m c b ⟨1152 * a.val + r.val, by omega⟩ d ⟨1408 * (1 : Fin 2).val + l.val, by omega⟩) (first_out m c _ hp r d))
  have es := e9.trans (sum_halves (share m c b ⟨1152 * a.val + r.val, by omega⟩ d)).symm
  exact congrArg₂ (fun y z : EReal => y + z) (blk_h m c ht r d) (congrArg₂ (fun y z : EReal => y * z) (mod_apply m c ht 5 r d) es)

/-- A point's block of the result, in the array. -/
theorem emb_out {t : Fin cfg0.N} {b : Fin 8} {a j : Fin 2} (ht : At t b a j) (r : Fin 1152) (d : Fin 1024) :
    ((cfg0.win 6).blk t).view.emb (ix3 0 r d : S1x1152x1024.Idx) = (ix3 b (⟨1152 * a.val + r.val, by omega⟩ : Fin 2304) d : S8x2304x1024.Idx) := by
  obtain ⟨e0, e1, e2⟩ := index_o t
  show (win0_6.rect t).emb (ix3 0 r d : S1x1152x1024.Idx) = _
  funext q
  apply Fin.ext
  rw [Pipeline.Window.rect_emb_val win0_6 _ _ _ rfl]
  match q with
  | ⟨0, _⟩ => show win0_6.index t 0 * 1 + 0 = b.val; rw [e0]; unfold At at ht; omega
  | ⟨1, _⟩ => show win0_6.index t 1 * 1152 + r.val = 1152 * a.val + r.val; rw [e1]; unfold At at ht; omega
  | ⟨2, _⟩ => show win0_6.index t 2 * 1024 + d.val = d.val; rw [e2]; omega

/-- The call's result array. -/
theorem arr_result (c : Dev nD) : (dats m 0 c).arrAt 6 cfg0.N = (fun i : S8x2304x1024.Idx => result m c (i 0) (i 1) (i 2)) := by
  refine (dats m 0 c).arrAt_eq_of_emb 6 _ (fun t hf y => ?_) (fun i => (Value.covered_iff6 i).2 (by
    have h0 : (i 0).val < 8 := (i 0).isLt; have h1 : (i 1).val < 2304 := (i 1).isLt; have h2 : (i 2).val < 1024 := (i 2).isLt; omega))
  have hN : t.val < 32 := lt_of_lt_of_eq t.isLt N_0
  have h1 : t.val % 2 = 1 := (flush0_6 t).mp hf
  obtain ⟨r, d, rfl⟩ : ∃ (r : Fin 1152) (d : Fin 1024), y = (ix3 0 r d : S1x1152x1024.Idx) := ⟨y 1, y 2, (eq_ix3 y).trans (by
    congr 1; exact Fin.ext (by have : (y 0).val < 1 := (y 0).isLt; show (y 0).val = 0; omega))⟩
  have ht : At t ⟨t.val / 4, by omega⟩ ⟨t.val / 2 % 2, by omega⟩ 1 := by
    unfold At
    show t.val = 4 * (t.val / 4) + 2 * (t.val / 2 % 2) + 1
    omega
  rw [emb_out ht]
  show @Eq EReal ((dats m 0 c).after 6 t (ix3 0 r d : S1x1152x1024.Idx)) _
  rw [after0_6]
  exact second_out m c t ht r d

end Cert.Kernel3Ideal.Dense

end
-- ==== Proof.DenseRef.lean ====
/- The reference's result at an index: the residual network on the token, modulated by the context's rows or by the sample's. -/
module

public import proofs.«01_k».proof.Proof.Gen.Reference3Ideal.Read
public import proofs.«01_k».proof.Proof.DensePay
public import Idealize.ShloMosaic.Lib.Pointwise

@[expose] public section

set_option maxRecDepth 16384

noncomputable section

open Idealize.ShloMosaic Idealize.ShloMosaic.TcCoe

namespace Cert.Reference3Ideal.Dense

open Cert.Reference3Ideal Cert.Reference3Ideal.Gen Cert.Reference3Ideal.Read Cert.Dense

/-- The latents' tokens, normalised and modulated. -/
theorem latents_modulated (x0 : (⟨S8x2304x1024, .f32⟩ : BufTy).Contents (Elt Ideal)) (x1 : (⟨S8x6144, .f32⟩ : BufTy).Contents (Elt Ideal)) (x3 : (⟨S1024, .f32⟩ : BufTy).Contents (Elt Ideal)) (b : Fin 8) (r : Fin 2048) (k : Fin 1024) :
    @Eq EReal (val_main_v33 (F := Ideal) x0 x1 x3 (ix3 b r k))
      (modulated (fun j => x0 (ix3 b ⟨256 + r.val, by omega⟩ j)) (fun j => x3 (ix1 j)) (fun j => x1 (ix2 b ⟨3 * 1024 + j.val, by omega⟩)) (fun j => x1 (ix2 b ⟨4 * 1024 + j.val, by omega⟩)) k) := by
  unfold modulated normed
  pointwise [val_main_v0, val_main_v4, val_main_v5, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2]

/-- The gated unit's network on them. -/
theorem latents_ffn (x0 : (⟨S8x2304x1024, .f32⟩ : BufTy).Contents (Elt Ideal)) (x1 : (⟨S8x6144, .f32⟩ : BufTy).Contents (Elt Ideal)) (x3 : (⟨S1024, .f32⟩ : BufTy).Contents (Elt Ideal)) (x4 x5 : (⟨S2x1024x2816, .f32⟩ : BufTy).Contents (Elt Ideal)) (x6 : (⟨S2x2816x1024, .f32⟩ : BufTy).Contents (Elt Ideal)) (b : Fin 8) (r : Fin 2048) (d : Fin 1024) :
    @Eq EReal (val_main_v44 (F := Ideal) x0 x1 x3 x4 x5 x6 (ix3 b r d))
      (∑ f : Fin 2816, Cert.Experts.hidden (fun k => val_main_v33 (F := Ideal) x0 x1 x3 (ix3 b r k)) (fun k => x4 (ix3 0 k f)) (fun k => x5 (ix3 0 k f)) * x6 (ix3 0 f d)) := by
  unfold Cert.Experts.hidden
  simp only [← Cert.Experts.silu_eq]
  pointwise [val_main_v34, val_main_v35, val_main_v36, val_main_v37, val_main_v38, val_main_v39, val_main_v40, val_main_v41, val_main_v42, val_main_v43, val_main_v44, val_main_call0_v0, val_main_call0_v1, val_main_call0_v2, val_main_call0_v3, val_main_call0_v4, val_main_call0_v5, val_main_call0_cst, val_main_call0_cst_0]

/-- The latents' tokens after the residual network. -/
theorem latents_value (x0 : (⟨S8x2304x1024, .f32⟩ : BufTy).Contents (Elt Ideal)) (x1 : (⟨S8x6144, .f32⟩ : BufTy).Contents (Elt Ideal)) (x3 : (⟨S1024, .f32⟩ : BufTy).Contents (Elt Ideal)) (x4 x5 : (⟨S2x1024x2816, .f32⟩ : BufTy).Contents (Elt Ideal)) (x6 : (⟨S2x2816x1024, .f32⟩ : BufTy).Contents (Elt Ideal)) (b : Fin 8) (r : Fin 2048) (d : Fin 1024) :
    @Eq EReal (val_main_v47 (F := Ideal) x0 x1 x3 x4 x5 x6 (ix3 b r d))
      (token (fun j => x0 (ix3 b ⟨256 + r.val, by omega⟩ j)) (fun j => x3 (ix1 j)) (fun j => x1 (ix2 b j)) (fun k f => x4 (ix3 0 k f)) (fun k f => x5 (ix3 0 k f)) (fun f k => x6 (ix3 0 f k)) d) := by
  have e := latents_ffn x0 x1 x3 x4 x5 x6 b r d
  simp only [latents_modulated] at e
  unfold token
  rw [← e]
  pointwise [val_main_v0, val_main_v6, val_main_v14, val_main_v45, val_main_v46, val_main_v47]

/-- The context's tokens, normalised and modulated. -/
theorem context_modulated (x0 : (⟨S8x2304x1024, .f32⟩ : BufTy).Contents (Elt Ideal)) (x2 : (⟨S6144, .f32⟩ : BufTy).Contents (Elt Ideal)) (x3 : (⟨S1024, .f32⟩ : BufTy).Contents (Elt Ideal)) (b : Fin 8) (r : Fin 256) (k : Fin 1024) :
    @Eq EReal (val_main_v68 (F := Ideal) x0 x2 x3 (ix3 b r k))
      (modulated (fun j => x0 (ix3 b ⟨r.val, by omega⟩ j)) (fun j => x3 (ix1 j)) (fun j => x2 (ix1 ⟨3 * 1024 + j.val, by omega⟩)) (fun j => x2 (ix1 ⟨4 * 1024 + j.val, by omega⟩)) k) := by
  unfold modulated normed
  pointwise [val_main_v10, val_main_v11, val_main_v13, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_cst_3, val_main_cst_4, val_main_cst_5, val_main_cst_6]

/-- The gated unit's network on them. -/
theorem context_ffn (x0 : (⟨S8x2304x1024, .f32⟩ : BufTy).Contents (Elt Ideal)) (x2 : (⟨S6144, .f32⟩ : BufTy).Contents (Elt Ideal)) (x3 : (⟨S1024, .f32⟩ : BufTy).Contents (Elt Ideal)) (x4 x5 : (⟨S2x1024x2816, .f32⟩ : BufTy).Contents (Elt Ideal)) (x6 : (⟨S2x2816x1024, .f32⟩ : BufTy).Contents (Elt Ideal)) (b : Fin 8) (r : Fin 256) (d : Fin 1024) :
    @Eq EReal (val_main_v79 (F := Ideal) x0 x2 x3 x4 x5 x6 (ix3 b r d))
      (∑ f : Fin 2816, Cert.Experts.hidden (fun k => val_main_v68 (F := Ideal) x0 x2 x3 (ix3 b r k)) (fun k => x4 (ix3 0 k f)) (fun k => x5 (ix3 0 k f)) * x6 (ix3 0 f d)) := by
  unfold Cert.Experts.hidden
  simp only [← Cert.Experts.silu_eq]
  pointwise [val_main_v69, val_main_v70, val_main_v71, val_main_v72, val_main_v73, val_main_v74, val_main_v75, val_main_v76, val_main_v77, val_main_v78, val_main_v79, val_main_call1_v0, val_main_call1_v1, val_main_call1_v2, val_main_call1_v3, val_main_call1_v4, val_main_call1_v5, val_main_call1_cst, val_main_call1_cst_0]

/-- The context's tokens after the residual network. -/
theorem context_value (x0 : (⟨S8x2304x1024, .f32⟩ : BufTy).Contents (Elt Ideal)) (x2 : (⟨S6144, .f32⟩ : BufTy).Contents (Elt Ideal)) (x3 : (⟨S1024, .f32⟩ : BufTy).Contents (Elt Ideal)) (x4 x5 : (⟨S2x1024x2816, .f32⟩ : BufTy).Contents (Elt Ideal)) (x6 : (⟨S2x2816x1024, .f32⟩ : BufTy).Contents (Elt Ideal)) (b : Fin 8) (r : Fin 256) (d : Fin 1024) :
    @Eq EReal (val_main_v83 (F := Ideal) x0 x2 x3 x4 x5 x6 (ix3 b r d))
      (token (fun j => x0 (ix3 b ⟨r.val, by omega⟩ j)) (fun j => x3 (ix1 j)) (fun j => x2 (ix1 j)) (fun k f => x4 (ix3 0 k f)) (fun k f => x5 (ix3 0 k f)) (fun f k => x6 (ix3 0 f k)) d) := by
  have e := context_ffn x0 x2 x3 x4 x5 x6 b r d
  simp only [context_modulated] at e
  unfold token
  rw [← e]
  pointwise [val_main_v12, val_main_v13, val_main_v80, val_main_v81, val_main_v82, val_main_v83]

/-- The reference's result at an index. -/
theorem value (x0 : (⟨S8x2304x1024, .f32⟩ : BufTy).Contents (Elt Ideal)) (x1 : (⟨S8x6144, .f32⟩ : BufTy).Contents (Elt Ideal))
    (x2 : (⟨S6144, .f32⟩ : BufTy).Contents (Elt Ideal)) (x3 : (⟨S1024, .f32⟩ : BufTy).Contents (Elt Ideal))
    (x4 x5 : (⟨S2x1024x2816, .f32⟩ : BufTy).Contents (Elt Ideal)) (x6 : (⟨S2x2816x1024, .f32⟩ : BufTy).Contents (Elt Ideal)) (b : Fin 8) (s : Fin 2304) (d : Fin 1024) :
    @Eq EReal (val_main_v84 (F := Ideal) x0 x1 x2 x3 x4 x5 x6 (ix3 b s d))
      (token (fun j => x0 (ix3 b s j)) (fun j => x3 (ix1 j)) (fun j => if s.val < 256 then x2 (ix1 j) else x1 (ix2 b j))
        (fun k f => x4 (ix3 0 k f)) (fun k f => x5 (ix3 0 k f)) (fun f k => x6 (ix3 0 f k)) d) := by
  pointwise [val_main_v84]
  by_cases h : s.val < 256
  · simp only [h, dif_pos, if_true]
    exact context_value x0 x2 x3 x4 x5 x6 b ⟨s.val, h⟩ d
  · simp only [h, dif_neg, not_false_eq_true, if_false]
    have e : (⟨256 + (s.val - 256), by omega⟩ : Fin 2304) = s := Fin.ext (by show 256 + (s.val - 256) = s.val; omega)
    have v := latents_value x0 x1 x3 x4 x5 x6 b ⟨s.val - 256, by omega⟩ d
    simp only [e] at v
    exact v

end Cert.Reference3Ideal.Dense

end
-- ==== Proof.DenseClaim.lean ====
/- The value claim of the dense network's call: its result is the reference's. -/
module

public import proofs.«01_k».proof.Defs
public import proofs.«01_k».proof.Proof.DenseValue
public import proofs.«01_k».proof.Proof.DenseRef
public import proofs.«01_k».proof.Proof.Gen.Reference3Ideal.Run
public import Idealize.ShloMosaic.Adequacy
public import Idealize.ShloMosaic.Init

@[expose] public section

set_option maxRecDepth 16384

noncomputable section

namespace Cert.Kernel3Ideal.Dense

open Cert.Kernel3Ideal Cert.Kernel3Ideal.Gen
open Idealize.ShloMosaic Idealize.ShloMosaic.TcCoe Idealize.SL.Sem

variable (m : (ℓ : Loc nD τ sig) → Buf (Elt Ideal) ℓ)

/-- The call's result array is the reference's result. -/
theorem arr_eq (c : Dev nD) : (dats m 0 c).arrAt 6 cfg0.N =
    Cert.Reference3Ideal.Read.val_main_v84 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  rw [arr_result]
  funext i
  obtain ⟨b, s, d, rfl⟩ : ∃ (b : Fin 8) (s : Fin 2304) (d : Fin 1024), i = (ix3 b s d : S8x2304x1024.Idx) := ⟨i 0, i 1, i 2, eq_ix3 i⟩
  refine Eq.trans ?_ (Cert.Reference3Ideal.Dense.value _ _ _ _ _ _ _ b s d).symm
  rfl

/-- The dense network's result is the reference's. -/
theorem algebraic_dense : Cert.algebraic_Kernel3Ideal_Reference3Ideal (hKernel3Ideal := Cert.Kernel3Ideal.Gen.facts)
    (hReference3Ideal := Cert.Reference3Ideal.Gen.facts) := fun m ρ m' ρ' _ hargs => by
  refine ⟨fun c => (dats m 0 c).arrAt 6 cfg0.N, Cert.Kernel3Ideal.Value.run_blocks m ρ, ?_⟩
  refine (θ_run Cert.Reference3Ideal.defs _ _).mono (fun r h c => ⟨(h c).1.trans ?_, (h c).2⟩) (Cert.Reference3Ideal.Value.run m' ρ')
  obtain ⟨e0, e1, e2, e3, e4, e5, e6⟩ := hargs c
  refine (Cert.Reference3Ideal.Read.val_main_v84_eq _ _).trans (Eq.trans ?_ (arr_eq m c).symm)
  rw [← e0, ← e1, ← e2, ← e3, ← e4, ← e5, ← e6]

/-- The dense network's reference runs, leaves its arguments as they were and every counter at zero. -/
theorem quiescent_dense_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Kernel3Ideal.Dense

end
-- ==== Proof.LatentsRun.lean ====
/- The second routed layer's experts, on the latents alone. One point of the experts' call, run: from its buffers' contents to what it leaves in the output block and the scratch buffer. -/
module

public import proofs.«01_k».proof.Proof.Gen.Kernel4Ideal.Skeleton
public import proofs.«01_k».proof.Proof.Gen.Kernel4Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.ValueKit.Basic
public import Idealize.ShloMosaic.Adequacy
public import Idealize.ShloMosaic.Init

@[expose] public section

set_option maxRecDepth 16384

noncomputable section

namespace Cert.Kernel4Ideal.Experts

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two prefetched tables and the scratch buffer, whole. -/
abbrev teM : Memref sig .tc .smem S40 .i32 := Memref.whole main_arg0
abbrev nuM : Memref sig .tc .smem S1 .i32 := Memref.whole main_arg1
abbrev scM : Memref sig .tc .vmem S1024x1024 .bf16 := Memref.whole cc0_scratch0

/-- The word the body reads from the one-entry table. -/
abbrev usedWord (T1 : S1.Idx → Elt F .i32) : BitVec 32 :=
  View.readAt (Elt F) (nuM).view (Rect.unit (s := S1) ![0] S1.size inb_S1_S1_0).toLoadRect T1 (Shape.Idx.first (numel1_S1.symm ▸ Nat.one_pos))

/-- After a store of a whole buffer the buffer reads as what was stored. -/
theorem read_stored_whole {S : Shape} {sig : RefSig} {κ : Kind} {sp : Space} {e : EltTy} (v : View sig κ sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  have hcov : ∀ y, ∃ p ∈ ((⟨Rect.unit off S.size inb, w⟩ : View.Piece (Elt F) S e) :: L), y ∈ p.1.set := fun y =>
    ⟨(⟨Rect.unit off S.size inb, w⟩ : View.Piece (Elt F) S e), List.mem_cons_self, View.mem_set_unit_zero h inb y⟩
  exact (View.read_writes_eq_canon v f _ hcov).trans (View.canon_cons_unit_zero h inb w L)

theorem zeros2 : (![0, 0] : Fin 2 → ℕ) = fun _ => 0 := View.eq_zero_of_forall (by decide)
theorem zeros4 : (![0, 0, 0, 0] : Fin 4 → ℕ) = fun _ => 0 := View.eq_zero_of_forall (by decide)

/-- After a store of the whole 1024 by 1024 buffer the buffer reads as what was stored. -/
theorem read_stored {sig : RefSig} {κ : Kind} {sp : Space} {e : EltTy} (v : View sig κ sp S1024x1024 e) (f : v.ty.Contents (Elt F))
    (inb : ∀ a, (![0, 0] : Fin 2 → ℕ) a + S1024x1024.size a ≤ S1024x1024.size a)
    (w : S1024x1024.Idx → Elt F e) (L : List (View.Piece (Elt F) S1024x1024 e)) :
    v.read (Elt F) (v.writes (Elt F) f (⟨Rect.unit (s := S1024x1024) ![0, 0] S1024x1024.size inb, w⟩ :: L)) = w :=
  read_stored_whole v f zeros2 inb w L

/-- The scratch buffer after a whole store holds what was stored. -/
theorem scratch_stored (f : scM.view.ty.Contents (Elt F)) (inb : ∀ a, (![0, 0] : Fin 2 → ℕ) a + S1024x1024.size a ≤ S1024x1024.size a)
    (w : S1024x1024.Idx → Elt F .bf16) (L : List (View.Piece (Elt F) S1024x1024 .bf16)) :
    scM.view.writes (Elt F) f (⟨Rect.unit (s := S1024x1024) ![0, 0] S1024x1024.size inb, w⟩ :: L) = w := by
  have h := read_stored (F := F) scM.view f inb w L
  simpa only [Memref.view_whole, View.read_whole] using h

/-- A load of the whole buffer is what the buffer reads. -/
theorem load_all2 {sig : RefSig} {κ : Kind} {sp : Space} {e : EltTy} (v : View sig κ sp S1024x1024 e) (f : v.ty.Contents (Elt F))
    (inb : ∀ a, (![0, 0] : Fin 2 → ℕ) a + S1024x1024.size a ≤ S1024x1024.size a) :
    v.readAt (Elt F) (Rect.unit (s := S1024x1024) ![0, 0] S1024x1024.size inb).toLoadRect f = v.read (Elt F) f := by
  rw [View.readAt_eq_ld]; exact View.ld_unit_zero (S := S1024x1024) zeros2 inb _
/-- The same of a block of the first two weight arrays, -/
theorem load_col {sig : RefSig} {κ : Kind} {sp : Space} {e : EltTy} (v : View sig κ sp S1x1x1024x512 e) (f : v.ty.Contents (Elt F))
    (inb : ∀ a, (![0, 0, 0, 0] : Fin 4 → ℕ) a + S1x1x1024x512.size a ≤ S1x1x1024x512.size a) :
    v.readAt (Elt F) (Rect.unit (s := S1x1x1024x512) ![0, 0, 0, 0] S1x1x1024x512.size inb).toLoadRect f = v.read (Elt F) f := by
  rw [View.readAt_eq_ld]; exact View.ld_unit_zero (S := S1x1x1024x512) zeros4 inb _
/-- and of a block of the third. -/
theorem load_row {sig : RefSig} {κ : Kind} {sp : Space} {e : EltTy} (v : View sig κ sp S1x1x512x1024 e) (f : v.ty.Contents (Elt F))
    (inb : ∀ a, (![0, 0, 0, 0] : Fin 4 → ℕ) a + S1x1x512x1024.size a ≤ S1x1x512x1024.size a) :
    v.readAt (Elt F) (Rect.unit (s := S1x1x512x1024) ![0, 0, 0, 0] S1x1x512x1024.size inb).toLoadRect f = v.read (Elt F) f := by
  rw [View.readAt_eq_ld]; exact View.ld_unit_zero (S := S1x1x512x1024) zeros4 inb _
/-- A load covered by the store just made is what was stored. -/
theorem load_stored {sig : RefSig} {κ : Kind} {sp : Space} {e : EltTy} (v : View sig κ sp S1024x1024 e)
    (inb : ∀ a, (![0, 0] : Fin 2 → ℕ) a + S1024x1024.size a ≤ S1024x1024.size a) (w : S1024x1024.Idx → Elt F e) :
    v.readCov [(⟨Rect.unit (s := S1024x1024) ![0, 0] S1024x1024.size inb, w⟩ : View.Piece (Elt F) S1024x1024 e)]
      (Rect.unit (s := S1024x1024) ![0, 0] S1024x1024.size inb).toLoadRect = w :=
  View.readCov_unit_zero (S := S1024x1024) v zeros2 inb w

set_option backward.proofsInPublic true in
set_option maxHeartbeats 8000000 in
/-- The body at a tile's first column block, the tile in use: the block of x is kept in the scratch buffer and the output holds the first partial product. -/
theorem run_first_used (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S40.Idx → Elt F .i32) (T1 : S1.Idx → Elt F .i32)
    (x0 : S1024x1024.Idx → Elt F .f32) (x1 x2 : S1x1x1024x512.Idx → Elt F .f32) (x3 : S1x1x512x1024.Idx → Elt F .f32)
    (k0_h1 : k0_cond1 i = 1#1) (k0_h2 : k0_cond2 i (usedWord T1) = 1#1)
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare (k0_pay3 x1 x2 x3 (k0_pay1 x0) (k0_pay2 (F := F))) ∗ (scM.view.loc (c : Thread nD τ) ↦{fullShare} k0_pay1 x0)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, HT0, HT1, ⟨%f4, %hf4, HO⟩, HS, Hk⟩
  obtain rfl := harg4.eq_unread hf0
  obtain rfl := harg5.eq_unread hf1
  obtain rfl := harg6.eq_unread hf2
  obtain rfl := harg7.eq_unread hf3
  obtain rfl := harg8.eq_unread hf4
  have hS0 : scM.IsWhole := Memref.isWhole_whole _
  have hT0 : teM.IsWhole := Memref.isWhole_whole _
  have hT1 : nuM.IsWhole := Memref.isWhole_whole _
  sl_exec! (disch := first | (guard_target = k0_cond1 _ = _; exact k0_h1) | (guard_target = k0_cond2 _ _ = _; exact k0_h2))
  sl_step
  iapply Hk
  isplitl [H0]; · iexists _; isplitr; swap; (· iexact H0); ipureintro; exact harg4.read_unread _
  isplitl [H1]; · iexists _; isplitr; swap; (· iexact H1); ipureintro; exact harg5.read_unread _
  isplitl [H2]; · iexists _; isplitr; swap; (· iexact H2); ipureintro; exact harg6.read_unread _
  isplitl [H3]; · iexists _; isplitr; swap; (· iexact H3); ipureintro; exact harg7.read_unread _
  isplitl [HT0]; · iexact HT0
  isplitl [HT1]; · iexact HT1
  isplitl [HO]
  · iexists _; isplitr; swap; (· iexact HO)
    ipureintro
    sl_unfold_words
    rw [read_stored]
    rw [load_col, load_col, load_row, load_stored, load_stored, load_all2, harg4.read_unread, harg5.read_unread, harg6.read_unread, harg7.read_unread]
  sl_unfold_words
  rw [scratch_stored, load_all2, Memref.IsWhole.read_unread]
  iexact HS

set_option backward.proofsInPublic true in
set_option maxHeartbeats 8000000 in
/-- The body at a later column block of a tile in use: the output gains that block's product, the scratch stays. -/
theorem run_later_used (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S40.Idx → Elt F .i32) (T1 : S1.Idx → Elt F .i32)
    (x0 : S1024x1024.Idx → Elt F .f32) (x1 x2 : S1x1x1024x512.Idx → Elt F .f32) (x3 : S1x1x512x1024.Idx → Elt F .f32)
    (k0_h1 : ¬(k0_cond1 i = 1#1)) (k0_h2 : k0_cond2 i (usedWord T1) = 1#1)
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare (k0_pay3 x1 x2 x3 s o) ∗ (scM.view.loc (c : Thread nD τ) ↦{fullShare} s)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, HT0, HT1, ⟨%f4, %hf4, HO⟩, HS, Hk⟩
  obtain rfl := harg4.eq_unread hf0
  obtain rfl := harg5.eq_unread hf1
  obtain rfl := harg6.eq_unread hf2
  obtain rfl := harg7.eq_unread hf3
  obtain rfl := harg8.eq_unread hf4
  have hS0 : scM.IsWhole := Memref.isWhole_whole _
  have hT0 : teM.IsWhole := Memref.isWhole_whole _
  have hT1 : nuM.IsWhole := Memref.isWhole_whole _
  sl_exec! (disch := first | (guard_target = ¬(k0_cond1 _ = _); exact k0_h1) | (guard_target = k0_cond2 _ _ = _; exact k0_h2))
  sl_step
  iapply Hk
  isplitl [H0]; · iexists _; isplitr; swap; (· iexact H0); ipureintro; exact harg4.read_unread _
  isplitl [H1]; · iexists _; isplitr; swap; (· iexact H1); ipureintro; exact harg5.read_unread _
  isplitl [H2]; · iexists _; isplitr; swap; (· iexact H2); ipureintro; exact harg6.read_unread _
  isplitl [H3]; · iexists _; isplitr; swap; (· iexact H3); ipureintro; exact harg7.read_unread _
  isplitl [HT0]; · iexact HT0
  isplitl [HT1]; · iexact HT1
  isplitl [HO]
  · iexists _; isplitr; swap; (· iexact HO)
    ipureintro
    sl_unfold_words
    rw [read_stored]
    rw [load_col, load_col, load_row, load_all2, load_all2, View.read_whole, harg8.read_unread, harg5.read_unread, harg6.read_unread, harg7.read_unread]
  iexact HS

set_option backward.proofsInPublic true in
set_option maxHeartbeats 8000000 in
/-- The body at a tile's first column block, the tile not in use: the output is set to zero. -/
theorem run_first_unused (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S40.Idx → Elt F .i32) (T1 : S1.Idx → Elt F .i32)
    (x0 : S1024x1024.Idx → Elt F .f32) (x1 x2 : S1x1x1024x512.Idx → Elt F .f32) (x3 : S1x1x512x1024.Idx → Elt F .f32)
    (k0_h1 : k0_cond1 i = 1#1) (k0_h2 : ¬(k0_cond2 i (usedWord T1) = 1#1))
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare (k0_pay2 (F := F)) ∗ (scM.view.loc (c : Thread nD τ) ↦{fullShare} k0_pay1 x0)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, HT0, HT1, ⟨%f4, %hf4, HO⟩, HS, Hk⟩
  obtain rfl := harg4.eq_unread hf0
  obtain rfl := harg5.eq_unread hf1
  obtain rfl := harg6.eq_unread hf2
  obtain rfl := harg7.eq_unread hf3
  obtain rfl := harg8.eq_unread hf4
  have hS0 : scM.IsWhole := Memref.isWhole_whole _
  have hT0 : teM.IsWhole := Memref.isWhole_whole _
  have hT1 : nuM.IsWhole := Memref.isWhole_whole _
  sl_exec! (disch := first | (guard_target = k0_cond1 _ = _; exact k0_h1) | (guard_target = ¬(k0_cond2 _ _ = _); exact k0_h2))
  sl_step
  iapply Hk
  isplitl [H0]; · iexists _; isplitr; swap; (· iexact H0); ipureintro; exact harg4.read_unread _
  isplitl [H1]; · iexists _; isplitr; swap; (· iexact H1); ipureintro; exact harg5.read_unread _
  isplitl [H2]; · iexists _; isplitr; swap; (· iexact H2); ipureintro; exact harg6.read_unread _
  isplitl [H3]; · iexists _; isplitr; swap; (· iexact H3); ipureintro; exact harg7.read_unread _
  isplitl [HT0]; · iexact HT0
  isplitl [HT1]; · iexact HT1
  isplitl [HO]
  · iexists _; isplitr; swap; (· iexact HO)
    ipureintro
    sl_unfold_words
    rw [read_stored]
  sl_unfold_words
  rw [scratch_stored, load_all2, Memref.IsWhole.read_unread]
  iexact HS

set_option backward.proofsInPublic true in
set_option maxHeartbeats 8000000 in
/-- The body at a later column block of a tile not in use: nothing changes. -/
theorem run_later_unused (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S40.Idx → Elt F .i32) (T1 : S1.Idx → Elt F .i32)
    (x0 : S1024x1024.Idx → Elt F .f32) (x1 x2 : S1x1x1024x512.Idx → Elt F .f32) (x3 : S1x1x512x1024.Idx → Elt F .f32)
    (k0_h1 : ¬(k0_cond1 i = 1#1)) (k0_h2 : ¬(k0_cond2 i (usedWord T1) = 1#1))
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare o ∗ (scM.view.loc (c : Thread nD τ) ↦{fullShare} s)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  unfold owns
  rw [cc0_moe_experts_eq_skeleton]; unfold cc0_moe_experts_skel
  iintro ⟨⟨%f0, %hf0, H0⟩, ⟨%f1, %hf1, H1⟩, ⟨%f2, %hf2, H2⟩, ⟨%f3, %hf3, H3⟩, HT0, HT1, ⟨%f4, %hf4, HO⟩, HS, Hk⟩
  obtain rfl := harg4.eq_unread hf0
  obtain rfl := harg5.eq_unread hf1
  obtain rfl := harg6.eq_unread hf2
  obtain rfl := harg7.eq_unread hf3
  obtain rfl := harg8.eq_unread hf4
  have hS0 : scM.IsWhole := Memref.isWhole_whole _
  have hT0 : teM.IsWhole := Memref.isWhole_whole _
  have hT1 : nuM.IsWhole := Memref.isWhole_whole _
  sl_exec! (disch := first | (guard_target = ¬(k0_cond1 _ = _); exact k0_h1) | (guard_target = ¬(k0_cond2 _ _ = _); exact k0_h2))
  sl_step
  iapply Hk
  isplitl [H0]; · iexists _; isplitr; swap; (· iexact H0); ipureintro; exact harg4.read_unread _
  isplitl [H1]; · iexists _; isplitr; swap; (· iexact H1); ipureintro; exact harg5.read_unread _
  isplitl [H2]; · iexists _; isplitr; swap; (· iexact H2); ipureintro; exact harg6.read_unread _
  isplitl [H3]; · iexists _; isplitr; swap; (· iexact H3); ipureintro; exact harg7.read_unread _
  isplitl [HT0]; · iexact HT0
  isplitl [HT1]; · iexact HT1
  isplitl [HO]
  · iexists _; isplitr; swap; (· iexact HO)
    ipureintro; exact harg8.read_unread _
  iexact HS

/-- What the scratch buffer holds after the body: the block of x at a tile's first column block, what it held before at a later one. -/
def keptAfter (first : Prop) [Decidable first] (x0 : S1024x1024.Idx → Elt F .f32) (s : S1024x1024.Idx → Elt F .bf16) : S1024x1024.Idx → Elt F .bf16 :=
  if first then k0_pay1 x0 else s

/-- What the output block holds after the body: cleared at a tile's first column block, and increased by the column block's
    product where the tile is in use. -/
def outAfter (first used : Prop) [Decidable first] [Decidable used] (x0 : S1024x1024.Idx → Elt F .f32) (x1 x2 : S1x1x1024x512.Idx → Elt F .f32) (x3 : S1x1x512x1024.Idx → Elt F .f32)
    (o : S1024x1024.Idx → Elt F .f32) (s : S1024x1024.Idx → Elt F .bf16) : S1024x1024.Idx → Elt F .f32 :=
  if used then k0_pay3 x1 x2 x3 (keptAfter first x0 s) (if first then k0_pay2 else o) else (if first then k0_pay2 else o)

/-- The body at any grid point: the four cases of first or later column block, tile in use or not, in one statement. -/
theorem body_run (c : Dev nD) (i : grid0.Coords) (arg4 : Memref sig .tc .vmem S1024x1024 .f32) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S1024x1024 .f32) (harg8 : arg8.IsWhole)
    (T0 : S40.Idx → Elt F .i32) (T1 : S1.Idx → Elt F .i32)
    (x0 : S1024x1024.Idx → Elt F .f32) (x1 x2 : S1x1x1024x512.Idx → Elt F .f32) (x3 : S1x1x512x1024.Idx → Elt F .f32)
    (o : S1024x1024.Idx → Elt F .f32) (s : S1024x1024.Idx → Elt F .bf16) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3
        ∗ (teM.view.loc (c : Thread nD τ) ↦{fullShare.right} T0) ∗ (nuM.view.loc (c : Thread nD τ) ↦{fullShare.right} T1)
        ∗ owns (c : Thread nD τ) arg8 fullShare o ∗ (scM.view.loc (c : Thread nD τ) ↦{fullShare} s)
        ∗ (iprop(owns (c : Thread nD τ) arg4 fullShare x0 ∗ owns (c : Thread nD τ) arg5 fullShare x1 ∗ owns (c : Thread nD τ) arg6 fullShare x2 ∗ owns (c : Thread nD τ) arg7 fullShare x3
          ∗ (teM.view.loc (c : Thread nD τ) ↦{fullShare.right} T0) ∗ (nuM.view.loc (c : Thread nD τ) ↦{fullShare.right} T1)
          ∗ owns (c : Thread nD τ) arg8 fullShare (outAfter (k0_cond1 i = 1#1) (k0_cond2 i (usedWord T1) = 1#1) x0 x1 x2 x3 o s)
          ∗ (scM.view.loc (c : Thread nD τ) ↦{fullShare} keptAfter (k0_cond1 i = 1#1) x0 s)) -∗ K ⟨⟩))
      ⊢ wp frame (wpE (defs₀ (F := F)) Variants.none c none) Set.univ (cc0_moe_experts i teM (Memref.isWhole_whole _) nuM (Memref.isWhole_whole _) arg4 harg4 arg5 harg5 arg6 harg6 arg7 harg7 arg8 harg8 scM (Memref.isWhole_whole _)) K := by
  by_cases h1 : k0_cond1 i = 1#1
  · by_cases h2 : k0_cond2 i (usedWord T1) = 1#1
    · simp only [outAfter, keptAfter, if_pos h1, if_pos h2]
      exact run_first_used c i arg4 harg4 arg5 harg5 arg6 harg6 arg7 harg7 arg8 harg8 T0 T1 x0 x1 x2 x3 h1 h2 o s K
    · simp only [outAfter, keptAfter, if_pos h1, if_neg h2]
      exact run_first_unused c i arg4 harg4 arg5 harg5 arg6 harg6 arg7 harg7 arg8 harg8 T0 T1 x0 x1 x2 x3 h1 h2 o s K
  · by_cases h2 : k0_cond2 i (usedWord T1) = 1#1
    · simp only [outAfter, keptAfter, if_neg h1, if_pos h2]
      exact run_later_used c i arg4 harg4 arg5 harg5 arg6 harg6 arg7 harg7 arg8 harg8 T0 T1 x0 x1 x2 x3 h1 h2 o s K
    · simp only [outAfter, keptAfter, if_neg h1, if_neg h2]
      exact run_later_unused c i arg4 harg4 arg5 harg5 arg6 harg6 arg7 harg7 arg8 harg8 T0 T1 x0 x1 x2 x3 h1 h2 o s K

end Cert.Kernel4Ideal.Experts
-- ==== Proof.LatentsTables.lean ====
/- The second routed layer's experts, on the latents alone. The two tables that steer the experts' call, and what its index maps and conditions read of them. -/
module

public import proofs.«01_k».proof.Proof.LatentsRun
public import Idealize.ShloMosaic.Lib.Pointwise
public import Idealize.ShloMosaic.Lib.WordArith
public import Idealize.ShloMosaic.Lib.WordCmp

@[expose] public section

set_option maxRecDepth 16384

noncomputable section

namespace Cert.Kernel4Ideal.Experts

open Cert.Kernel4Ideal Cert.Kernel4Ideal.Gen
open Idealize.ShloMosaic Idealize.ShloMosaic.TcCoe

/-- The two tables the experts' call is handed: the expert of each tile of rows, and how many tiles are in use. -/
structure Tables where
  /-- the expert of each tile -/
  te : S40.Idx → BitVec 32
  /-- the number of tiles in use, in a one-entry table -/
  nu : S1.Idx → BitVec 32
  te_lt : ∀ i, (te i).toNat < 8
  nu_pos : ∀ i, 1 ≤ (nu i).toNat
  nu_lt : ∀ i, (nu i).toNat < 2 ^ 31

variable {F : FTy → Type} [FloatOps F] (T : Tables)

/-- The number of tiles in use. -/
def Tables.used : ℕ := (T.nu (ix1 0)).toNat

theorem Tables.used_pos : 1 ≤ T.used := T.nu_pos _
theorem Tables.used_lt : T.used < 2 ^ 31 := T.nu_lt _

/-- The expert of tile `i`. -/
def Tables.expert (i : Fin 40) : Fin 8 := ⟨(T.te (ix1 i)).toNat, T.te_lt _⟩

/-- The tables as the call's prefetched contents. -/
def pf : pre0.Contents (Elt F) := fun | ⟨0, _⟩ => T.te | ⟨1, _⟩ => T.nu | ⟨_ + 2, h⟩ => absurd h (by simp)

/-- A one-entry table has one index. -/
theorem idx1_eq (x : S1.Idx) : x = ix1 0 := by
  funext a; match a with
  | ⟨0, _⟩ => exact Fin.ext (by have h : (x 0).val < 1 := (x 0).isLt; show (x 0).val = 0; omega)

/-- The word an index map reads of the one-entry table. -/
theorem nu_word : (pf (F := F) T).at 1 (Rect.unit (s := S1) ![0] S1.size inb_S1_S1_0) numel1_S1 = T.nu (ix1 0) :=
  congrArg T.nu (idx1_eq _)

/-- The word the body reads of it. -/
theorem usedWord_eq : usedWord (F := F) T.nu = T.nu (ix1 0) :=
  congrArg T.nu (idx1_eq _)

/-- The word the schedule reads of it. -/
theorem nu_wordD : (pf (F := F) T).atD 1 ![0] = T.nu (ix1 0) := by
  unfold Pipeline.Prefetch.Contents.atD
  rw [dif_pos (by intro a; match a with | ⟨0, _⟩ => exact le_refl 1)]
  exact congrArg T.nu (idx1_eq _)

theorem toNat_coord (i : grid0.Coords) : (BitVec.ofNat 32 (i 0).val).toNat = (i 0).val := by
  have h : (i 0).val < 40 := (i 0).isLt
  simp only [BitVec.toNat_ofNat]; omega

theorem toNat_coord1 (i : grid0.Coords) : (BitVec.ofNat 32 (i 1).val).toNat = (i 1).val := by
  have h : (i 1).val < 7 := (i 1).isLt
  simp only [BitVec.toNat_ofNat]; omega

/-- The word an index map reads of the table of experts. -/
theorem te_word (i : grid0.Coords) :
    (pf (F := F) T).at 0 (Rect.unit (s := S40) ![(Scalar.indexCast (BitVec.ofNat 32 (i 0).val)).toNat] S1.size (k0_off1_inb i)) numel1_S1 = T.te (ix1 (i 0)) := by
  refine congrArg T.te ?_
  funext a; match a with
  | ⟨0, _⟩ =>
    apply Fin.ext
    have h0 : (Scalar.indexCast (BitVec.ofNat 32 (i 0).val)).toNat = (i 0).val := toNat_coord i
    refine (congrArg₂ (· + ·) h0 (?_ : _ * _ = 0)).trans (Nat.add_zero _)
    exact Nat.mul_eq_zero.2 (Or.inr (Nat.lt_one_iff.1 (Fin.isLt _)))

/-- The body's second condition: the tile is in use. -/
theorem cond2_iff (i : grid0.Coords) : k0_cond2 i (T.nu (ix1 0)) = 1#1 ↔ (i 0).val < T.used := by
  have h0 : (i 0).val < 40 := (i 0).isLt
  have h1 := T.used_lt
  have e : Scalar.cmpi .slt (BitVec.ofNat 32 (i 0).val) (T.nu (ix1 0)) = BitVec.ofBool (decide ((i 0).val < T.used)) := by
    show IntOp.cmpi .slt _ _ = _
    rw [WordCmp.cmpi_slt_of_lt (by rw [toNat_coord]; omega) (by show T.used < _; omega), toNat_coord]; rfl
  show Scalar.cmpi .ne (Scalar.extui (Scalar.cmpi .slt (BitVec.ofNat 32 (i 0).val) (T.nu (ix1 0)))) 0#32 = 1#1 ↔ _
  rw [e]
  by_cases h : (i 0).val < T.used
  · simp only [h, decide_true]; decide
  · simp only [h, decide_false]; decide

/-- The column block an index map names: the grid's own in a tile in use, the last one elsewhere. -/
def colIndex (i : grid0.Coords) : ℕ := if (i 0).val < T.used then (i 1).val else 6

/-- The index maps as functions of the words they read. -/
def rowsOf (i : grid0.Coords) (n : BitVec 32) : Fin 2 → ℕ := ![(Scalar.minsi (BitVec.ofNat 32 (i 0).val) (Scalar.subi n 1#32)).toNat, 0]
def colOf (i : grid0.Coords) (n : BitVec 32) : ℕ :=
  (Scalar.select (Scalar.cmpi .slt (BitVec.ofNat 32 (i 0).val) n) (BitVec.ofNat 32 (i 1).val) 6#32).toNat

/-- The index of the rows' block: the tile, held at the last tile in use. -/
theorem rows_index (i : grid0.Coords) : cc0_transform_0 inb_S1_S1_0 numel1_S1 (pf (F := F) T) i = ![min (i 0).val (T.used - 1), 0] := by
  have h0 : (i 0).val < 40 := (i 0).isLt
  have h1 := T.used_lt
  have h2 := T.used_pos
  refine (congrArg (rowsOf i) (nu_word (F := F) T)).trans ?_
  have e : (Scalar.subi (T.nu (ix1 0)) 1#32).toNat = T.used - 1 := by
    show (T.nu (ix1 0) - 1#32).toNat = _
    unfold Tables.used at *
    rw [BitVec.toNat_sub]; simp; omega
  have : (Scalar.minsi (BitVec.ofNat 32 (i 0).val) (Scalar.subi (T.nu (ix1 0)) 1#32)).toNat = min (i 0).val (T.used - 1) := by
    show (IntOp.minsi _ _).toNat = _
    rw [WordArith.toNat_minsi_of_lt _ _ (by rw [toNat_coord]; omega) (by rw [e]; omega), e, toNat_coord]
  unfold rowsOf; rw [this]

/-- The column block's word, read. -/
theorem col_word (i : grid0.Coords) : colOf i (T.nu (ix1 0)) = colIndex T i := by
  have h0 : (i 0).val < 40 := (i 0).isLt
  have h1 := T.used_lt
  have e : Scalar.cmpi .slt (BitVec.ofNat 32 (i 0).val) (T.nu (ix1 0)) = BitVec.ofBool (decide ((i 0).val < T.used)) := by
    show IntOp.cmpi .slt _ _ = _
    rw [WordCmp.cmpi_slt_of_lt (by rw [toNat_coord]; omega) (by show T.used < _; omega), toNat_coord]; rfl
  unfold colIndex colOf
  rw [e]
  by_cases h : (i 0).val < T.used
  · simp only [h, decide_true, if_true]; exact toNat_coord1 i
  · simp only [h, decide_false, if_false]; rfl

/-- The indices of the weights' blocks: layer 1, the tile's expert, and the column block (the row block of the third). -/
theorem gate_index (i : grid0.Coords) : cc0_transform_1 k0_off1_inb numel1_S1 inb_S1_S1_0 (pf (F := F) T) i = ![1, (T.te (ix1 (i 0))).toNat, 0, colIndex T i] := by
  exact congrArg₂ (fun (a b : ℕ) => (![1, a, 0, b] : Fin 4 → ℕ)) (congrArg BitVec.toNat (te_word (F := F) T i))
    ((congrArg (colOf i) (nu_word (F := F) T)).trans (col_word T i))
theorem up_index (i : grid0.Coords) : cc0_transform_2 k0_off1_inb numel1_S1 inb_S1_S1_0 (pf (F := F) T) i = ![1, (T.te (ix1 (i 0))).toNat, 0, colIndex T i] := by
  exact congrArg₂ (fun (a b : ℕ) => (![1, a, 0, b] : Fin 4 → ℕ)) (congrArg BitVec.toNat (te_word (F := F) T i))
    ((congrArg (colOf i) (nu_word (F := F) T)).trans (col_word T i))
theorem down_index (i : grid0.Coords) : cc0_transform_3 k0_off1_inb numel1_S1 inb_S1_S1_0 (pf (F := F) T) i = ![1, (T.te (ix1 (i 0))).toNat, colIndex T i, 0] := by
  exact congrArg₂ (fun (a b : ℕ) => (![1, a, b, 0] : Fin 4 → ℕ)) (congrArg BitVec.toNat (te_word (F := F) T i))
    ((congrArg (colOf i) (nu_word (F := F) T)).trans (col_word T i))

theorem colIndex_lt (i : grid0.Coords) : colIndex T i < 7 := by
  have h : (i 1).val < 7 := (i 1).isLt
  unfold colIndex; split <;> omega

/-- Every block the index maps name lies inside its array, whatever tables of the stated range they read. -/
theorem ok_tables : ok0 (F := F) (pf T) := by
  have ht := T.te_lt
  have h1 := T.used_lt
  have h2 := T.used_pos
  refine ⟨fun i => ⟨?_, .inl rfl⟩, fun i => ⟨?_, .inl rfl⟩, fun i => ⟨?_, .inl rfl⟩, fun i => ⟨?_, .inl rfl⟩⟩
  · intro a; rw [rows_index]; have h0 : (i 0).val < 40 := (i 0).isLt
    match a with
    | ⟨0, _⟩ => show (min (i 0).val (T.used - 1) + 1) * 1024 ≤ 40960; omega
    | ⟨1, _⟩ => show (0 + 1) * 1024 ≤ 1024; omega
  · intro a; rw [gate_index]; have := colIndex_lt T i; have := ht (ix1 (i 0))
    match a with
    | ⟨0, _⟩ => show (1 + 1) * 1 ≤ 2; omega
    | ⟨1, _⟩ => show ((T.te (ix1 (i 0))).toNat + 1) * 1 ≤ 8; omega
    | ⟨2, _⟩ => show (0 + 1) * 1024 ≤ 1024; omega
    | ⟨3, _⟩ => show (colIndex T i + 1) * 512 ≤ 3584; omega
  · intro a; rw [up_index]; have := colIndex_lt T i; have := ht (ix1 (i 0))
    match a with
    | ⟨0, _⟩ => show (1 + 1) * 1 ≤ 2; omega
    | ⟨1, _⟩ => show ((T.te (ix1 (i 0))).toNat + 1) * 1 ≤ 8; omega
    | ⟨2, _⟩ => show (0 + 1) * 1024 ≤ 1024; omega
    | ⟨3, _⟩ => show (colIndex T i + 1) * 512 ≤ 3584; omega
  · intro a; rw [down_index]; have := colIndex_lt T i; have := ht (ix1 (i 0))
    match a with
    | ⟨0, _⟩ => show (1 + 1) * 1 ≤ 2; omega
    | ⟨1, _⟩ => show ((T.te (ix1 (i 0))).toNat + 1) * 1 ≤ 8; omega
    | ⟨2, _⟩ => show (colIndex T i + 1) * 512 ≤ 3584; omega
    | ⟨3, _⟩ => show (0 + 1) * 1024 ≤ 1024; omega

/-- A grid point's coordinates: its tile and its column block. -/
theorem coords_vals : ∀ t : Fin grid0.N, (grid0.coords t 0).val = t.val / 7 ∧ (grid0.coords t 1).val = t.val % 7 := by decide +kernel

/-- The body's first condition: the point is its tile's first. -/
theorem cond1_iff : ∀ t : Fin grid0.N, k0_cond1 (grid0.coords t) = 1#1 ↔ t.val % 7 = 0 := by decide +kernel

end Cert.Kernel4Ideal.Experts

end
-- ==== Proof.LatentsFrame.lean ====
/- The second routed layer's experts, on the latents alone. The experts' call, run at given tables: every execution ends, each array at the contents its points compute. -/
module

public import proofs.«01_k».proof.Proof.LatentsTables
public import Idealize.ShloMosaic.Lib.Pipeline.Quiescent
public import Idealize.ShloMosaic.Lib.Claim

@[expose] public section

set_option maxRecDepth 16384

noncomputable section

namespace Cert.Kernel4Ideal.Experts

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] (T : Tables)

local notation "𝕄" => MT nD τ sig Unit (Elt F) ℕ (UR sig nD τ) ℕ

/-! ## The pipeline at given tables -/

/-- The tables as admissible contents, the pipeline at them, and the program's one pipeline. -/
def adm : (pcfg0 (F := F)).Adm := ⟨pf T, ok_tables T⟩
abbrev cfgT : Pipeline.Cfg sig Λ₀ := cfg0 (F := F) (adm T)
abbrev pcsT : Fin 1 → Pipeline.Cfg sig Λ₀ := Pipeline.pin (pcfgs (F := F)) fun _ => adm T

variable (m : (ℓ : Loc nD τ sig) → Buf (Elt F) ℓ) (ρ : Dev nD → PrngReg)

/-- The launch memory holds the tables `T`. -/
def Holds : Prop :=
  (∀ c : Dev nD, m ((c : Thread nD τ).loc main_arg0) = T.te) ∧ (∀ c : Dev nD, m ((c : Thread nD τ).loc main_arg1) = T.nu)

/-- A point's coordinates and its staging buffers. -/
abbrev crd (t : Fin (cfgT (F := F) T).N) : (cfgT (F := F) T).grid.Coords := (cfgT (F := F) T).grid.coords t
abbrev bufX (t : Fin (cfgT (F := F) T).N) : Memref sig .tc .vmem S1024x1024 .f32 := spec0_0.stage ((cfgT (F := F) T).slots t (0 : Fin 5))
abbrev bufX_whole (t : Fin (cfgT (F := F) T).N) : (bufX (F := F) T t).IsWhole := hstage0_0 (((cfgT (F := F) T).slots t (0 : Fin 5)).cast nbuf0_0)
abbrev bufG (t : Fin (cfgT (F := F) T).N) : Memref sig .tc .vmem S1x1x1024x512 .f32 := spec0_1.stage ((cfgT (F := F) T).slots t (1 : Fin 5))
abbrev bufG_whole (t : Fin (cfgT (F := F) T).N) : (bufG (F := F) T t).IsWhole := hstage0_1 (((cfgT (F := F) T).slots t (1 : Fin 5)).cast nbuf0_1)
abbrev bufU (t : Fin (cfgT (F := F) T).N) : Memref sig .tc .vmem S1x1x1024x512 .f32 := spec0_2.stage ((cfgT (F := F) T).slots t (2 : Fin 5))
abbrev bufU_whole (t : Fin (cfgT (F := F) T).N) : (bufU (F := F) T t).IsWhole := hstage0_2 (((cfgT (F := F) T).slots t (2 : Fin 5)).cast nbuf0_2)
abbrev bufD (t : Fin (cfgT (F := F) T).N) : Memref sig .tc .vmem S1x1x512x1024 .f32 := spec0_3.stage ((cfgT (F := F) T).slots t (3 : Fin 5))
abbrev bufD_whole (t : Fin (cfgT (F := F) T).N) : (bufD (F := F) T t).IsWhole := hstage0_3 (((cfgT (F := F) T).slots t (3 : Fin 5)).cast nbuf0_3)
abbrev bufO (t : Fin (cfgT (F := F) T).N) : Memref sig .tc .vmem S1024x1024 .f32 := spec0_4.stage ((cfgT (F := F) T).slots t (4 : Fin 5))
abbrev bufO_whole (t : Fin (cfgT (F := F) T).N) : (bufO (F := F) T t).IsWhole := hstage0_4 (((cfgT (F := F) T).slots t (4 : Fin 5)).cast nbuf0_4)

/-- Window `w`'s block at point `t`, read off its array at launch. -/
def iblk (c : Dev nD) (w : Fin (cfgT (F := F) T).W) (t : Fin (cfgT (F := F) T).N) : (((cfgT (F := F) T).win w).xblock (crd T t)).Idx → Elt F ((cfgT (F := F) T).win w).elt :=
  (((cfgT (F := F) T).win w).blk t).view.read (Elt F) ((s₀ m ρ).mem (((cfgT (F := F) T).win w).arr.view.loc (c : Thread nD τ)))

/-- The point is its tile's first; the point's tile is in use. -/
abbrev IsFirst (t : Fin (cfgT (F := F) T).N) : Prop := k0_cond1 (crd T t) = 1#1
abbrev InUse (t : Fin (cfgT (F := F) T).N) : Prop := k0_cond2 (crd T t) (usedWord (F := F) T.nu) = 1#1

theorem isFirst_iff (t : Fin (cfgT (F := F) T).N) : IsFirst (F := F) T t ↔ t.val % 7 = 0 := cond1_iff t

theorem inUse_iff (t : Fin (cfgT (F := F) T).N) : InUse (F := F) T t ↔ t.val / 7 < T.used := by
  unfold InUse
  rw [usedWord_eq]
  refine (cond2_iff T (crd T t)).trans ?_
  rw [show ((crd (F := F) T t) 0).val = t.val / 7 from (coords_vals t).1]

/-! ## The schedule: which points write the output back, leave it idle, find it fresh -/

theorem flush_free : ∀ t : Fin grid0.N, (decide (t.val + 1 = grid0.N) || decide (∃ h : t.val + 1 < grid0.N, cc0_transform_4 (grid0.coords ⟨t.val + 1, h⟩) ≠ cc0_transform_4 (grid0.coords t))) = decide (t.val % 7 = 6) := by decide +kernel

/-- The output block is written back at its tile's last point. -/
theorem flush_eq (t : Fin (cfgT (F := F) T).N) : ((cfgT (F := F) T).win (4 : Fin 5)).flush t = decide (t.val % 7 = 6) :=
  (Bool.true_and _).trans (flush_free t)

/-- A point leaves the output alone where it is a later point of a tile not in use. -/
theorem idle_iff (t : Fin (cfgT (F := F) T).N) : (cfgT (F := F) T).idle (4 : Fin 5) ((cfgT (F := F) T).grid.coords t) = true ↔ ¬IsFirst (F := F) T t ∧ ¬InUse (F := F) T t := by
  have e : (cfgT (F := F) T).idle (4 : Fin 5) ((cfgT (F := F) T).grid.coords t)
      = (!(k0_cond1 (crd (F := F) T t) == 1#1) && !(k0_cond2 (crd (F := F) T t) ((pf (F := F) T).atD 1 ![0]) == 1#1)) := rfl
  rw [e, nu_wordD]
  unfold IsFirst InUse
  rw [usedWord_eq]
  simp only [Bool.and_eq_true, Bool.not_eq_true', beq_eq_false_iff_ne, ne_eq]

/-- The output's buffer holds nothing yet exactly at its tile's first point. -/
theorem fresh_eq (t : Fin (cfgT (F := F) T).N) : (cfgT (F := F) T).fresh (4 : Fin 5) t.val = decide (t.val % 7 = 0) :=
  Pipeline.Cfg.fresh_tab (cfgT (F := F) T) (4 : Fin 5) (fun n => decide (n % 7 = 0)) rfl (fun t => by
    rw [flush_eq]
    by_cases h6 : t.val % 7 = 6
    · have : (t.val + 1) % 7 = 0 := by omega
      simp only [h6, this, decide_true, Bool.true_or]
    · have h1 : ¬(t.val + 1) % 7 = 0 := by omega
      simp only [h6, h1, decide_false, Bool.false_or]
      by_cases h0 : t.val % 7 = 0
      · have : (cfgT (F := F) T).idle (4 : Fin 5) ((cfgT (F := F) T).grid.coords t) = false := by
          rw [← Bool.not_eq_true, idle_iff]; exact fun h => h.1 ((isFirst_iff T t).2 h0)
        exact (Bool.and_eq_false_iff.2 (Or.inl this)).symm
      · simp only [h0, decide_false, Bool.and_false]) t.val (Nat.le_of_lt t.isLt)

/-! ## What the output block and the scratch buffer hold after each point -/

/-- The contents of the output's buffer and of the scratch buffer. -/
abbrev State (F : FTy → Type) : Type := (S1024x1024.Idx → Elt F .f32) × (S1024x1024.Idx → Elt F .bf16)

/-- What stands for the contents before the first point. -/
def start : State F := (k0_pay2, k0_pay1 k0_pay2)

/-- One point: from what they held before to what they hold after. -/
def step (c : Dev nD) (t : Fin (cfgT (F := F) T).N) (prev : State F) : State F :=
  (outAfter (F := F) (IsFirst (F := F) T t) (InUse (F := F) T t) (iblk T m ρ c (0 : Fin 5) t) (iblk T m ρ c (1 : Fin 5) t) (iblk T m ρ c (2 : Fin 5) t) (iblk T m ρ c (3 : Fin 5) t) prev.1 prev.2,
    keptAfter (F := F) (IsFirst (F := F) T t) (iblk T m ρ c (0 : Fin 5) t) prev.2)

/-- After position `n`. -/
def traj (c : Dev nD) : (n : ℕ) → n < (cfgT (F := F) T).N → State F
  | 0, h => step T m ρ c ⟨0, h⟩ start
  | n + 1, h => step T m ρ c ⟨n + 1, h⟩ (traj c n (Nat.lt_of_succ_lt h))

/-- Before point `t` (anything before the first). -/
def prev (c : Dev nD) (t : Fin (cfgT (F := F) T).N) : State F :=
  if h : t.val = 0 then start else traj T m ρ c (t.val - 1) (by omega)

theorem traj_eq (c : Dev nD) (t : Fin (cfgT (F := F) T).N) : traj T m ρ c t.val t.isLt = step T m ρ c t (prev T m ρ c t) := by
  obtain ⟨n, hn⟩ := t
  cases n with
  | zero => rfl
  | succ n => unfold prev; simp only [Nat.add_one_ne_zero, dif_neg, not_false_eq_true]; rfl

/-- What they held before position `t` of one more than the points. -/
def prevT (c : Dev nD) (t : Fin ((cfgT (F := F) T).N + 1)) : State F :=
  if h : t.val = 0 then start else traj T m ρ c (t.val - 1) (by omega)

theorem prevT_castSucc (c : Dev nD) (t : Fin (cfgT (F := F) T).N) : prevT T m ρ c t.castSucc = prev T m ρ c t := by
  unfold prevT prev; simp only [Fin.val_castSucc]
theorem prevT_succ (c : Dev nD) (t : Fin (cfgT (F := F) T).N) : prevT T m ρ c t.succ = traj T m ρ c t.val t.isLt := by
  unfold prevT; simp only [Fin.val_succ, Nat.add_one_ne_zero, ↓reduceDIte, Nat.add_one_sub_one]

/-- At a tile's first point the buffers' earlier contents do not matter. -/
theorem keptAfter_first (p : Prop) [Decidable p] (hp : p) (x0 : S1024x1024.Idx → Elt F .f32) (s s' : S1024x1024.Idx → Elt F .bf16) :
    keptAfter p x0 s = keptAfter p x0 s' := by unfold keptAfter; rw [if_pos hp, if_pos hp]
theorem outAfter_first (p q : Prop) [Decidable p] [Decidable q] (hp : p) (x0 : S1024x1024.Idx → Elt F .f32) (x1 x2 : S1x1x1024x512.Idx → Elt F .f32) (x3 : S1x1x512x1024.Idx → Elt F .f32)
    (o o' : S1024x1024.Idx → Elt F .f32) (s s' : S1024x1024.Idx → Elt F .bf16) :
    outAfter p q x0 x1 x2 x3 o s = outAfter p q x0 x1 x2 x3 o' s' := by
  unfold outAfter; rw [keptAfter_first p hp x0 s s', if_pos hp, if_pos hp]
/-- At a later point of a tile not in use the output keeps what it held. -/
theorem outAfter_idle (p q : Prop) [Decidable p] [Decidable q] (hp : ¬p) (hq : ¬q) (x0 : S1024x1024.Idx → Elt F .f32) (x1 x2 : S1x1x1024x512.Idx → Elt F .f32) (x3 : S1x1x512x1024.Idx → Elt F .f32)
    (o : S1024x1024.Idx → Elt F .f32) (s : S1024x1024.Idx → Elt F .bf16) :
    outAfter p q x0 x1 x2 x3 o s = o := by
  unfold outAfter; rw [if_neg hp, if_neg hq]

/-! ## The pipeline's proof data -/

/-- The invariant before point `t`: the scratch buffer at what the steps say once a point has run, and the body's halves of the tables. -/
def Phi (c : Dev nD) (t : Fin ((cfgT (F := F) T).N + 1)) : sProp 𝕄 :=
  iprop((∃ a : S1024x1024.Idx → Elt F .bf16, ⌜t.val ≠ 0 → a = (prevT T m ρ c t).2⌝ ∗ (scM.view.loc (c : Thread nD τ) ↦{fullShare} a))
    ∗ (teM.view.loc (c : Thread nD τ) ↦{fullShare.right} T.te) ∗ (nuM.view.loc (c : Thread nD τ) ↦{fullShare.right} T.nu))

/-- The proof data of the one pipeline on core `c`. -/
def dats (_ : Fin 1) (c : Dev nD) : Dat τ (Elt F) Unit ℕ (UR sig nD τ) ℕ (cfgT (F := F) T) c where
  A w := (s₀ m ρ).mem (((cfgT (F := F) T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj T m ρ c t.val t.isLt).1
  Φ t := Phi T m ρ c t
  q _ := fullShare
  owed _ := 0

theorem after_0 (c : Dev nD) (t : Fin (cfgT (F := F) T).N) : (dats T m ρ 0 c).after (0 : Fin 5) t = iblk T m ρ c (0 : Fin 5) t := rfl
theorem after_1 (c : Dev nD) (t : Fin (cfgT (F := F) T).N) : (dats T m ρ 0 c).after (1 : Fin 5) t = iblk T m ρ c (1 : Fin 5) t := rfl
theorem after_2 (c : Dev nD) (t : Fin (cfgT (F := F) T).N) : (dats T m ρ 0 c).after (2 : Fin 5) t = iblk T m ρ c (2 : Fin 5) t := rfl
theorem after_3 (c : Dev nD) (t : Fin (cfgT (F := F) T).N) : (dats T m ρ 0 c).after (3 : Fin 5) t = iblk T m ρ c (3 : Fin 5) t := rfl
theorem after_4 (c : Dev nD) (t : Fin (cfgT (F := F) T).N) : (dats T m ρ 0 c).after (4 : Fin 5) t = (traj T m ρ c t.val t.isLt).1 := rfl

/-- Each input's buffer holds its block when the body runs, fetched at the point or kept from before. -/
theorem before_0 (c : Dev nD) (t : Fin (cfgT (F := F) T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgT (F := F) T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgT (F := F) T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgT (F := F) T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

/-- The output's contents carry through the points that leave it alone. -/
theorem carry_4 (c : Dev nD) : ∀ (t : Fin (cfgT (F := F) T).N) (ht : t.val ≠ 0), (cfgT (F := F) T).idle (4 : Fin 5) ((cfgT (F := F) T).grid.coords t) = true → (cfgT (F := F) T).fresh (4 : Fin 5) t.val = false →
    (dats T m ρ 0 c).after (4 : Fin 5) t = (dats T m ρ 0 c).after (4 : Fin 5) ⟨t.val - 1, by omega⟩ := by
  intro t ht hi hf
  obtain ⟨h1, h2⟩ := (idle_iff T t).1 hi
  rw [after_4, after_4, traj_eq]
  unfold step
  refine (outAfter_idle _ _ h1 h2 _ _ _ _ _ _).trans ?_
  unfold prev; rw [dif_neg ht]

/-- The output's buffer holds, when the body runs at `t`: anything at a tile's first point, else what the point before left. -/
theorem before_4 (c : Dev nD) (t : Fin (cfgT (F := F) T).N) (d) :
    (dats T m ρ 0 c).before (4 : Fin 5) t d = if t.val % 7 = 0 then d else (prev T m ρ c t).1 := by
  rw [(dats T m ρ 0 c).before_out_traj (4 : Fin 5) rfl (fun _ _ => rfl) (carry_4 T m ρ c) t.val t rfl d, fresh_eq]
  by_cases hf : t.val % 7 = 0
  · simp only [hf, decide_true, ↓reduceIte]
  · have h0 : t.val ≠ 0 := fun h0 => hf (by omega)
    simp only [hf, decide_false, Bool.false_eq_true, ↓reduceIte, after_4]; unfold prev; rw [dif_neg h0]

/-- The output's contents after a point, from any contents its buffers may hold before. -/
theorem out_after (c : Dev nD) (t : Fin (cfgT (F := F) T).N) (d) (a : S1024x1024.Idx → Elt F .bf16) (ha : t.val ≠ 0 → a = (prev T m ρ c t).2) :
    outAfter (F := F) (IsFirst (F := F) T t) (InUse (F := F) T t) (iblk T m ρ c (0 : Fin 5) t) (iblk T m ρ c (1 : Fin 5) t) (iblk T m ρ c (2 : Fin 5) t) (iblk T m ρ c (3 : Fin 5) t)
      ((dats T m ρ 0 c).before (4 : Fin 5) t d) a = (traj T m ρ c t.val t.isLt).1 := by
  rw [traj_eq, before_4]
  by_cases h : t.val % 7 = 0
  · exact outAfter_first _ _ ((isFirst_iff T t).2 h) _ _ _ _ _ _ _ _
  · rw [if_neg h, ha (by omega)]; rfl

/-- The scratch buffer's contents after a point, likewise. -/
theorem kept_after (c : Dev nD) (t : Fin (cfgT (F := F) T).N) (a : S1024x1024.Idx → Elt F .bf16) (ha : t.val ≠ 0 → a = (prev T m ρ c t).2) :
    keptAfter (F := F) (IsFirst (F := F) T t) (iblk T m ρ c (0 : Fin 5) t) a = (traj T m ρ c t.val t.isLt).2 := by
  rw [traj_eq]
  by_cases h : t.val = 0
  · exact keptAfter_first _ ((isFirst_iff T t).2 (by omega)) _ _ _
  · rw [ha h]; rfl

/-- The body at point `t` on its staging buffers, as the pipeline calls it. -/
abbrev bodyAt (t : Fin (cfgT (F := F) T).N) : Prog (TpuEff nD τ sig (Elt F) Λ₀ .tc) PUnit :=
  cc0_moe_experts (crd T t) (Memref.whole main_arg0) (Memref.isWhole_whole _) (Memref.whole main_arg1) (Memref.isWhole_whole _) (bufX T t) (bufX_whole T t) (bufG T t) (bufG_whole T t) (bufU T t) (bufU_whole T t) (bufD T t) (bufD_whole T t) (bufO T t) (bufO_whole T t) (Memref.whole cc0_scratch0) (Memref.isWhole_whole _)

set_option maxHeartbeats 4000000 in
/-- The body obligation at point `t`. -/
theorem sound_body (c : Dev nD) (t : Fin (cfgT (F := F) T).N) :
    iprop((dats T m ρ 0 c).Φ t.castSucc ∗ (dats T m ρ 0 c).owesAt () t.castSucc
        ∗ (∃ d, owns (c : Thread nD τ) (bufX T t) fullShare ((dats T m ρ 0 c).before (0 : Fin 5) t d))
        ∗ (∃ d, owns (c : Thread nD τ) (bufG T t) fullShare ((dats T m ρ 0 c).before (1 : Fin 5) t d))
        ∗ (∃ d, owns (c : Thread nD τ) (bufU T t) fullShare ((dats T m ρ 0 c).before (2 : Fin 5) t d))
        ∗ (∃ d, owns (c : Thread nD τ) (bufD T t) fullShare ((dats T m ρ 0 c).before (3 : Fin 5) t d))
        ∗ (∃ d, owns (c : Thread nD τ) (bufO T t) fullShare ((dats T m ρ 0 c).before (4 : Fin 5) t d)))
      ⊢ wp frame (wpE (defs₀ (F := F)) Variants.none c none) Set.univ (bodyAt T t) fun _ =>
          iprop((dats T m ρ 0 c).Φ t.succ ∗ (dats T m ρ 0 c).owesAt () t.succ
            ∗ bigSep Finset.univ fun w : Fin (cfgT (F := F) T).W =>
                match (cfgT (F := F) T).idle w ((cfgT (F := F) T).grid.coords t) with
                | true =>
                  match ((cfgT (F := F) T).win w).flush t with
                  | false => iprop(∃ d, owns (c : Thread nD τ) (((cfgT (F := F) T).win w).stage ((cfgT (F := F) T).slots t w)) fullShare ((dats T m ρ 0 c).before w t d))
                  | true => owns (c : Thread nD τ) (((cfgT (F := F) T).win w).stage ((cfgT (F := F) T).slots t w)) fullShare ((dats T m ρ 0 c).after w t)
                | false => owns (c : Thread nD τ) (((cfgT (F := F) T).win w).stage ((cfgT (F := F) T).slots t w)) fullShare ((dats T m ρ 0 c).after w t)) := by
  rw [bigSep_W0]
  cases i4 : (cfgT (F := F) T).idle (4 : Fin 5) ((cfgT (F := F) T).grid.coords t)
  · simp only [before_0, before_1, before_2, before_3, after_0, after_1, after_2, after_3, after_4]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    unfold Phi; simp only [prevT_castSucc, prevT_succ, Fin.val_castSucc, Fin.val_succ]
    iintro ⟨⟨⟨%a0, %ha0, HS0⟩, HT0, HT1⟩, Ho, ⟨%d0, H0⟩, ⟨%d1, H1⟩, ⟨%d2, H2⟩, ⟨%d3, H3⟩, ⟨%d4, H4⟩⟩
    iapply (body_run c (crd T t) (bufX T t) (bufX_whole T t) (bufG T t) (bufG_whole T t) (bufU T t) (bufU_whole T t) (bufD T t) (bufD_whole T t) (bufO T t) (bufO_whole T t) T.te T.nu
      (iblk T m ρ c (0 : Fin 5) t) (iblk T m ρ c (1 : Fin 5) t) (iblk T m ρ c (2 : Fin 5) t) (iblk T m ρ c (3 : Fin 5) t) ((dats T m ρ 0 c).before (4 : Fin 5) t d4) a0 _)
    rw [out_after T m ρ c t d4 a0 ha0, kept_after T m ρ c t a0 ha0]
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    iintro ⟨H0, H1, H2, H3, HT0, HT1, H4, HS0⟩
    isplitl [HS0 HT0 HT1]
    · isplitl [HS0]
      · iexists _; isplitr; swap
        · iexact HS0
        · ipureintro; intro _; rfl
      isplitl [HT0]
      · iexact HT0
      iexact HT1
    isplitl [Ho]; · iexact Ho
    isplitl [H0]; · iexact H0
    isplitl [H1]; · iexact H1
    isplitl [H2]; · iexact H2
    isplitl [H3]; · iexact H3
    iexact H4
  · obtain ⟨h1, h2⟩ := (idle_iff T t).1 i4
    cases f4 : ((cfgT (F := F) T).win (4 : Fin 5)).flush t
    all_goals
      simp only [before_0, before_1, before_2, before_3, after_0, after_1, after_2, after_3, after_4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      unfold Phi; simp only [prevT_castSucc, prevT_succ, Fin.val_castSucc, Fin.val_succ]
      iintro ⟨⟨⟨%a0, %ha0, HS0⟩, HT0, HT1⟩, Ho, ⟨%d0, H0⟩, ⟨%d1, H1⟩, ⟨%d2, H2⟩, ⟨%d3, H3⟩, ⟨%d4, H4⟩⟩
      iapply (body_run c (crd T t) (bufX T t) (bufX_whole T t) (bufG T t) (bufG_whole T t) (bufU T t) (bufU_whole T t) (bufD T t) (bufD_whole T t) (bufO T t) (bufO_whole T t) T.te T.nu
        (iblk T m ρ c (0 : Fin 5) t) (iblk T m ρ c (1 : Fin 5) t) (iblk T m ρ c (2 : Fin 5) t) (iblk T m ρ c (3 : Fin 5) t) ((dats T m ρ 0 c).before (4 : Fin 5) t d4) a0 _)
      have eo := out_after T m ρ c t d4 a0 ha0
      rw [kept_after T m ρ c t a0 ha0]
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      iintro ⟨H0, H1, H2, H3, HT0, HT1, H4, HS0⟩
      isplitl [HS0 HT0 HT1]
      · isplitl [HS0]
        · iexists _; isplitr; swap
          · iexact HS0
          · ipureintro; intro _; rfl
        isplitl [HT0]
        · iexact HT0
        iexact HT1
      isplitl [Ho]; · iexact Ho
      isplitl [H0]; · iexact H0
      isplitl [H1]; · iexact H1
      isplitl [H2]; · iexact H2
      isplitl [H3]; · iexact H3
      first
        | (rw [outAfter_idle _ _ h1 h2]; iexists d4; iexact H4)
        | (rw [eo]; iexact H4)

/-- The library's body obligation, at every point. -/
theorem body_obligation (c : Dev nD) : BodyObligation (dats T m ρ 0 c) (defs₀ (F := F)) Variants.none () Set.univ := fun t => by
  rw [bigSep_W0]
  exact sound_body T m ρ c t

/-! ## The launch -/

/-- The launch element of the rounds. -/
def u₀ : UR sig nD τ :=
  initOf (Pipeline.cells (pcsT (F := F) T) ((launch0 (F := F)).cellOf_inj fun _ => adm T))
    (Pipeline.launchToks (pcsT (F := F) T) ((launch0 (F := F)).cellOf_inj fun _ => adm T))

theorem share_eq (c : Dev nD) (w : Fin (cfgT (F := F) T).W) : (dats T m ρ 0 c).share w = fullShare := by unfold Dat.share; split <;> rfl

/-- The tables as the launch hands them to the region, one by one. -/
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point, from the tables and the scratch buffer; -/
theorem phi_start (c : Dev nD) :
    iprop(BI.emp ∗ Pipeline.prefHeld pre0 c (fun _ => fullShare.right) (adm (F := F) T).1 ∗ Pipeline.scopedRest spec0 c) ⊢ (dats T m ρ 0 c).Φ 0 := by
  rw [tables_held, scopedRest0_eq, show (dats T m ρ 0 c).Φ 0 = Phi T m ρ c 0 from rfl]
  unfold Phi
  iintro ⟨-, ⟨HT0, HT1⟩, ⟨%a0, HS0⟩⟩
  isplitl [HS0]
  · iexists a0; isplitr; swap
    · iexact HS0
    · ipureintro; intro h; exact absurd rfl h
  isplitl [HT0]
  · iexact HT0
  iexact HT1

/-- at the last point it gives the scratch buffer back. -/
theorem phi_end (c : Dev nD) : (dats T m ρ 0 c).Φ (Fin.last (cfgT (F := F) T).N) ⊢ iprop(BI.emp ∗ Pipeline.scopedRest spec0 c) := by
  rw [scopedRest0_eq, show (dats T m ρ 0 c).Φ (Fin.last (cfgT (F := F) T).N) = Phi T m ρ c (Fin.last _) from rfl]
  unfold Phi
  iintro ⟨⟨%a0, -, HS0⟩, -, -⟩
  isplitr; · iempintro
  iexists a0; iexact HS0

/-- Every array ends at what the write-backs leave in it, and the tables end as they were. -/
def Ends : PUnit × MemSt nD τ sig (Elt F) → Prop := fun r =>
  ∀ c : Dev nD, (∀ w : Fin (cfgT (F := F) T).W, r.2.mem (((cfgT (F := F) T).win w).arr.view.loc (c : Thread nD τ)) = (dats T m ρ 0 c).arrAt w (cfgT (F := F) T).N)
    ∧ ∀ j, r.2.mem ((c : Thread nD τ).loc (pre0.ref j)) = (adm (F := F) T).1 j

theorem tables_at (hp : Holds T m) (c : Dev nD) (j : Fin 2) : m ((c : Thread nD τ).loc (pre0.ref j)) = (adm (F := F) T).1 j := by
  fin_cases j
  · exact hp.1 c
  · exact hp.2 c

set_option backward.isDefEq.respectTransparency.types false in
set_option maxHeartbeats 4000000 in
/-- From any memory that holds the tables, every weakly fair execution ends, each array at the computed contents and every
    counter at zero. -/
theorem run_quiescent (hp : Holds T m) : θ_run (defs (F := F)) (onTc (τ := τ) (main (F := F))) (s₀ m ρ) (fun r => Ends T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre emb₁ defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT T) (dats T m ρ) 0 (launch0 (F := F)).win.arr_inj c (launch0 (F := F)).arr_whole
      (share_eq T m ρ c) _ _ fun _ => rfl)
    (hpf := tables_at T m hp)
    (X := fun _ => iprop(emp)) (Y := fun _ => iprop(emp)) (Z := fun _ => iprop(emp))
    (hX := fun c => by rw [unscopedRestP0_eq]; iintro -; isplitr <;> iempintro)
    (hin := phi_start T m ρ)
    (hout := phi_end T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: every execution ends, the argument arrays unchanged and every counter at zero. -/
theorem frame_run (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp.1 c).symm, ((h.1 c).2 1).trans (hp.2 c).symm,
    ((h.1 c).1 (0 : Fin 5)).trans ((dats T m ρ 0 c).arrAt_in (0 : Fin 5) rfl _), ((h.1 c).1 (1 : Fin 5)).trans ((dats T m ρ 0 c).arrAt_in (1 : Fin 5) rfl _),
    ((h.1 c).1 (2 : Fin 5)).trans ((dats T m ρ 0 c).arrAt_in (2 : Fin 5) rfl _), ((h.1 c).1 (3 : Fin 5)).trans ((dats T m ρ 0 c).arrAt_in (3 : Fin 5) rfl _)⟩, h.2⟩)
    (run_quiescent T m ρ hp)

end Cert.Kernel4Ideal.Experts

end
-- ==== Proof.LatentsPre.lean ====
/- The second routed layer's experts, on the latents alone. What the precondition says of the two tables: every expert is one of the eight, and at least one tile is in use. -/
module

public import proofs.«01_k».proof.Defs
public import proofs.«01_k».proof.Proof.Gen.Pre_latent_tables
public import proofs.«01_k».proof.Proof.ExpertsPre
public import proofs.«01_k».proof.Proof.LatentsTables
public import Idealize.ShloMosaic.Lib.ReduceAll

@[expose] public section

noncomputable section

open Idealize.ShloMosaic

namespace Cert.Pre_latent_tables

open Cert.Pre_tables (lt_eight positive)

variable {F : FTy → Type} [FloatOps F] [Facts]
  (te : IVec S40 32) (nu : IVec S1 32) (x : FVec F S40960x1024 .f32) (g u : FVec F S2x8x1024x3584 .f32) (d : FVec F S2x8x3584x1024 .f32)

/-- Where the predicate holds the tables are of the stated range. -/
theorem ranges_of_fn (h : fn (F := F) te nu x g u d = fun _ => 1#1) :
    (∀ i, (te i).toNat < 8) ∧ ∀ i, 1 ≤ (nu i).toNat ∧ (nu i).toNat < 2 ^ 31 := by
  have h0 := congrFun h (fun a => a.elim0)
  dsimp only [fn] at h0
  obtain ⟨h1, h2⟩ := IntOp.andi_eq_one.1 h0
  obtain ⟨h3, h4⟩ := IntOp.andi_eq_one.1 h1
  exact ⟨fun i => lt_eight _ (Host.reduce_andi_all (t := S_) _ _ _ _ _ h3 i) (Host.reduce_andi_all (t := S_) _ _ _ _ _ h4 i),
    fun i => positive _ (Host.reduce_andi_all (t := S_) _ _ _ _ _ h2 i)⟩

/-- The tables, with their ranges. -/
def tablesOf (h : fn (F := F) te nu x g u d = fun _ => 1#1) : Cert.Kernel4Ideal.Experts.Tables :=
  ⟨te, nu, (ranges_of_fn te nu x g u d h).1, fun i => ((ranges_of_fn te nu x g u d h).2 i).1, fun i => ((ranges_of_fn te nu x g u d h).2 i).2⟩

end Cert.Pre_latent_tables

end
-- ==== Proof.LatentsBits.lean ====
/- The second routed layer's experts, on the latents alone. The frames of the experts' call: of the program as printed and of its idealization, both from the one run at given tables. -/
module

public import proofs.«01_k».proof.Proof.Gen.Kernel4
public import proofs.«01_k».proof.Proof.LatentsFrame
public import proofs.«01_k».proof.Proof.LatentsPre

@[expose] public section

set_option maxRecDepth 16384

noncomputable section

open Idealize.ShloMosaic Idealize.ShloMosaic.TcCoe Idealize.SL.Sem

namespace Cert.Kernel4Ideal.Experts

/-- The one device. -/
theorem dev_eq (c : Dev nD) : c = ⟨0, by decide⟩ := by
  exact Fin.ext (Nat.lt_one_iff.mp c.isLt)

/-- A launch memory that meets the precondition holds tables of the stated range. -/
theorem holds_of_pre (m : (ℓ : Loc nD τ sig) → Buf (Elt Ideal) ℓ) (h : Cert.Pre_Kernel4Ideal (hPre_latent_tables := Cert.Pre_latent_tables.Gen.facts) m) :
    ∃ T : Tables, Holds T m :=
  ⟨Cert.Pre_latent_tables.tablesOf _ _ _ _ _ _ (h ⟨0, by decide⟩), fun c => by rw [dev_eq c]; rfl, fun c => by rw [dev_eq c]; rfl⟩

/-- The idealized program's frame. -/
theorem quiescent_ideal : Cert.quiescent_Kernel4Ideal (hKernel4Ideal := Cert.Kernel4Ideal.Gen.facts) (hPre_latent_tables := Cert.Pre_latent_tables.Gen.facts) := fun m ρ h =>
  (holds_of_pre m h).elim fun T hT => frame_run T m ρ hT

/-- A launch memory of the program as printed, likewise. -/
theorem holds_of_pre_bits (m : (ℓ : Loc Cert.Kernel4.nD Cert.Kernel4.τ Cert.Kernel4.sig) → Buf (Elt Bits) ℓ) (h : Cert.Pre_Kernel4 (hPre_latent_tables := Cert.Pre_latent_tables.Gen.facts) m) :
    ∃ T : Tables, (∀ c : Dev Cert.Kernel4.nD, m ((c.tc : Thread Cert.Kernel4.nD Cert.Kernel4.τ).loc Cert.Kernel4.main_arg0) = T.te)
      ∧ (∀ c : Dev Cert.Kernel4.nD, m ((c.tc : Thread Cert.Kernel4.nD Cert.Kernel4.τ).loc Cert.Kernel4.main_arg1) = T.nu) :=
  ⟨Cert.Pre_latent_tables.tablesOf _ _ _ _ _ _ (h ⟨0, by decide⟩), fun c => by rw [show c = ⟨0, by decide⟩ from dev_eq c]; rfl, fun c => by rw [show c = ⟨0, by decide⟩ from dev_eq c]; rfl⟩

section Same
variable {F : FTy → Type} [FloatOps F]

/-- The two programs' bodies are one table of definitions. -/
theorem bodies_eq : Cert.Kernel4.defs₀ (F := F) = Cert.Kernel4Ideal.defs₀ (F := F) := by
  unfold Cert.Kernel4.defs₀ Cert.Kernel4Ideal.defs₀
  refine congrArg (Defs.onTc (τ := Cert.Kernel4Ideal.τ) (sig := Cert.Kernel4Ideal.sig) (Val := Elt F) (Λ := Cert.Kernel4Ideal.Λ₀)) ?_
  funext l x
  match l, x with
  | ⟨0, _⟩, (t, s) => rfl

/-- The two programs' pipelines over those bodies are one table of definitions. -/
theorem defs_eq : Cert.Kernel4.defs (F := F) = Cert.Kernel4Ideal.defs (F := F) := by
  unfold Cert.Kernel4.defs Cert.Kernel4Ideal.defs
  exact congrArg (Pipeline.defs (Cert.Kernel4Ideal.pcfgs (F := F))) bodies_eq

/-- The two entry points are one program. -/
theorem main_eq : Cert.Kernel4.main (F := F) = Cert.Kernel4Ideal.main (F := F) := by
  unfold Cert.Kernel4.main Cert.Kernel4Ideal.main
  rfl

/-- A run of the idealized program's text is a run of the printed program's. -/
theorem run_same (m : (ℓ : Loc Cert.Kernel4Ideal.nD Cert.Kernel4Ideal.τ Cert.Kernel4Ideal.sig) → Buf (Elt F) ℓ) (ρ : Dev Cert.Kernel4Ideal.nD → PrngReg) (Q : _ → Prop)
    (h : θ_run (Cert.Kernel4Ideal.defs (F := F)) (onTc (τ := Cert.Kernel4Ideal.τ) (Cert.Kernel4Ideal.main (F := F))) ⟨m, fun _ => 0, ρ⟩ Q) :
    θ_run (Cert.Kernel4.defs (F := F)) (onTc (τ := Cert.Kernel4.τ) (Cert.Kernel4.main (F := F))) ⟨m, fun _ => 0, ρ⟩ Q :=
  Eq.mpr (congrArg₂ (fun D M => θ_run D (onTc (τ := Cert.Kernel4Ideal.τ) M) ⟨m, fun _ => 0, ρ⟩ Q) (defs_eq (F := F)) (main_eq (F := F))) h

end Same

/-- The frame of the program as printed: its text is the idealized program's, so the same run is its run. -/
theorem quiescent_bits : Cert.quiescent_Kernel4 (hKernel4 := Cert.Kernel4.Gen.facts) (hPre_latent_tables := Cert.Pre_latent_tables.Gen.facts) := fun m ρ h =>
  (holds_of_pre_bits m h).elim fun T hT => run_same _ _ _ (frame_run (F := Bits) T m ρ hT)

end Cert.Kernel4Ideal.Experts

end
-- ==== Proof.LatentsBlocks.lean ====
/- The second routed layer's experts, on the latents alone. The blocks the experts' call stages at a point of a tile in use, at an index of the arrays they are read from. -/
module

public import proofs.«01_k».proof.Proof.LatentsFrame
public import Idealize.ShloMosaic.Lib.Pointwise

@[expose] public section

set_option maxRecDepth 16384

noncomputable section

namespace Cert.Kernel4Ideal.Experts

open Cert.Kernel4Ideal Cert.Kernel4Ideal.Gen
open Idealize.ShloMosaic Idealize.ShloMosaic.TcCoe

variable (T : Tables) (m : (ℓ : Loc nD τ sig) → Buf (Elt Ideal) ℓ) (ρ : Dev nD → PrngReg)

/-- The points of the grid are 280: seven for each of 40 tiles. -/
theorem lt_280 (t : Fin (cfgT (F := Ideal) T).N) : t.val < 280 := lt_of_lt_of_eq t.isLt N_0

/-- The rows' block, in a tile in use: the tile's rows. -/
theorem blk_x (c : Dev nD) (t : Fin (cfgT (F := Ideal) T).N) (hu : t.val / 7 < T.used) (r k : Fin 1024) :
    @Eq EReal (iblk T m ρ c (0 : Fin 5) t (ix2 r k : S1024x1024.Idx))
      (m ((c : Thread nD τ).loc main_arg2) (ix2 (⟨1024 * (t.val / 7) + r.val, by have := lt_280 T t; omega⟩ : Fin 40960) k)) := by
  have e := rows_index (F := Ideal) T (crd (F := Ideal) T t)
  rw [(coords_vals t).1, Nat.min_eq_left (by omega)] at e
  unfold iblk
  show m ((c : Thread nD τ).loc main_arg2) ((((cfgT (F := Ideal) T).win (0 : Fin 5)).rect t).emb (ix2 r k : S1024x1024.Idx)) = _
  congr 1
  funext a
  apply Fin.ext
  rw [Pipeline.Window.rect_emb_val ((cfgT (F := Ideal) T).win (0 : Fin 5)) _ _ _ rfl]
  match a with
  | ⟨0, _⟩ => have e0 : ((cfgT (F := Ideal) T).win (0 : Fin 5)).index t 0 = t.val / 7 := congrFun e 0
              show ((cfgT (F := Ideal) T).win (0 : Fin 5)).index t 0 * 1024 + r.val = 1024 * (t.val / 7) + r.val; rw [e0]; omega
  | ⟨1, _⟩ => have e1 : ((cfgT (F := Ideal) T).win (0 : Fin 5)).index t 1 = 0 := congrFun e 1
              show ((cfgT (F := Ideal) T).win (0 : Fin 5)).index t 1 * 1024 + k.val = k.val; rw [e1]; omega

/-- A point's tile. -/
def tileOf (t : Fin (cfgT (F := Ideal) T).N) : Fin 40 := ⟨t.val / 7, by have := lt_280 T t; omega⟩

theorem expert_used (t : Fin (cfgT (F := Ideal) T).N) : (T.te (ix1 ((crd (F := Ideal) T t) 0))).toNat = (T.expert (tileOf T t)).val := by
  have e : (crd (F := Ideal) T t) 0 = tileOf T t := Fin.ext (coords_vals t).1
  rw [e]; rfl

theorem colIndex_used (t : Fin (cfgT (F := Ideal) T).N) (hu : t.val / 7 < T.used) : colIndex T (crd (F := Ideal) T t) = t.val % 7 := by
  have e0 : ((crd (F := Ideal) T t) 0).val = t.val / 7 := (coords_vals t).1
  have e1 : ((crd (F := Ideal) T t) 1).val = t.val % 7 := (coords_vals t).2
  unfold colIndex
  rw [e0, e1, if_pos hu]

/-- The gate's column block: the tile's expert, the point's 512 hidden units. -/
theorem blk_gate (c : Dev nD) (t : Fin (cfgT (F := Ideal) T).N) (hu : t.val / 7 < T.used) (k : Fin 1024) (l : Fin 512) :
    @Eq EReal (iblk T m ρ c (1 : Fin 5) t (ix4 0 0 k l : S1x1x1024x512.Idx))
      (m ((c : Thread nD τ).loc main_arg3) (ix4 (1 : Fin 2) (T.expert (tileOf T t)) k (⟨512 * (t.val % 7) + l.val, by omega⟩ : Fin 3584))) := by
  have e := gate_index (F := Ideal) T (crd (F := Ideal) T t)
  rw [colIndex_used T t hu, expert_used T t] at e
  unfold iblk
  show m ((c : Thread nD τ).loc main_arg3) ((((cfgT (F := Ideal) T).win (1 : Fin 5)).rect t).emb (ix4 0 0 k l : S1x1x1024x512.Idx)) = _
  congr 1
  funext a
  apply Fin.ext
  rw [Pipeline.Window.rect_emb_val ((cfgT (F := Ideal) T).win (1 : Fin 5)) _ _ _ rfl]
  match a with
  | ⟨0, _⟩ => have e0 : ((cfgT (F := Ideal) T).win (1 : Fin 5)).index t 0 = 1 := congrFun e 0
              show ((cfgT (F := Ideal) T).win (1 : Fin 5)).index t 0 * 1 + 0 = 1; rw [e0]
  | ⟨1, _⟩ => have e1 : ((cfgT (F := Ideal) T).win (1 : Fin 5)).index t 1 = (T.expert (tileOf T t)).val := congrFun e 1
              show ((cfgT (F := Ideal) T).win (1 : Fin 5)).index t 1 * 1 + 0 = (T.expert (tileOf T t)).val; rw [e1]; omega
  | ⟨2, _⟩ => have e2 : ((cfgT (F := Ideal) T).win (1 : Fin 5)).index t 2 = 0 := congrFun e 2
              show ((cfgT (F := Ideal) T).win (1 : Fin 5)).index t 2 * 1024 + k.val = k.val; rw [e2]; omega
  | ⟨3, _⟩ => have e3 : ((cfgT (F := Ideal) T).win (1 : Fin 5)).index t 3 = t.val % 7 := congrFun e 3
              show ((cfgT (F := Ideal) T).win (1 : Fin 5)).index t 3 * 512 + l.val = 512 * (t.val % 7) + l.val; rw [e3]; omega

/-- The other column block, likewise. -/
theorem blk_up (c : Dev nD) (t : Fin (cfgT (F := Ideal) T).N) (hu : t.val / 7 < T.used) (k : Fin 1024) (l : Fin 512) :
    @Eq EReal (iblk T m ρ c (2 : Fin 5) t (ix4 0 0 k l : S1x1x1024x512.Idx))
      (m ((c : Thread nD τ).loc main_arg4) (ix4 (1 : Fin 2) (T.expert (tileOf T t)) k (⟨512 * (t.val % 7) + l.val, by omega⟩ : Fin 3584))) := by
  have e := up_index (F := Ideal) T (crd (F := Ideal) T t)
  rw [colIndex_used T t hu, expert_used T t] at e
  unfold iblk
  show m ((c : Thread nD τ).loc main_arg4) ((((cfgT (F := Ideal) T).win (2 : Fin 5)).rect t).emb (ix4 0 0 k l : S1x1x1024x512.Idx)) = _
  congr 1
  funext a
  apply Fin.ext
  rw [Pipeline.Window.rect_emb_val ((cfgT (F := Ideal) T).win (2 : Fin 5)) _ _ _ rfl]
  match a with
  | ⟨0, _⟩ => have e0 : ((cfgT (F := Ideal) T).win (2 : Fin 5)).index t 0 = 1 := congrFun e 0
              show ((cfgT (F := Ideal) T).win (2 : Fin 5)).index t 0 * 1 + 0 = 1; rw [e0]
  | ⟨1, _⟩ => have e1 : ((cfgT (F := Ideal) T).win (2 : Fin 5)).index t 1 = (T.expert (tileOf T t)).val := congrFun e 1
              show ((cfgT (F := Ideal) T).win (2 : Fin 5)).index t 1 * 1 + 0 = (T.expert (tileOf T t)).val; rw [e1]; omega
  | ⟨2, _⟩ => have e2 : ((cfgT (F := Ideal) T).win (2 : Fin 5)).index t 2 = 0 := congrFun e 2
              show ((cfgT (F := Ideal) T).win (2 : Fin 5)).index t 2 * 1024 + k.val = k.val; rw [e2]; omega
  | ⟨3, _⟩ => have e3 : ((cfgT (F := Ideal) T).win (2 : Fin 5)).index t 3 = t.val % 7 := congrFun e 3
              show ((cfgT (F := Ideal) T).win (2 : Fin 5)).index t 3 * 512 + l.val = 512 * (t.val % 7) + l.val; rw [e3]; omega

/-- The row block of the third weight, likewise. -/
theorem blk_down (c : Dev nD) (t : Fin (cfgT (F := Ideal) T).N) (hu : t.val / 7 < T.used) (l : Fin 512) (d : Fin 1024) :
    @Eq EReal (iblk T m ρ c (3 : Fin 5) t (ix4 0 0 l d : S1x1x512x1024.Idx))
      (m ((c : Thread nD τ).loc main_arg5) (ix4 (1 : Fin 2) (T.expert (tileOf T t)) (⟨512 * (t.val % 7) + l.val, by omega⟩ : Fin 3584) d)) := by
  have e := down_index (F := Ideal) T (crd (F := Ideal) T t)
  rw [colIndex_used T t hu, expert_used T t] at e
  unfold iblk
  show m ((c : Thread nD τ).loc main_arg5) ((((cfgT (F := Ideal) T).win (3 : Fin 5)).rect t).emb (ix4 0 0 l d : S1x1x512x1024.Idx)) = _
  congr 1
  funext a
  apply Fin.ext
  rw [Pipeline.Window.rect_emb_val ((cfgT (F := Ideal) T).win (3 : Fin 5)) _ _ _ rfl]
  match a with
  | ⟨0, _⟩ => have e0 : ((cfgT (F := Ideal) T).win (3 : Fin 5)).index t 0 = 1 := congrFun e 0
              show ((cfgT (F := Ideal) T).win (3 : Fin 5)).index t 0 * 1 + 0 = 1; rw [e0]
  | ⟨1, _⟩ => have e1 : ((cfgT (F := Ideal) T).win (3 : Fin 5)).index t 1 = (T.expert (tileOf T t)).val := congrFun e 1
              show ((cfgT (F := Ideal) T).win (3 : Fin 5)).index t 1 * 1 + 0 = (T.expert (tileOf T t)).val; rw [e1]; omega
  | ⟨2, _⟩ => have e2 : ((cfgT (F := Ideal) T).win (3 : Fin 5)).index t 2 = t.val % 7 := congrFun e 2
              show ((cfgT (F := Ideal) T).win (3 : Fin 5)).index t 2 * 512 + l.val = 512 * (t.val % 7) + l.val; rw [e2]; omega
  | ⟨3, _⟩ => have e3 : ((cfgT (F := Ideal) T).win (3 : Fin 5)).index t 3 = 0 := congrFun e 3
              show ((cfgT (F := Ideal) T).win (3 : Fin 5)).index t 3 * 1024 + d.val = d.val; rw [e3]; omega

theorem index_out : ∀ t : Fin grid0.N, cc0_transform_4 (grid0.coords t) = ![t.val / 7, 0] := by decide +kernel

/-- The result's block: the tile's rows. -/
theorem emb_out (t : Fin (cfgT (F := Ideal) T).N) (r d : Fin 1024) :
    (((cfgT (F := Ideal) T).win (4 : Fin 5)).blk t).view.emb (ix2 r d : S1024x1024.Idx)
      = (ix2 (⟨1024 * (t.val / 7) + r.val, by have := lt_280 T t; omega⟩ : Fin 40960) d : S40960x1024.Idx) := by
  have e := index_out t
  show (((cfgT (F := Ideal) T).win (4 : Fin 5)).rect t).emb (ix2 r d : S1024x1024.Idx) = _
  funext a
  apply Fin.ext
  rw [Pipeline.Window.rect_emb_val ((cfgT (F := Ideal) T).win (4 : Fin 5)) _ _ _ rfl]
  match a with
  | ⟨0, _⟩ => have e0 : ((cfgT (F := Ideal) T).win (4 : Fin 5)).index t 0 = t.val / 7 := congrFun e 0
              show ((cfgT (F := Ideal) T).win (4 : Fin 5)).index t 0 * 1024 + r.val = 1024 * (t.val / 7) + r.val; rw [e0]; omega
  | ⟨1, _⟩ => have e1 : ((cfgT (F := Ideal) T).win (4 : Fin 5)).index t 1 = 0 := congrFun e 1
              show ((cfgT (F := Ideal) T).win (4 : Fin 5)).index t 1 * 1024 + d.val = d.val; rw [e1]; omega

/-- The last point of a row's tile. -/
def lastOf (r : Fin 40960) : Fin (cfgT (F := Ideal) T).N :=
  ⟨7 * (r.val / 1024) + 6, lt_of_lt_of_eq (by omega : 7 * (r.val / 1024) + 6 < 280) N_0.symm⟩

/-- Every element of the result lies in a block that is written back. -/
theorem covered (i : S40960x1024.Idx) : ∃ t : Fin (cfgT (F := Ideal) T).N, ((cfgT (F := Ideal) T).win (4 : Fin 5)).flush t = true ∧ i ∈ (((cfgT (F := Ideal) T).win (4 : Fin 5)).blk t).view.set := by
  obtain ⟨r, d, rfl⟩ : ∃ (r : Fin 40960) (d : Fin 1024), i = ix2 r d := ⟨i 0, i 1, eq_ix2 i⟩
  refine ⟨lastOf T r, ?_, ?_⟩
  · rw [flush_eq]; exact decide_eq_true (by show (7 * (r.val / 1024) + 6) % 7 = 6; omega)
  · have e := emb_out T (lastOf T r) (⟨r.val % 1024, by omega⟩ : Fin 1024) d
    have hr : (⟨1024 * ((lastOf T r).val / 7) + r.val % 1024, by have := lt_280 T (lastOf T r); omega⟩ : Fin 40960) = r :=
      Fin.ext (by show 1024 * ((7 * (r.val / 1024) + 6) / 7) + r.val % 1024 = r.val; omega)
    rw [hr] at e
    rw [← e]
    exact View.emb_mem_set _ _

end Cert.Kernel4Ideal.Experts

end
-- ==== Proof.LatentsPay.lean ====
/- The second routed layer's experts, on the latents alone. The body's payloads at an index: the kept rows, the cleared block, and the block increased by a column block's product. -/
module

public import proofs.«01_k».proof.Proof.ExpertsMath
public import proofs.«01_k».proof.Proof.Gen.Kernel4Ideal.Skeleton
public import Idealize.ShloMosaic.Lib.Pointwise

@[expose] public section

set_option maxRecDepth 16384

noncomputable section

open Idealize.ShloMosaic Idealize.ShloMosaic.TcCoe

namespace Cert.Kernel4Ideal.Experts

open Cert.Kernel4Ideal Cert.Kernel4Ideal.Gen

/-- The kept rows are the rows. -/
theorem pay1_apply (x : S1024x1024.Idx → EReal) (r k : Fin 1024) : @Eq EReal (k0_pay1 (F := Ideal) x (ix2 r k)) (x (ix2 r k)) := by
  pointwise [k0_pay1]

/-- The cleared block is zero. -/
theorem pay2_apply (r d : Fin 1024) : @Eq EReal (k0_pay2 (F := Ideal) (ix2 r d)) 0 := by
  pointwise [k0_pay2]

/-- A column block's product, added to the block. -/
theorem pay3_apply (wg wu : S1x1x1024x512.Idx → EReal) (wd : S1x1x512x1024.Idx → EReal) (x o : S1024x1024.Idx → EReal) (r d : Fin 1024) :
    @Eq EReal (k0_pay3 (F := Ideal) wg wu wd x o (ix2 r d))
      (o (ix2 r d) + ∑ l : Fin 512, Cert.Experts.hidden (fun k => x (ix2 r k)) (fun k => wg (ix4 0 0 k l)) (fun k => wu (ix4 0 0 k l)) * wd (ix4 0 0 l d)) := by
  pointwise [k0_pay3]
  unfold Cert.Experts.hidden Cert.Experts.silu
  simp only [zero_sub]

end Cert.Kernel4Ideal.Experts

end
-- ==== Proof.LatentsValue.lean ====
/- The second routed layer's experts, on the latents alone. The result of the experts' call at every index: in a tile in use the row through the tile's expert, its seven column blocks added up
   point by point; zero in the other tiles. -/
module

public import proofs.«01_k».proof.Proof.LatentsBlocks
public import proofs.«01_k».proof.Proof.LatentsPay
public import Idealize.ShloMosaic.Lib.Pipeline.ValueKit.Geometry

@[expose] public section

set_option maxRecDepth 16384

noncomputable section

namespace Cert.Kernel4Ideal.Experts

open Cert.Kernel4Ideal Cert.Kernel4Ideal.Gen
open Idealize.ShloMosaic Idealize.ShloMosaic.TcCoe

variable (T : Tables) (m : (ℓ : Loc nD τ sig) → Buf (Elt Ideal) ℓ) (ρ : Dev nD → PrngReg)

/-- The rows of tile `i`. -/
def rowsAt (c : Dev nD) (i : Fin 40) (r k : Fin 1024) : EReal :=
  m ((c : Thread nD τ).loc main_arg2) (ix2 (⟨1024 * i.val + r.val, by omega⟩ : Fin 40960) k)

/-- What hidden unit `f` of tile `i`'s expert adds to the result at row `r` of the tile and column `d`. -/
def share (c : Dev nD) (i : Fin 40) (r d : Fin 1024) (f : Fin 3584) : EReal :=
  Cert.Experts.hidden (rowsAt m c i r) (fun k => m ((c : Thread nD τ).loc main_arg3) (ix4 (1 : Fin 2) (T.expert i) k f))
    (fun k => m ((c : Thread nD τ).loc main_arg4) (ix4 (1 : Fin 2) (T.expert i) k f)) * (m ((c : Thread nD τ).loc main_arg5) (ix4 (1 : Fin 2) (T.expert i) f d) : EReal)

/-- What column block `s` adds. -/
def part (c : Dev nD) (i : Fin 40) (r d : Fin 1024) (s : ℕ) : EReal :=
  ∑ l : Fin 512, if h : s < 7 then share T m c i r d ⟨512 * s + l.val, by omega⟩ else 0

/-- The seven column blocks add up to all hidden units. -/
theorem sum_parts (c : Dev nD) (i : Fin 40) (r d : Fin 1024) : ∑ s ∈ Finset.range 7, part T m c i r d s = ∑ f : Fin 3584, share T m c i r d f := by
  rw [Cert.Experts.sum_blocks, Finset.sum_range]
  refine Finset.sum_congr rfl fun j _ => Finset.sum_congr rfl fun l _ => ?_
  rw [dif_pos j.isLt]

/-- One point of a tile in use adds its column block, the scratch buffer holding the tile's rows. -/
theorem pay3_part (c : Dev nD) (t : Fin (cfgT (F := Ideal) T).N) (hu : t.val / 7 < T.used) (s o : S1024x1024.Idx → EReal)
    (hs : ∀ r k, s (ix2 r k) = rowsAt m c (tileOf T t) r k) (r d : Fin 1024) :
    @Eq EReal (k0_pay3 (F := Ideal) (iblk T m ρ c (1 : Fin 5) t) (iblk T m ρ c (2 : Fin 5) t) (iblk T m ρ c (3 : Fin 5) t) s o (ix2 r d))
      (o (ix2 r d) + part T m c (tileOf T t) r d (t.val % 7)) := by
  have h7 : t.val % 7 < 7 := Nat.mod_lt _ (by decide)
  refine (pay3_apply _ _ _ s o r d).trans (congrArg (fun x : EReal => o (ix2 r d) + x) ?_)
  refine Finset.sum_congr rfl fun l _ => ?_
  rw [dif_pos h7]
  unfold share
  refine congrArg₂ (fun a b : EReal => a * b) ?_ (blk_down T m ρ c t hu l d)
  congr 1
  · exact funext fun k => hs r k
  · exact funext fun k => blk_gate T m ρ c t hu k l
  · exact funext fun k => blk_up T m ρ c t hu k l

/-- What a tile's first point leaves, the tile in use. -/
theorem step_first (c : Dev nD) (t : Fin (cfgT (F := Ideal) T).N) (h0 : t.val % 7 = 0) (hu : t.val / 7 < T.used) (p : State Ideal) :
    step T m ρ c t p = (k0_pay3 (iblk T m ρ c (1 : Fin 5) t) (iblk T m ρ c (2 : Fin 5) t) (iblk T m ρ c (3 : Fin 5) t) (k0_pay1 (iblk T m ρ c (0 : Fin 5) t)) (k0_pay2 (F := Ideal)),
      k0_pay1 (iblk T m ρ c (0 : Fin 5) t)) := by
  unfold step outAfter keptAfter
  rw [if_pos ((inUse_iff T t).2 hu), if_pos ((isFirst_iff T t).2 h0), if_pos ((isFirst_iff T t).2 h0)]

/-- What a later point leaves, the tile in use. -/
theorem step_later (c : Dev nD) (t : Fin (cfgT (F := Ideal) T).N) (h0 : ¬t.val % 7 = 0) (hu : t.val / 7 < T.used) (p : State Ideal) :
    step T m ρ c t p = (k0_pay3 (iblk T m ρ c (1 : Fin 5) t) (iblk T m ρ c (2 : Fin 5) t) (iblk T m ρ c (3 : Fin 5) t) p.2 p.1, p.2) := by
  unfold step outAfter keptAfter
  rw [if_pos ((inUse_iff T t).2 hu), if_neg (fun h => h0 ((isFirst_iff T t).1 h)), if_neg (fun h => h0 ((isFirst_iff T t).1 h))]

/-- What a point leaves in the output block, the tile not in use. -/
theorem step_unused (c : Dev nD) (t : Fin (cfgT (F := Ideal) T).N) (hu : ¬t.val / 7 < T.used) (p : State Ideal) :
    (step T m ρ c t p).1 = if t.val % 7 = 0 then k0_pay2 (F := Ideal) else p.1 := by
  unfold step outAfter
  rw [if_neg (fun h => hu ((inUse_iff T t).1 h))]
  by_cases h0 : t.val % 7 = 0
  · rw [if_pos ((isFirst_iff T t).2 h0), if_pos h0]
  · rw [if_neg (fun h => h0 ((isFirst_iff T t).1 h)), if_neg h0]

/-- After each point of a tile in use the scratch buffer holds the tile's rows, and the output block the sum of the column blocks so far. -/
theorem after_used (c : Dev nD) : ∀ (n : ℕ) (h : n < (cfgT (F := Ideal) T).N), n / 7 < T.used →
    (∀ r k : Fin 1024, @Eq EReal ((traj T m ρ c n h).2 (ix2 r k)) (rowsAt m c (tileOf T ⟨n, h⟩) r k))
      ∧ ∀ r d : Fin 1024, @Eq EReal ((traj T m ρ c n h).1 (ix2 r d)) (∑ s ∈ Finset.range (n % 7 + 1), part T m c (tileOf T ⟨n, h⟩) r d s) := by
  have first (n : ℕ) (h : n < (cfgT (F := Ideal) T).N) (hu : n / 7 < T.used) (h0 : n % 7 = 0) :
      (∀ r k : Fin 1024, @Eq EReal ((traj T m ρ c n h).2 (ix2 r k)) (rowsAt m c (tileOf T ⟨n, h⟩) r k))
      ∧ ∀ r d : Fin 1024, @Eq EReal ((traj T m ρ c n h).1 (ix2 r d)) (∑ s ∈ Finset.range (n % 7 + 1), part T m c (tileOf T ⟨n, h⟩) r d s) := by
    have hk (r k : Fin 1024) : @Eq EReal (k0_pay1 (F := Ideal) (iblk T m ρ c (0 : Fin 5) ⟨n, h⟩) (ix2 r k)) (rowsAt m c (tileOf T ⟨n, h⟩) r k) :=
      (pay1_apply _ r k).trans (blk_x T m ρ c ⟨n, h⟩ hu r k)
    rw [show traj T m ρ c n h = _ from traj_eq T m ρ c ⟨n, h⟩, step_first T m ρ c ⟨n, h⟩ h0 hu]
    refine ⟨hk, fun r d => (pay3_part T m ρ c ⟨n, h⟩ hu _ _ hk r d).trans ?_⟩
    rw [pay2_apply, zero_add, h0, Finset.sum_range_one]
  intro n
  induction n with
  | zero => exact fun h hu => first 0 h hu rfl
  | succ n ih =>
    intro h hu
    by_cases h0 : (n + 1) % 7 = 0
    · exact first (n + 1) h hu h0
    · have hd : n / 7 = (n + 1) / 7 := by omega
      have hm : n % 7 + 1 = (n + 1) % 7 := by omega
      have ht : tileOf T ⟨n, Nat.lt_of_succ_lt h⟩ = tileOf T ⟨n + 1, h⟩ := Fin.ext hd
      obtain ⟨i1, i2⟩ := ih (Nat.lt_of_succ_lt h) (by omega)
      rw [ht] at i1
      simp only [ht] at i2
      rw [show traj T m ρ c (n + 1) h = step T m ρ c ⟨n + 1, h⟩ (traj T m ρ c n (Nat.lt_of_succ_lt h)) from rfl, step_later T m ρ c ⟨n + 1, h⟩ h0 hu]
      refine ⟨i1, fun r d => (pay3_part T m ρ c ⟨n + 1, h⟩ hu _ _ i1 r d).trans ?_⟩
      rw [Finset.sum_range_succ, ← hm]
      exact congrArg₂ (fun a b : EReal => a + b) (i2 r d) rfl

/-- After each point of a tile not in use the output block is zero. -/
theorem after_unused (c : Dev nD) : ∀ (n : ℕ) (h : n < (cfgT (F := Ideal) T).N), ¬n / 7 < T.used →
    ∀ r d : Fin 1024, @Eq EReal ((traj T m ρ c n h).1 (ix2 r d)) 0 := by
  intro n
  induction n with
  | zero => exact fun h hu => absurd T.used_pos (by omega)
  | succ n ih =>
    intro h hu r d
    rw [show traj T m ρ c (n + 1) h = step T m ρ c ⟨n + 1, h⟩ (traj T m ρ c n (Nat.lt_of_succ_lt h)) from rfl, step_unused T m ρ c ⟨n + 1, h⟩ hu]
    split
    case isTrue h0 => exact pay2_apply r d
    case isFalse h0 =>
      have h0' : ¬(n + 1) % 7 = 0 := h0
      exact ih (Nat.lt_of_succ_lt h) (by omega) r d

/-- The result at row `r` and column `d`. -/
def result (c : Dev nD) (r : Fin 40960) (d : Fin 1024) : EReal :=
  if r.val / 1024 < T.used then ∑ f : Fin 3584, share T m c ⟨r.val / 1024, by omega⟩ ⟨r.val % 1024, by omega⟩ d f else 0

/-- The call's result array. -/
theorem arr_result (c : Dev nD) : (dats T m ρ 0 c).arrAt (4 : Fin 5) (cfgT (F := Ideal) T).N = (fun i : S40960x1024.Idx => result T m c (i 0) (i 1)) := by
  refine (dats T m ρ 0 c).arrAt_eq_of_emb (4 : Fin 5) _ (fun t hf y => ?_) (covered T)
  obtain ⟨r, d, rfl⟩ : ∃ r d : Fin 1024, y = (ix2 r d : S1024x1024.Idx) := ⟨y 0, y 1, eq_ix2 y⟩
  have h6 : t.val % 7 = 6 := by rw [flush_eq] at hf; exact of_decide_eq_true hf
  rw [emb_out]
  show @Eq EReal ((traj T m ρ c t.val t.isLt).1 (ix2 r d : S1024x1024.Idx)) (result T m c ⟨1024 * (t.val / 7) + r.val, by have := lt_280 T t; omega⟩ d)
  have e1 : (⟨(1024 * (t.val / 7) + r.val) / 1024, by have := lt_280 T t; omega⟩ : Fin 40) = tileOf T t :=
    Fin.ext (by show (1024 * (t.val / 7) + r.val) / 1024 = t.val / 7; omega)
  have e2 : (⟨(1024 * (t.val / 7) + r.val) % 1024, by omega⟩ : Fin 1024) = r :=
    Fin.ext (by show (1024 * (t.val / 7) + r.val) % 1024 = r.val; omega)
  have e3 : (1024 * (t.val / 7) + r.val) / 1024 = t.val / 7 := by omega
  unfold result
  simp only [e1, e2, e3]
  split
  case isTrue hu =>
    refine ((after_used T m ρ c t.val t.isLt hu).2 r d).trans ?_
    rw [h6]; exact sum_parts T m c (tileOf T t) r d
  case isFalse hu => exact after_unused T m ρ c t.val t.isLt hu r d

end Cert.Kernel4Ideal.Experts

end
-- ==== Proof.LatentsRef.lean ====
/- The second routed layer's experts, on the latents alone. The reference's result at an index: the row through its tile's expert where the tile is in use, zero elsewhere. -/
module

public import proofs.«01_k».proof.Proof.Gen.Reference4Ideal.Read
public import proofs.«01_k».proof.Proof.ExpertsMath
public import proofs.«01_k».proof.Proof.LatentsTables
public import Idealize.ShloMosaic.Lib.Pointwise

@[expose] public section

set_option maxRecDepth 16384

noncomputable section

open Idealize.ShloMosaic Idealize.ShloMosaic.TcCoe

namespace Cert.Reference4Ideal.Experts

open Cert.Reference4Ideal Cert.Reference4Ideal.Gen Cert.Reference4Ideal.Read
open Cert.Kernel4Ideal.Experts (Tables)

/-- A row through expert `e`, at a column of the result. -/
def expertOut (x2 : (⟨S40960x1024, .f32⟩ : BufTy).Contents (Elt Ideal)) (x3 x4 : (⟨S2x8x1024x3584, .f32⟩ : BufTy).Contents (Elt Ideal))
    (x5 : (⟨S2x8x3584x1024, .f32⟩ : BufTy).Contents (Elt Ideal)) (e : Fin 8) (r : Fin 40960) (d : Fin 1024) : EReal :=
  ∑ f : Fin 3584, Cert.Experts.hidden (fun k => x2 (ix2 r k)) (fun k => x3 (ix4 1 e k f)) (fun k => x4 (ix4 1 e k f)) * x5 (ix4 1 e f d)

/-- The gated unit's network on all rows, as the reference's operations spell it. -/
def swiglu (x : (⟨S40960x1024, .f32⟩ : BufTy).Contents (Elt Ideal)) (a b : (⟨S1024x3584, .f32⟩ : BufTy).Contents (Elt Ideal))
    (w : (⟨S3584x1024, .f32⟩ : BufTy).Contents (Elt Ideal)) : (⟨S40960x1024, .f32⟩ : BufTy).Contents (Elt Ideal) :=
  Host.dotGeneral (F := Ideal) (φ₁ := .f32) (φ₂ := .f32) dot_S40960x3584_S3584x1024_S40960x1024_1_0_0_1_n_n none
    (mulf (mulf (Host.dotGeneral (F := Ideal) (φ₁ := .f32) (φ₂ := .f32) dot_S40960x1024_S1024x3584_S40960x3584_1_0_0_1_n_n none x a)
        (Host.divf (val_main_call0_v4 (F := Ideal)) (addf (val_main_call0_v2 (F := Ideal))
          (Host.exp (Host.negf (Host.dotGeneral (F := Ideal) (φ₁ := .f32) (φ₂ := .f32) dot_S40960x1024_S1024x3584_S40960x3584_1_0_0_1_n_n none x a))))))
      (Host.dotGeneral (F := Ideal) (φ₁ := .f32) (φ₂ := .f32) dot_S40960x1024_S1024x3584_S40960x3584_1_0_0_1_n_n none x b)) w

theorem swiglu_apply (x : (⟨S40960x1024, .f32⟩ : BufTy).Contents (Elt Ideal)) (a b : (⟨S1024x3584, .f32⟩ : BufTy).Contents (Elt Ideal))
    (w : (⟨S3584x1024, .f32⟩ : BufTy).Contents (Elt Ideal)) (r : Fin 40960) (d : Fin 1024) :
    @Eq EReal (swiglu x a b w (ix2 r d))
      (∑ f : Fin 3584, Cert.Experts.hidden (fun k => x (ix2 r k)) (fun k => a (ix2 k f)) (fun k => b (ix2 k f)) * w (ix2 f d)) := by
  unfold Cert.Experts.hidden
  simp only [← Cert.Experts.silu_eq]
  pointwise [swiglu, val_main_call0_v4, val_main_call0_v2, val_main_call0_cst, val_main_call0_cst_0]

/-- Expert `e`'s columns of the first two weights, at an index. -/
theorem columns_apply (e : Fin 8) (h : S8x1024x3584.Slices ![e.val, 0, 0] S1x1024x3584) (y : S8x1024x3584.Idx → EReal) (k : Fin 1024) (f : Fin 3584) :
    shapeCast S1024x3584 (extractStridedSlice S1x1024x3584 ![e.val, 0, 0] y h) shapeCasts_S1x1024x3584_S1024x3584 (ix2 k f) = y (ix3 e k f) := by
  refine (shapeCast_apply _ _ (ix2 k f) (ix3 (0 : Fin 1) k f) ?_).trans (extractStridedSlice_apply _ y h _ (ix3 e k f) fun a => ?_)
  · rewrite [Shape.rowMajor_val_three, Shape.rowMajor_val_two]
    show (0 * 1024 + k.val) * 3584 + f.val = k.val * 3584 + f.val; omega
  · match a with
    | ⟨0, _⟩ => show e.val = e.val + 0; omega
    | ⟨1, _⟩ => show k.val = 0 + k.val; omega
    | ⟨2, _⟩ => show f.val = 0 + f.val; omega

/-- Expert `e`'s rows of the third weight, at an index. -/
theorem rows_apply (e : Fin 8) (h : S8x3584x1024.Slices ![e.val, 0, 0] S1x3584x1024) (y : S8x3584x1024.Idx → EReal) (f : Fin 3584) (d : Fin 1024) :
    shapeCast S3584x1024 (extractStridedSlice S1x3584x1024 ![e.val, 0, 0] y h) shapeCasts_S1x3584x1024_S3584x1024 (ix2 f d) = y (ix3 e f d) := by
  refine (shapeCast_apply _ _ (ix2 f d) (ix3 (0 : Fin 1) f d) ?_).trans (extractStridedSlice_apply _ y h _ (ix3 e f d) fun a => ?_)
  · rewrite [Shape.rowMajor_val_three, Shape.rowMajor_val_two]
    show (0 * 3584 + f.val) * 1024 + d.val = f.val * 1024 + d.val; omega
  · match a with
    | ⟨0, _⟩ => show e.val = e.val + 0; omega
    | ⟨1, _⟩ => show f.val = 0 + f.val; omega
    | ⟨2, _⟩ => show d.val = 0 + d.val; omega

/-- The second layer's weights, at an index. -/
theorem second_gate (x3 : (⟨S2x8x1024x3584, .f32⟩ : BufTy).Contents (Elt Ideal)) (e : Fin 8) (k : Fin 1024) (f : Fin 3584) :
    @Eq EReal (val_main_v18 (F := Ideal) x3 (ix3 e k f)) (x3 (ix4 1 e k f)) := by
  rw [val_main_v18_apply, val_main_v17_apply]
  refine congrArg x3 (funext fun a => Fin.ext ?_)
  match a with
  | ⟨0, _⟩ => rfl
  | ⟨1, _⟩ => show ((e.val * 1024 + k.val) * 3584 + f.val) / 3670016 % 8 = e.val; omega
  | ⟨2, _⟩ => show ((e.val * 1024 + k.val) * 3584 + f.val) / 3584 % 1024 = k.val; omega
  | ⟨3, _⟩ => show ((e.val * 1024 + k.val) * 3584 + f.val) % 3584 = f.val; omega
theorem second_up (x4 : (⟨S2x8x1024x3584, .f32⟩ : BufTy).Contents (Elt Ideal)) (e : Fin 8) (k : Fin 1024) (f : Fin 3584) :
    @Eq EReal (val_main_v20 (F := Ideal) x4 (ix3 e k f)) (x4 (ix4 1 e k f)) := by
  rw [val_main_v20_apply, val_main_v19_apply]
  refine congrArg x4 (funext fun a => Fin.ext ?_)
  match a with
  | ⟨0, _⟩ => rfl
  | ⟨1, _⟩ => show ((e.val * 1024 + k.val) * 3584 + f.val) / 3670016 % 8 = e.val; omega
  | ⟨2, _⟩ => show ((e.val * 1024 + k.val) * 3584 + f.val) / 3584 % 1024 = k.val; omega
  | ⟨3, _⟩ => show ((e.val * 1024 + k.val) * 3584 + f.val) % 3584 = f.val; omega
theorem second_down (x5 : (⟨S2x8x3584x1024, .f32⟩ : BufTy).Contents (Elt Ideal)) (e : Fin 8) (f : Fin 3584) (d : Fin 1024) :
    @Eq EReal (val_main_v22 (F := Ideal) x5 (ix3 e f d)) (x5 (ix4 1 e f d)) := by
  rw [val_main_v22_apply, val_main_v21_apply]
  refine congrArg x5 (funext fun a => Fin.ext ?_)
  match a with
  | ⟨0, _⟩ => rfl
  | ⟨1, _⟩ => show ((e.val * 3584 + f.val) * 1024 + d.val) / 3670016 % 8 = e.val; omega
  | ⟨2, _⟩ => show ((e.val * 3584 + f.val) * 1024 + d.val) / 1024 % 3584 = f.val; omega
  | ⟨3, _⟩ => show ((e.val * 3584 + f.val) * 1024 + d.val) % 1024 = d.val; omega

/-- A row's gate for expert `e`: one where its tile is in use and the tile's expert is `e`, else zero. -/
theorem gate_apply (T : Tables) (r : Fin 40960) (e : Fin 8) :
    @Eq EReal (val_main_v16 (F := Ideal) T.te T.nu (ix2 r e))
      (if e = T.expert ⟨r.val / 1024, by omega⟩ ∧ r.val / 1024 < T.used then 1 else 0) := by
  have hr : r.val / 1024 < 40 := by omega
  have h1 := T.used_lt
  have ht := T.te_lt (ix1 (⟨r.val / 1024, hr⟩ : Fin 40))
  rw [val_main_v16_apply, val_main_v15_apply, val_main_v13_apply, val_main_v14_apply, val_main_v11_apply, val_main_v12_apply, val_main_v10_apply,
    val_main_v9_apply, val_main_v8_apply, val_main_v7_apply, val_main_v6_apply, val_main_v5_apply, val_main_v4_apply, val_main_v3_apply, val_main_v2_apply,
    val_main_v1_apply, val_main_v0_apply]
  have ea : idx_main_v6 (idx_main_v7 (idx_main_v8 (idx_main_v11 (ix2 r e)))) = ix1 (⟨r.val / 1024, hr⟩ : Fin 40) := by
    funext a; match a with
    | ⟨0, _⟩ => exact Fin.ext (by show (r.val * 1 + 0) / 1024 = r.val / 1024; omega)
  have eb : idx_main_v3 (idx_main_v4 (idx_main_v5 (idx_main_v14 (ix2 r e)))) = ix1 (⟨r.val / 1024, hr⟩ : Fin 40) := by
    funext a; match a with
    | ⟨0, _⟩ => exact Fin.ext (by show (r.val * 1 + 0) / 1024 = r.val / 1024; omega)
  rw [ea, eb]
  have en : T.nu (idx_main_v1 (ix1 (⟨r.val / 1024, hr⟩ : Fin 40))) = T.nu (ix1 0) := congrArg T.nu (Cert.Kernel4Ideal.Experts.idx1_eq _)
  rw [en]
  have e1 : IntOp.cmpi .slt (BitVec.ofNat 32 (r.val / 1024)) (T.nu (ix1 0)) = BitVec.ofBool (decide (r.val / 1024 < T.used)) := by
    have h0 : (BitVec.ofNat 32 (r.val / 1024)).toNat = r.val / 1024 := by simp only [BitVec.toNat_ofNat]; omega
    rw [WordCmp.cmpi_slt_of_lt (by rw [h0]; omega) (by show T.used < _; omega), h0]; rfl
  have e2 : IntOp.cmpi .eq (T.te (ix1 (⟨r.val / 1024, hr⟩ : Fin 40))) (BitVec.ofNat 32 e.val) = BitVec.ofBool (decide (e = T.expert ⟨r.val / 1024, hr⟩)) := by
    show BitVec.ofBool (_ == _) = _
    congr 1
    rw [Bool.eq_iff_iff, beq_iff_eq, decide_eq_true_iff, ← BitVec.toNat_inj, Fin.ext_iff]
    have : (BitVec.ofNat 32 e.val).toNat = e.val := by simp only [BitVec.toNat_ofNat]; omega
    rw [this]; exact eq_comm
  show @Eq EReal ((((IntOp.andi (IntOp.cmpi .eq (T.te (ix1 (⟨r.val / 1024, hr⟩ : Fin 40))) (BitVec.ofNat 32 e.val)) (IntOp.cmpi .slt (BitVec.ofNat 32 (r.val / 1024)) (T.nu (ix1 0)))).toNat : ℝ) : EReal)) _
  rw [e1, e2]
  by_cases h2 : e = T.expert ⟨r.val / 1024, hr⟩ <;> by_cases h3 : r.val / 1024 < T.used <;> simp [h2, h3, IntOp.andi]

/-- One term of the reference's sum: the rows through expert `e`, gated. -/
def term (x0 : (⟨S40, .i32⟩ : BufTy).Contents (Elt Ideal)) (x1 : (⟨S1, .i32⟩ : BufTy).Contents (Elt Ideal)) (x2 : (⟨S40960x1024, .f32⟩ : BufTy).Contents (Elt Ideal))
    (x3 x4 : (⟨S2x8x1024x3584, .f32⟩ : BufTy).Contents (Elt Ideal)) (x5 : (⟨S2x8x3584x1024, .f32⟩ : BufTy).Contents (Elt Ideal)) (e : ℕ)
    (h : S40960x8.Slices ![0, e] S40960x1) (hc : S8x1024x3584.Slices ![e, 0, 0] S1x1024x3584) (hr : S8x3584x1024.Slices ![e, 0, 0] S1x3584x1024) :
    (⟨S40960x1024, .f32⟩ : BufTy).Contents (Elt Ideal) :=
  mulf (φ := .f32) (F := Ideal) (broadcastInDim S40960x1024 ![0, 1] bcast_S40960x1_S40960x1024_0_1 (extractStridedSlice S40960x1 ![0, e] (val_main_v16 (F := Ideal) x0 x1) h))
    (swiglu x2 (shapeCast S1024x3584 (extractStridedSlice S1x1024x3584 ![e, 0, 0] (val_main_v18 (F := Ideal) x3) hc) shapeCasts_S1x1024x3584_S1024x3584)
      (shapeCast S1024x3584 (extractStridedSlice S1x1024x3584 ![e, 0, 0] (val_main_v20 (F := Ideal) x4) hc) shapeCasts_S1x1024x3584_S1024x3584)
      (shapeCast S3584x1024 (extractStridedSlice S1x3584x1024 ![e, 0, 0] (val_main_v22 (F := Ideal) x5) hr) shapeCasts_S1x3584x1024_S3584x1024))

theorem term_apply (T : Tables) (x2 : (⟨S40960x1024, .f32⟩ : BufTy).Contents (Elt Ideal))
    (x3 x4 : (⟨S2x8x1024x3584, .f32⟩ : BufTy).Contents (Elt Ideal)) (x5 : (⟨S2x8x3584x1024, .f32⟩ : BufTy).Contents (Elt Ideal)) (e : Fin 8) (h hc hr)
    (r : Fin 40960) (d : Fin 1024) :
    @Eq EReal (term T.te T.nu x2 x3 x4 x5 e.val h hc hr (ix2 r d))
      (if e = T.expert ⟨r.val / 1024, by omega⟩ then (if r.val / 1024 < T.used then expertOut x2 x3 x4 x5 e r d else 0) else 0) := by
  have hg : @Eq EReal (broadcastInDim S40960x1024 ![0, 1] bcast_S40960x1_S40960x1024_0_1 (extractStridedSlice S40960x1 ![0, e.val] (val_main_v16 (F := Ideal) T.te T.nu) h) (ix2 r d))
      (if e = T.expert ⟨r.val / 1024, by omega⟩ ∧ r.val / 1024 < T.used then 1 else 0) := by
    refine (broadcastInDim_apply _ _ _ (ix2 r d) (ix2 r (0 : Fin 1)) fun a => ?_).trans
      ((extractStridedSlice_apply _ _ h _ (ix2 r e) fun a => ?_).trans (gate_apply T r e))
    · match a with
      | ⟨0, _⟩ => show r.val = if (40960 : Nat) = 1 then 0 else r.val; rw [if_neg (by decide)]
      | ⟨1, _⟩ => show 0 = if (1 : Nat) = 1 then 0 else d.val; rw [if_pos rfl]
    · match a with
      | ⟨0, _⟩ => show r.val = 0 + r.val; omega
      | ⟨1, _⟩ => show e.val = e.val + 0; omega
  have hs := swiglu_apply x2 (shapeCast S1024x3584 (extractStridedSlice S1x1024x3584 ![e.val, 0, 0] (val_main_v18 (F := Ideal) x3) hc) shapeCasts_S1x1024x3584_S1024x3584)
      (shapeCast S1024x3584 (extractStridedSlice S1x1024x3584 ![e.val, 0, 0] (val_main_v20 (F := Ideal) x4) hc) shapeCasts_S1x1024x3584_S1024x3584)
      (shapeCast S3584x1024 (extractStridedSlice S1x3584x1024 ![e.val, 0, 0] (val_main_v22 (F := Ideal) x5) hr) shapeCasts_S1x3584x1024_S3584x1024) r d
  have hw (k f) := (columns_apply e hc (val_main_v18 (F := Ideal) x3) k f).trans (second_gate x3 e k f)
  have hu (k f) := (columns_apply e hc (val_main_v20 (F := Ideal) x4) k f).trans (second_up x4 e k f)
  have hd (f) := (rows_apply e hr (val_main_v22 (F := Ideal) x5) f d).trans (second_down x5 e f d)
  simp only [hw, hu, hd] at hs
  refine (congrArg₂ (fun a b : EReal => a * b) hg hs).trans ?_
  by_cases h2 : e = T.expert ⟨r.val / 1024, by omega⟩ <;> by_cases h3 : r.val / 1024 < T.used <;> simp only [h2, h3, if_true, if_false, and_true, and_false, and_self, one_mul, zero_mul, expertOut]

/-- The reference's result at an index. -/
theorem value (T : Tables) (x2 : (⟨S40960x1024, .f32⟩ : BufTy).Contents (Elt Ideal))
    (x3 x4 : (⟨S2x8x1024x3584, .f32⟩ : BufTy).Contents (Elt Ideal)) (x5 : (⟨S2x8x3584x1024, .f32⟩ : BufTy).Contents (Elt Ideal))
    (r : Fin 40960) (d : Fin 1024) :
    @Eq EReal (val_main_v143 (F := Ideal) T.te T.nu x2 x3 x4 x5 (ix2 r d))
      (if r.val / 1024 < T.used then expertOut x2 x3 x4 x5 (T.expert ⟨r.val / 1024, by omega⟩) r d else 0) := by
  have h0 : @Eq EReal (val_main_v23 (F := Ideal) (ix2 r d)) 0 := by
    rw [val_main_v23_apply, val_main_cst_apply]; exact Ideal.ofBits_zero_f32
  have e0 : @Eq EReal (val_main_v37 (F := Ideal) T.te T.nu x2 x3 x4 x5 (ix2 r d)) _ := term_apply T x2 x3 x4 x5 0 slices_S40960x8_S40960x1_0_0 slices_S8x1024x3584_S1x1024x3584_0_0_0 slices_S8x3584x1024_S1x3584x1024_0_0_0 r d
  have e1 : @Eq EReal (val_main_v52 (F := Ideal) T.te T.nu x2 x3 x4 x5 (ix2 r d)) _ := term_apply T x2 x3 x4 x5 1 slices_S40960x8_S40960x1_0_1 slices_S8x1024x3584_S1x1024x3584_1_0_0 slices_S8x3584x1024_S1x3584x1024_1_0_0 r d
  have e2 : @Eq EReal (val_main_v67 (F := Ideal) T.te T.nu x2 x3 x4 x5 (ix2 r d)) _ := term_apply T x2 x3 x4 x5 2 slices_S40960x8_S40960x1_0_2 slices_S8x1024x3584_S1x1024x3584_2_0_0 slices_S8x3584x1024_S1x3584x1024_2_0_0 r d
  have e3 : @Eq EReal (val_main_v82 (F := Ideal) T.te T.nu x2 x3 x4 x5 (ix2 r d)) _ := term_apply T x2 x3 x4 x5 3 slices_S40960x8_S40960x1_0_3 slices_S8x1024x3584_S1x1024x3584_3_0_0 slices_S8x3584x1024_S1x3584x1024_3_0_0 r d
  have e4 : @Eq EReal (val_main_v97 (F := Ideal) T.te T.nu x2 x3 x4 x5 (ix2 r d)) _ := term_apply T x2 x3 x4 x5 4 slices_S40960x8_S40960x1_0_4 slices_S8x1024x3584_S1x1024x3584_4_0_0 slices_S8x3584x1024_S1x3584x1024_4_0_0 r d
  have e5 : @Eq EReal (val_main_v112 (F := Ideal) T.te T.nu x2 x3 x4 x5 (ix2 r d)) _ := term_apply T x2 x3 x4 x5 5 slices_S40960x8_S40960x1_0_5 slices_S8x1024x3584_S1x1024x3584_5_0_0 slices_S8x3584x1024_S1x3584x1024_5_0_0 r d
  have e6 : @Eq EReal (val_main_v127 (F := Ideal) T.te T.nu x2 x3 x4 x5 (ix2 r d)) _ := term_apply T x2 x3 x4 x5 6 slices_S40960x8_S40960x1_0_6 slices_S8x1024x3584_S1x1024x3584_6_0_0 slices_S8x3584x1024_S1x3584x1024_6_0_0 r d
  have e7 : @Eq EReal (val_main_v142 (F := Ideal) T.te T.nu x2 x3 x4 x5 (ix2 r d)) _ := term_apply T x2 x3 x4 x5 7 slices_S40960x8_S40960x1_0_7 slices_S8x1024x3584_S1x1024x3584_7_0_0 slices_S8x3584x1024_S1x3584x1024_7_0_0 r d
  rw [val_main_v143_apply, val_main_v128_apply, val_main_v113_apply, val_main_v98_apply, val_main_v83_apply, val_main_v68_apply, val_main_v53_apply, val_main_v38_apply]
  show @Eq EReal ((((((((val_main_v23 (F := Ideal) (ix2 r d) + val_main_v37 (F := Ideal) T.te T.nu x2 x3 x4 x5 (ix2 r d)) + val_main_v52 (F := Ideal) T.te T.nu x2 x3 x4 x5 (ix2 r d))
    + val_main_v67 (F := Ideal) T.te T.nu x2 x3 x4 x5 (ix2 r d)) + val_main_v82 (F := Ideal) T.te T.nu x2 x3 x4 x5 (ix2 r d)) + val_main_v97 (F := Ideal) T.te T.nu x2 x3 x4 x5 (ix2 r d))
    + val_main_v112 (F := Ideal) T.te T.nu x2 x3 x4 x5 (ix2 r d)) + val_main_v127 (F := Ideal) T.te T.nu x2 x3 x4 x5 (ix2 r d)) + val_main_v142 (F := Ideal) T.te T.nu x2 x3 x4 x5 (ix2 r d)) _
  rw [h0, zero_add, e0, e1, e2, e3, e4, e5, e6, e7]
  rw [← Fin.sum_univ_eight fun e : Fin 8 => if e = T.expert ⟨r.val / 1024, by omega⟩ then (if r.val / 1024 < T.used then expertOut x2 x3 x4 x5 e r d else 0) else (0 : EReal)]
  rw [Finset.sum_ite_eq' Finset.univ (T.expert ⟨r.val / 1024, by omega⟩) fun e => if r.val / 1024 < T.used then expertOut x2 x3 x4 x5 e r d else (0 : EReal), if_pos (Finset.mem_univ _)]

end Cert.Reference4Ideal.Experts

end
-- ==== Proof.LatentsClaim.lean ====
/- The second routed layer's experts, on the latents alone. The value claim of the experts' call: on tables of the stated range its result is the reference's. -/
module

public import proofs.«01_k».proof.Proof.LatentsBits
public import proofs.«01_k».proof.Proof.LatentsValue
public import proofs.«01_k».proof.Proof.LatentsRef
public import proofs.«01_k».proof.Proof.Gen.Reference4Ideal.Run
public import Idealize.ShloMosaic.Adequacy
public import Idealize.ShloMosaic.Init

@[expose] public section

set_option maxRecDepth 16384

noncomputable section

namespace Cert.Kernel4Ideal.Experts

open Cert.Kernel4Ideal Cert.Kernel4Ideal.Gen
open Idealize.ShloMosaic Idealize.ShloMosaic.TcCoe Idealize.SL.Sem

variable (T : Tables) (m : (ℓ : Loc nD τ sig) → Buf (Elt Ideal) ℓ) (ρ : Dev nD → PrngReg)

/-- The row's sum over its expert's hidden units is the reference's, the row read as a row of its tile. -/
theorem result_apply (c : Dev nD) (r : Fin 40960) (d : Fin 1024) : result T m c r d =
    if r.val / 1024 < T.used then Cert.Reference4Ideal.Experts.expertOut (m ((c : Thread nD τ).loc main_arg2)) (m ((c : Thread nD τ).loc main_arg3))
      (m ((c : Thread nD τ).loc main_arg4)) (m ((c : Thread nD τ).loc main_arg5)) (T.expert ⟨r.val / 1024, by omega⟩) r d else 0 := by
  have er : (⟨1024 * (r.val / 1024) + r.val % 1024, by omega⟩ : Fin 40960) = r := Fin.ext (Nat.div_add_mod _ _)
  have ex : rowsAt m c (⟨r.val / 1024, by omega⟩ : Fin 40) (⟨r.val % 1024, by omega⟩ : Fin 1024) = fun k => (m ((c : Thread nD τ).loc main_arg2) (ix2 r k) : EReal) :=
    funext fun k => by
      show m ((c : Thread nD τ).loc main_arg2) (ix2 (⟨1024 * (r.val / 1024) + r.val % 1024, _⟩ : Fin 40960) k) = _
      rw [er]
  unfold result
  refine congrArg (fun x : EReal => if r.val / 1024 < T.used then x else 0) ?_
  unfold Cert.Reference4Ideal.Experts.expertOut share
  rw [ex]

/-- The call's result array is the reference's result. -/
theorem arr_eq (c : Dev nD) : (dats T m ρ 0 c).arrAt (4 : Fin 5) (cfgT (F := Ideal) T).N =
    Cert.Reference4Ideal.Read.val_main_v143 (F := Ideal) T.te T.nu (m ((c : Thread nD τ).loc main_arg2)) (m ((c : Thread nD τ).loc main_arg3))
      (m ((c : Thread nD τ).loc main_arg4)) (m ((c : Thread nD τ).loc main_arg5)) := by
  rw [arr_result]
  funext i
  obtain ⟨r, d, rfl⟩ : ∃ (r : Fin 40960) (d : Fin 1024), i = (ix2 r d : S40960x1024.Idx) := ⟨i 0, i 1, eq_ix2 i⟩
  exact (result_apply T m c r d).trans (Cert.Reference4Ideal.Experts.value T _ _ _ _ r d).symm

/-- Every execution ends with the computed result, the argument arrays unchanged. -/
theorem value_run (hp : Holds T m) :
    θ_run (defs (F := Ideal)) (onTc (τ := τ) (main (F := Ideal))) ⟨m, fun _ => 0, ρ⟩ (fun r => ∀ c : Dev nD,
      r.2.mem ((c.tc : Thread nD τ).loc main_v0) = (dats T m ρ 0 c).arrAt (4 : Fin 5) (cfgT (F := Ideal) T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 (4 : Fin 5), ((h.1 c).2 0).trans (hp.1 c).symm, ((h.1 c).2 1).trans (hp.2 c).symm,
    ((h.1 c).1 (0 : Fin 5)).trans ((dats T m ρ 0 c).arrAt_in (0 : Fin 5) rfl _), ((h.1 c).1 (1 : Fin 5)).trans ((dats T m ρ 0 c).arrAt_in (1 : Fin 5) rfl _),
    ((h.1 c).1 (2 : Fin 5)).trans ((dats T m ρ 0 c).arrAt_in (2 : Fin 5) rfl _), ((h.1 c).1 (3 : Fin 5)).trans ((dats T m ρ 0 c).arrAt_in (3 : Fin 5) rfl _)⟩)
    (run_quiescent T m ρ hp)

/-- On tables of the stated range the call's result is the reference's. -/
theorem algebraic_experts : Cert.algebraic_Kernel4Ideal_Reference4Ideal (hKernel4Ideal := Cert.Kernel4Ideal.Gen.facts)
    (hReference4Ideal := Cert.Reference4Ideal.Gen.facts) (hPre_latent_tables := Cert.Pre_latent_tables.Gen.facts) := fun m ρ m' ρ' hpre hargs => by
  obtain ⟨T, hT⟩ := holds_of_pre m hpre
  refine ⟨fun c => (dats T m ρ 0 c).arrAt (4 : Fin 5) (cfgT (F := Ideal) T).N, value_run T m ρ hT, ?_⟩
  refine (θ_run Cert.Reference4Ideal.defs _ _).mono (fun r h c => ⟨(h c).1.trans ?_, (h c).2⟩) (Cert.Reference4Ideal.Value.run m' ρ')
  obtain ⟨e0, e1, e2, e3, e4, e5⟩ := hargs c
  refine (Cert.Reference4Ideal.Read.val_main_v143_eq _).trans (Eq.trans ?_ (arr_eq T m ρ c).symm)
  rw [← hT.1 c, ← hT.2 c, ← e0, ← e1, ← e2, ← e3, ← e4, ← e5]

/-- The experts' reference runs, leaves its arguments as they were and every counter at zero. -/
theorem quiescent_experts_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Kernel4Ideal.Experts

end
-- ==== Proof.lean ====
/- The proof of the certificate's claims. For the attention call, the experts' call in either routed layer and the dense network's call
   alike: each program runs and leaves its arguments as they were, and the idealized kernel is the kernel as printed. The attention's result is its
   reference's where every query and every key is a real number; the experts' is its reference's where the tables name experts and
   tiles that exist; the dense network's is its reference's whatever the arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Pre
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_tables
public import proofs.«01_k».proof.Proof.ExpertsBits
public import proofs.«01_k».proof.Proof.ExpertsClaim
public import proofs.«01_k».proof.Proof.Result
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.DenseClaim
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_latent_tables
public import proofs.«01_k».proof.Proof.LatentsBits
public import proofs.«01_k».proof.Proof.LatentsClaim
public import Idealize.ShloMosaic.Adequacy
public import Idealize.ShloMosaic.Init

@[expose] public section

noncomputable section

namespace Cert.Proof

open Idealize.ShloMosaic Idealize.SL.Sem Cert.Kernel

/-- The reference runs, leaves its arguments as they were and every counter at zero. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where every query and every key is a real number, the kernel's result is the reference's. -/
theorem algebraic : Cert.algebraic_KernelIdeal_ReferenceIdeal_pre_finite_scores := fun m ρ m' ρ' hpre hargs => by
  refine ⟨fun c => (Cert.KernelIdeal.Gen.dats m 0 c).arrAt 3 Cert.KernelIdeal.cfg0.N, Cert.KernelIdeal.Value.run_blocks m ρ, ?_⟩
  refine (θ_run Cert.ReferenceIdeal.defs _ _).mono (fun r h c => ⟨(h c).1.trans ?_, (h c).2⟩) (Cert.ReferenceIdeal.Value.run m' ρ')
  obtain ⟨e0, e1, e2⟩ := hargs c
  rw [Cert.ReferenceIdeal.Read.val_main_v40_eq, e0, e1, e2]
  exact (Cert.KernelIdeal.Attn.result_eq m c (fun i => (Cert.Pre_finite_scores.real_of_fn _ _ _ (hpre c) i).1)
    fun i => (Cert.Pre_finite_scores.real_of_fn _ _ _ (hpre c) i).2).symm

/-- Every claim of the certificate. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_scores.Gen.facts, Cert.Pre_tables.Gen.facts, Cert.Pre_latent_tables.Gen.facts,
  fun m ρ _ => Cert.Kernel.Gen.frame m ρ,
  fun m ρ _ => Cert.KernelIdeal.Gen.frame m ρ,
  fun m ρ _ => Cert.KernelIdeal.Gen.frame m ρ,
  quiescent_reference,
  fun m ρ _ => quiescent_reference m ρ trivial,
  Cert.Kernel2Ideal.Experts.quiescent_bits,
  Cert.Kernel2Ideal.Experts.quiescent_ideal,
  Cert.Kernel2Ideal.Experts.quiescent_experts_reference,
  fun m ρ _ => Cert.Kernel2Ideal.Experts.quiescent_experts_reference m ρ trivial,
  fun m ρ _ => Cert.Kernel3.Gen.frame m ρ,
  fun m ρ _ => Cert.Kernel3Ideal.Gen.frame m ρ,
  Cert.Kernel3Ideal.Dense.quiescent_dense_reference,
  Cert.Kernel4Ideal.Experts.quiescent_bits,
  Cert.Kernel4Ideal.Experts.quiescent_ideal,
  Cert.Kernel4Ideal.Experts.quiescent_experts_reference,
  fun m ρ _ => Cert.Kernel4Ideal.Experts.quiescent_experts_reference m ρ trivial,
  trivial,
  algebraic,
  trivial,
  Cert.Kernel2Ideal.Experts.algebraic_experts,
  trivial,
  Cert.Kernel3Ideal.Dense.algebraic_dense,
  trivial,
  Cert.Kernel4Ideal.Experts.algebraic_experts⟩

end Cert.Proof

end
